-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v144)) (v1 : (c : Dev Cert.KernelIdeal.nD) → Buf (Elt Ideal) ((c.tc : Thread Cert.KernelIdeal.nD Cert.KernelIdeal.τ).loc Cert.KernelIdeal.main_v143)) (v2 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v144) = v0 c
          ∧ r.2.mem ((c.tc : Thread Cert.KernelIdeal.nD Cert.KernelIdeal.τ).loc Cert.KernelIdeal.main_v143) = v1 c
          ∧ r.2.mem ((c.tc : Thread Cert.KernelIdeal.nD Cert.KernelIdeal.τ).loc Cert.KernelIdeal.main_v81) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x512 : Shape := ⟨2, ![1024, 512]⟩
abbrev S2x32768 : Shape := ⟨2, ![2, 32768]⟩
abbrev S32768 : Shape := ⟨1, ![32768]⟩
abbrev S7x512x512 : Shape := ⟨3, ![7, 512, 512]⟩
abbrev S512 : Shape := ⟨1, ![512]⟩
abbrev S2x512x512 : Shape := ⟨3, ![2, 512, 512]⟩
abbrev S3584x512 : Shape := ⟨2, ![3584, 512]⟩
abbrev S_ : Shape := ⟨0, ![]⟩

class Facts : Prop where
  bcast_S_S2x32768 : S_.BroadcastsInDim S2x32768 (![] : Fin 0 → Fin S2x32768.rank)
  reducesTo_S2x32768_S_d0_1 : S2x32768.ReducesTo [0, 1] S_
  h_S_ : 0 < S_.numel
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S1024x512 .f32) (main_arg1 : IVec S2x32768 32) (main_arg2 : IVec S32768 32) (main_arg3 : FVec F S32768 .f32) (main_arg4 : FVec F S7x512x512 .f32) (main_arg5 : FVec F S512 .f32) (main_arg6 : FVec F S512 .f32) (main_arg7 : FVec F S2x512x512 .f32) (main_arg8 : FVec F S2x512x512 .f32) (main_arg9 : FVec F S3584x512 .f32) (main_arg10 : FVec F S512 .f32) (main_arg11 : FVec F S512 .f32) (main_arg12 : FVec F S3584x512 .f32) (main_arg13 : FVec F S512 .f32) (main_arg14 : FVec F S512 .f32) (main_arg15 : FVec F S512 .f32) (main_arg16 : FVec F S512 .f32) : IVec S_ 1 :=
  let main_c : IVec S_ 32 := constantI S_ 32 0#32
  let main_v0 : IVec S2x32768 32 := broadcastInDim S2x32768 ![] bcast_S_S2x32768 main_c
  let main_v1 : IVec S2x32768 1 := cmpi .sge main_arg1 main_v0
  let main_c_0 : IVec S_ 32 := constantI S_ 32 1024#32
  let main_v2 : IVec S2x32768 32 := broadcastInDim S2x32768 ![] bcast_S_S2x32768 main_c_0
  let main_v3 : IVec S2x32768 1 := cmpi .slt main_arg1 main_v2
  let main_v4 : IVec S2x32768 1 := andi main_v1 main_v3
  let main_c_1 : IVec S_ 1 := constantI S_ 1 1#1
  let main_v5 : IVec S_ 1 := (fun x v => Host.reduce IntOp.andi x v reducesTo_S2x32768_S_d0_1 h_S_) main_v4 main_c_1
  let main_c_2 : IVec S_ 32 := constantI S_ 32 0#32
  let main_v6 : IVec S32768 32 := broadcastInDim S32768 ![] bcast_S_S32768 main_c_2
  let main_v7 : IVec S32768 1 := cmpi .sge main_arg2 main_v6
  let main_c_3 : IVec S_ 32 := constantI S_ 32 7#32
  let main_v8 : IVec S32768 32 := broadcastInDim S32768 ![] bcast_S_S32768 main_c_3
  let main_v9 : IVec S32768 1 := cmpi .slt main_arg2 main_v8
  let main_v10 : IVec S32768 1 := andi main_v7 main_v9
  let main_c_4 : IVec S_ 1 := constantI S_ 1 1#1
  let main_v11 : IVec S_ 1 := (fun x v => Host.reduce IntOp.andi x v reducesTo_S32768_S_d0 h_S_) main_v10 main_c_4
  let main_v12 : IVec S_ 1 := andi main_v5 main_v11
  main_v12
-- ==== Kernel.lean ====
abbrev S1024x512 : Shape := ⟨2, ![1024, 512]⟩
abbrev S2x32768 : Shape := ⟨2, ![2, 32768]⟩
abbrev S32768 : Shape := ⟨1, ![32768]⟩
abbrev S7x512x512 : Shape := ⟨3, ![7, 512, 512]⟩
abbrev S512 : Shape := ⟨1, ![512]⟩
abbrev S2x512x512 : Shape := ⟨3, ![2, 512, 512]⟩
abbrev S3584x512 : Shape := ⟨2, ![3584, 512]⟩
abbrev S1024x7168 : Shape := ⟨2, ![1024, 7168]⟩
abbrev S114688 : Shape := ⟨1, ![114688]⟩
abbrev S2048 : Shape := ⟨1, ![2048]⟩
abbrev S16 : Shape := ⟨1, ![16]⟩
abbrev S_ : Shape := ⟨0, ![]⟩
abbrev S1x2048 : Shape := ⟨2, ![1, 2048]⟩
abbrev S7168 : Shape := ⟨1, ![7168]⟩
abbrev S1x7168 : Shape := ⟨2, ![1, 7168]⟩
abbrev S1x32768 : Shape := ⟨2, ![1, 32768]⟩
abbrev S32768x1 : Shape := ⟨2, ![32768, 1]⟩
abbrev S32768x2 : Shape := ⟨2, ![32768, 2]⟩
abbrev S1024x7x1024 : Shape := ⟨3, ![1024, 7, 1024]⟩
abbrev S512x1024x7 : Shape := ⟨3, ![512, 1024, 7]⟩
abbrev S7x1024x512 : Shape := ⟨3, ![7, 1024, 512]⟩
abbrev S7x512 : Shape := ⟨2, ![7, 512]⟩
abbrev S7x1x512 : Shape := ⟨3, ![7, 1, 512]⟩
abbrev S1x1x512 : Shape := ⟨3, ![1, 1, 512]⟩
abbrev S2x1024x512 : Shape := ⟨3, ![2, 1024, 512]⟩
abbrev S2x1024x8x64 : Shape := ⟨4, ![2, 1024, 8, 64]⟩
abbrev S2x1024x1024 : Shape := ⟨3, ![2, 1024, 1024]⟩
abbrev S2x1024x32 : Shape := ⟨3, ![2, 1024, 32]⟩
abbrev S2x1024x1 : Shape := ⟨3, ![2, 1024, 1]⟩
abbrev S2x1024 : Shape := ⟨2, ![2, 1024]⟩
abbrev S1024x2x1024 : Shape := ⟨3, ![1024, 2, 1024]⟩
abbrev S1024x2048 : Shape := ⟨2, ![1024, 2048]⟩
abbrev S1024x5120 : Shape := ⟨2, ![1024, 5120]⟩
abbrev S1024x7x512 : Shape := ⟨3, ![1024, 7, 512]⟩
abbrev S1024x3584 : Shape := ⟨2, ![1024, 3584]⟩
abbrev S1x512 : Shape := ⟨2, ![1, 512]⟩

abbrev nBuf : Table → Nat
  | .hbm => 289
  | .local .scVector .vmem => 5
  | _ => 0

abbrev hbmTy0_0 (i : Nat) : BufTy := match i % 128 with
  | 0 => ⟨S1024x512, .f32⟩
  | 1 => ⟨S2x32768, .i32⟩
  | 2 => ⟨S32768, .i32⟩
  | 3 => ⟨S32768, .f32⟩
  | 4 => ⟨S7x512x512, .f32⟩
  | 5 => ⟨S512, .f32⟩
  | 6 => ⟨S512, .f32⟩
  | 7 => ⟨S2x512x512, .f32⟩
  | 8 => ⟨S2x512x512, .f32⟩
  | 9 => ⟨S3584x512, .f32⟩
  | 10 => ⟨S512, .f32⟩
  | 11 => ⟨S512, .f32⟩
  | 12 => ⟨S3584x512, .f32⟩
  | 13 => ⟨S512, .f32⟩
  | 14 => ⟨S512, .f32⟩
  | 15 => ⟨S512, .f32⟩
  | 16 => ⟨S512, .f32⟩
  | 17 => ⟨S1024x7168, .f32⟩
  | 18 => ⟨S_, .i32⟩
  | 19 => ⟨S32768, .i32⟩
  | 20 => ⟨S32768, .i32⟩
  | 21 => ⟨S1x32768, .i32⟩
  | 22 => ⟨S32768, .i32⟩
  | 23 => ⟨S32768, .i32⟩
  | 24 => ⟨S_, .f32⟩
  | 25 => ⟨S1024x7168, .f32⟩
  | 26 => ⟨S1x32768, .i32⟩
  | 27 => ⟨S32768, .i32⟩
  | 28 => ⟨S_, .i32⟩
  | 29 => ⟨S32768, .i32⟩
  | 30 => ⟨S32768, .i1⟩
  | 31 => ⟨S_, .i32⟩
  | 32 => ⟨S32768, .i32⟩
  | 33 => ⟨S32768, .i32⟩
  | 34 => ⟨S32768, .i32⟩
  | 35 => ⟨S_, .i32⟩
  | 36 => ⟨S32768, .i32⟩
  | 37 => ⟨S32768, .i1⟩
  | 38 => ⟨S_, .i32⟩
  | 39 => ⟨S32768, .i32⟩
  | 40 => ⟨S32768, .i32⟩
  | 41 => ⟨S32768, .i32⟩
  | 42 => ⟨S32768x1, .i32⟩
  | 43 => ⟨S32768x1, .i32⟩
  | 44 => ⟨S32768x2, .i32⟩
  | 45 => ⟨S1024x7168, .f32⟩
  | 46 => ⟨S1024x7x1024, .f32⟩
  | 47 => ⟨S512x1024x7, .f32⟩
  | 48 => ⟨S7x1024x512, .f32⟩
  | 49 => ⟨S7x1024x512, .f32⟩
  | 50 => ⟨S_, .f32⟩
  | 51 => ⟨S7x512, .f32⟩
  | 52 => ⟨S7x1x512, .f32⟩
  | 53 => ⟨S_, .f32⟩
  | 54 => ⟨S7x1x512, .f32⟩
  | 55 => ⟨S7x1x512, .f32⟩
  | 56 => ⟨S_, .i32⟩
  | 57 => ⟨S_, .f32⟩
  | 58 => ⟨S7x512, .f32⟩
  | 59 => ⟨S7x1x512, .f32⟩
  | 60 => ⟨S_, .f32⟩
  | 61 => ⟨S7x1x512, .f32⟩
  | 62 => ⟨S7x1x512, .f32⟩
  | 63 => ⟨S7x1024x512, .f32⟩
  | 64 => ⟨S7x1024x512, .f32⟩
  | 65 => ⟨S7x1024x512, .f32⟩
  | 66 => ⟨S_, .f32⟩
  | 67 => ⟨S_, .f32⟩
  | 68 => ⟨S_, .f32⟩
  | 69 => ⟨S_, .f32⟩
  | 70 => ⟨S7x512, .f32⟩
  | 71 => ⟨S7x1x512, .f32⟩
  | 72 => ⟨S7x1x512, .f32⟩
  | 73 => ⟨S7x1x512, .f32⟩
  | 74 => ⟨S_, .f32⟩
  | 75 => ⟨S_, .i1⟩
  | 76 => ⟨S_, .f32⟩
  | 77 => ⟨S_, .f32⟩
  | 78 => ⟨S7x1x512, .f32⟩
  | 79 => ⟨S7x1x512, .f32⟩
  | 80 => ⟨S7x1024x512, .f32⟩
  | 81 => ⟨S7x1024x512, .f32⟩
  | 82 => ⟨S1x1x512, .f32⟩
  | 83 => ⟨S7x1024x512, .f32⟩
  | 84 => ⟨S7x1024x512, .f32⟩
  | 85 => ⟨S_, .f32⟩
  | 86 => ⟨S7x1x512, .f32⟩
  | 87 => ⟨S7x1x512, .f32⟩
  | 88 => ⟨S7x1x512, .f32⟩
  | 89 => ⟨S7x1024x512, .f32⟩
  | 90 => ⟨S7x1024x512, .f32⟩
  | 91 => ⟨S1x1x512, .f32⟩
  | 92 => ⟨S7x1024x512, .f32⟩
  | 93 => ⟨S7x1024x512, .f32⟩
  | 94 => ⟨S_, .f32⟩
  | 95 => ⟨S7x1024x512, .f32⟩
  | 96 => ⟨S7x1024x512, .f32⟩
  | 97 => ⟨S2x1024x512, .f32⟩
  | 98 => ⟨S2x1024x512, .f32⟩
  | 99 => ⟨S2x1024x8x64, .f32⟩
  | 100 => ⟨S2x1024x512, .f32⟩
  | 101 => ⟨S2x1024x8x64, .f32⟩
  | 102 => ⟨S2x1024x1024, .f32⟩
  | 103 => ⟨S_, .f32⟩
  | 104 => ⟨S2x1024x1024, .f32⟩
  | 105 => ⟨S2x1024x1024, .f32⟩
  | 106 => ⟨S2x1024x32, .f32⟩
  | 107 => ⟨S2x1024x32, .i32⟩
  | 108 => ⟨S2x1024x1, .f32⟩
  | 109 => ⟨S2x1024x1024, .f32⟩
  | 110 => ⟨S2x1024x1024, .i1⟩
  | 111 => ⟨S_, .f32⟩
  | 112 => ⟨S2x1024x1024, .f32⟩
  | 113 => ⟨S2x1024x1024, .f32⟩
  | 114 => ⟨S_, .f32⟩
  | 115 => ⟨S_, .f32⟩
  | 116 => ⟨S2x1024x1024, .f32⟩
  | 117 => ⟨S2x1024x1024, .f32⟩
  | 118 => ⟨S_, .f32⟩
  | 119 => ⟨S2x1024, .f32⟩
  | 120 => ⟨S_, .f32⟩
  | 121 => ⟨S2x1024, .f32⟩
  | 122 => ⟨S2x1024, .f32⟩
  | 123 => ⟨S2x1024x1, .f32⟩
  | 124 => ⟨S2x1024x1024, .f32⟩
  | 125 => ⟨S2x1024x1024, .f32⟩
  | 126 => ⟨S2x1024x1024, .f32⟩
  | 127 => ⟨S_, .f32⟩
  | _ => ⟨S1024x512, .f32⟩

abbrev hbmTy0_1 (i : Nat) : BufTy := match i % 128 with
  | 0 => ⟨S2x1024, .f32⟩
  | 1 => ⟨S2x1024x1, .f32⟩
  | 2 => ⟨S2x1024x1024, .f32⟩
  | 3 => ⟨S2x1024x1024, .f32⟩
  | 4 => ⟨S1024x2x1024, .f32⟩
  | 5 => ⟨S1024x2048, .f32⟩
  | 6 => ⟨S1024x2048, .f32⟩
  | 7 => ⟨S1024x2048, .f32⟩
  | 8 => ⟨S1024x5120, .f32⟩
  | 9 => ⟨S1024x7168, .f32⟩
  | 10 => ⟨S1024x7x1024, .f32⟩
  | 11 => ⟨S1024x2048, .f32⟩
  | 12 => ⟨S1024x2048, .f32⟩
  | 13 => ⟨S1024x5120, .f32⟩
  | 14 => ⟨S1024x7168, .f32⟩
  | 15 => ⟨S1024x7x512, .f32⟩
  | 16 => ⟨S1024x3584, .f32⟩
  | 17 => ⟨S1024x512, .f32⟩
  | 18 => ⟨S_, .f32⟩
  | 19 => ⟨S512, .f32⟩
  | 20 => ⟨S1x512, .f32⟩
  | 21 => ⟨S_, .f32⟩
  | 22 => ⟨S1x512, .f32⟩
  | 23 => ⟨S1x512, .f32⟩
  | 24 => ⟨S_, .i32⟩
  | 25 => ⟨S_, .f32⟩
  | 26 => ⟨S512, .f32⟩
  | 27 => ⟨S1x512, .f32⟩
  | 28 => ⟨S_, .f32⟩
  | 29 => ⟨S1x512, .f32⟩
  | 30 => ⟨S1x512, .f32⟩
  | 31 => ⟨S1024x512, .f32⟩
  | 32 => ⟨S1024x512, .f32⟩
  | 33 => ⟨S1024x512, .f32⟩
  | 34 => ⟨S_, .f32⟩
  | 35 => ⟨S_, .f32⟩
  | 36 => ⟨S_, .f32⟩
  | 37 => ⟨S_, .f32⟩
  | 38 => ⟨S512, .f32⟩
  | 39 => ⟨S1x512, .f32⟩
  | 40 => ⟨S1x512, .f32⟩
  | 41 => ⟨S1x512, .f32⟩
  | 42 => ⟨S_, .f32⟩
  | 43 => ⟨S_, .i1⟩
  | 44 => ⟨S_, .f32⟩
  | 45 => ⟨S_, .f32⟩
  | 46 => ⟨S1x512, .f32⟩
  | 47 => ⟨S1x512, .f32⟩
  | 48 => ⟨S1024x512, .f32⟩
  | 49 => ⟨S1024x512, .f32⟩
  | 50 => ⟨S1x512, .f32⟩
  | 51 => ⟨S1024x512, .f32⟩
  | 52 => ⟨S1024x512, .f32⟩
  | 53 => ⟨S_, .f32⟩
  | 54 => ⟨S1x512, .f32⟩
  | 55 => ⟨S1x512, .f32⟩
  | 56 => ⟨S1x512, .f32⟩
  | 57 => ⟨S1024x512, .f32⟩
  | 58 => ⟨S1024x512, .f32⟩
  | 59 => ⟨S1x512, .f32⟩
  | 60 => ⟨S1024x512, .f32⟩
  | 61 => ⟨S1024x512, .f32⟩
  | 62 => ⟨S_, .f32⟩
  | 63 => ⟨S1024x512, .f32⟩
  | 64 => ⟨S1024x512, .f32⟩
  | 65 => ⟨S1024x7x512, .f32⟩
  | 66 => ⟨S1024x3584, .f32⟩
  | 67 => ⟨S1024x512, .f32⟩
  | 68 => ⟨S_, .f32⟩
  | 69 => ⟨S512, .f32⟩
  | 70 => ⟨S1x512, .f32⟩
  | 71 => ⟨S_, .f32⟩
  | 72 => ⟨S1x512, .f32⟩
  | 73 => ⟨S1x512, .f32⟩
  | 74 => ⟨S_, .i32⟩
  | 75 => ⟨S_, .f32⟩
  | 76 => ⟨S512, .f32⟩
  | 77 => ⟨S1x512, .f32⟩
  | 78 => ⟨S_, .f32⟩
  | 79 => ⟨S1x512, .f32⟩
  | 80 => ⟨S1x512, .f32⟩
  | 81 => ⟨S1024x512, .f32⟩
  | 82 => ⟨S1024x512, .f32⟩
  | 83 => ⟨S1024x512, .f32⟩
  | 84 => ⟨S_, .f32⟩
  | 85 => ⟨S_, .f32⟩
  | 86 => ⟨S_, .f32⟩
  | 87 => ⟨S_, .f32⟩
  | 88 => ⟨S512, .f32⟩
  | 89 => ⟨S1x512, .f32⟩
  | 90 => ⟨S1x512, .f32⟩
  | 91 => ⟨S1x512, .f32⟩
  | 92 => ⟨S_, .f32⟩
  | 93 => ⟨S_, .i1⟩
  | 94 => ⟨S_, .f32⟩
  | 95 => ⟨S_, .f32⟩
  | 96 => ⟨S1x512, .f32⟩
  | 97 => ⟨S1x512, .f32⟩
  | 98 => ⟨S1024x512, .f32⟩
  | 99 => ⟨S1024x512, .f32⟩
  | 100 => ⟨S1x512, .f32⟩
  | 101 => ⟨S1024x512, .f32⟩
  | 102 => ⟨S1024x512, .f32⟩
  | 103 => ⟨S_, .f32⟩
  | 104 => ⟨S1x512, .f32⟩
  | 105 => ⟨S1x512, .f32⟩
  | 106 => ⟨S1x512, .f32⟩
  | 107 => ⟨S1024x512, .f32⟩
  | 108 => ⟨S1024x512, .f32⟩
  | 109 => ⟨S1x512, .f32⟩
  | 110 => ⟨S1024x512, .f32⟩
  | 111 => ⟨S1024x512, .f32⟩
  | 112 => ⟨S_, .f32⟩
  | 113 => ⟨S1024x512, .f32⟩
  | 114 => ⟨S1024x512, .f32⟩
  | 115 => ⟨S_, .f32⟩
  | 116 => ⟨S512, .f32⟩
  | 117 => ⟨S1x512, .f32⟩
  | 118 => ⟨S_, .f32⟩
  | 119 => ⟨S1x512, .f32⟩
  | 120 => ⟨S1x512, .f32⟩
  | 121 => ⟨S_, .i32⟩
  | 122 => ⟨S_, .f32⟩
  | 123 => ⟨S512, .f32⟩
  | 124 => ⟨S1x512, .f32⟩
  | 125 => ⟨S_, .f32⟩
  | 126 => ⟨S1x512, .f32⟩
  | 127 => ⟨S1x512, .f32⟩
  | _ => ⟨S1024x512, .f32⟩

abbrev hbmTy0_2 (i : Nat) : BufTy := match i % 128 with
  | 0 => ⟨S1024x512, .f32⟩
  | 1 => ⟨S1024x512, .f32⟩
  | 2 => ⟨S1024x512, .f32⟩
  | 3 => ⟨S_, .f32⟩
  | 4 => ⟨S_, .f32⟩
  | 5 => ⟨S_, .f32⟩
  | 6 => ⟨S_, .f32⟩
  | 7 => ⟨S512, .f32⟩
  | 8 => ⟨S1x512, .f32⟩
  | 9 => ⟨S1x512, .f32⟩
  | 10 => ⟨S1x512, .f32⟩
  | 11 => ⟨S_, .f32⟩
  | 12 => ⟨S_, .i1⟩
  | 13 => ⟨S_, .f32⟩
  | 14 => ⟨S_, .f32⟩
  | 15 => ⟨S1x512, .f32⟩
  | 16 => ⟨S1x512, .f32⟩
  | 17 => ⟨S1024x512, .f32⟩
  | 18 => ⟨S1024x512, .f32⟩
  | 19 => ⟨S1x512, .f32⟩
  | 20 => ⟨S1024x512, .f32⟩
  | 21 => ⟨S1024x512, .f32⟩
  | 22 => ⟨S_, .f32⟩
  | 23 => ⟨S1x512, .f32⟩
  | 24 => ⟨S1x512, .f32⟩
  | 25 => ⟨S1x512, .f32⟩
  | 26 => ⟨S1024x512, .f32⟩
  | 27 => ⟨S1024x512, .f32⟩
  | 28 => ⟨S1x512, .f32⟩
  | 29 => ⟨S1024x512, .f32⟩
  | 30 => ⟨S1024x512, .f32⟩
  | 31 => ⟨S_, .f32⟩
  | 32 => ⟨S512, .f32⟩
  | _ => ⟨S1024x512, .f32⟩

abbrev hbmTy (i : Nat) : BufTy := match i / 128 with
  | 0 => hbmTy0_0 i
  | 1 => hbmTy0_1 i
  | 2 => hbmTy0_2 i
  | _ => ⟨S1024x512, .f32⟩

abbrev bufTy : (tb : Table) → Fin (nBuf tb) → BufTy
  | .hbm, ⟨i, _⟩ => hbmTy i
  | .local .scVector .vmem, ⟨0, _⟩ => ⟨S114688, .f32⟩
  | .local .scVector .vmem, ⟨1, _⟩ => ⟨S2048, .i32⟩
  | .local .scVector .vmem, ⟨2, _⟩ => ⟨S2048, .i32⟩
  | .local .scVector .vmem, ⟨3, _⟩ => ⟨S2048, .i32⟩
  | .local .scVector .vmem, ⟨4, _⟩ => ⟨S2048, .f32⟩
  | _, _ => ⟨S1024x512, .f32⟩

abbrev dmaSemScopedAt0_0 (i : Nat) : Bool := match i % 128 with
  | 0 => false
  | 1 => false
  | 2 => false
  | 3 => false
  | 4 => false
  | 5 => false
  | 6 => false
  | 7 => false
  | 8 => false
  | 9 => false
  | 10 => false
  | 11 => false
  | 12 => false
  | 13 => false
  | 14 => false
  | 15 => false
  | 16 => false
  | 17 => false
  | 18 => false
  | 19 => false
  | 20 => false
  | 21 => false
  | 22 => false
  | 23 => false
  | 24 => false
  | 25 => false
  | 26 => false
  | 27 => false
  | 28 => false
  | 29 => false
  | 30 => false
  | 31 => false
  | 32 => false
  | 33 => false
  | 34 => false
  | 35 => false
  | 36 => false
  | 37 => false
  | 38 => false
  | 39 => false
  | 40 => false
  | 41 => false
  | 42 => false
  | 43 => false
  | 44 => false
  | 45 => false
  | 46 => false
  | 47 => false
  | 48 => false
  | 49 => false
  | 50 => false
  | 51 => false
  | 52 => false
  | 53 => false
  | 54 => false
  | 55 => false
  | 56 => false
  | 57 => false
  | 58 => false
  | 59 => false
  | 60 => false
  | 61 => false
  | 62 => false
  | 63 => false
  | 64 => false
  | 65 => false
  | 66 => false
  | 67 => false
  | 68 => false
  | 69 => false
  | 70 => false
  | 71 => false
  | 72 => false
  | 73 => false
  | 74 => false
  | 75 => false
  | 76 => false
  | 77 => false
  | 78 => false
  | 79 => false
  | 80 => false
  | 81 => false
  | 82 => false
  | 83 => false
  | 84 => false
  | 85 => false
  | 86 => false
  | 87 => false
  | 88 => false
  | 89 => false
  | 90 => false
  | 91 => false
  | 92 => false
  | 93 => false
  | 94 => false
  | 95 => false
  | 96 => false
  | 97 => false
  | 98 => false
  | 99 => false
  | 100 => false
  | 101 => false
  | 102 => false
  | 103 => false
  | 104 => false
  | 105 => false
  | 106 => false
  | 107 => false
  | 108 => false
  | 109 => false
  | 110 => false
  | 111 => false
  | 112 => false
  | 113 => false
  | 114 => false
  | 115 => false
  | 116 => false
  | 117 => false
  | 118 => false
  | 119 => false
  | 120 => false
  | 121 => false
  | 122 => false
  | 123 => false
  | 124 => false
  | 125 => false
  | 126 => false
  | 127 => false
  | _ => false

abbrev dmaSemScopedAt0_1 (i : Nat) : Bool := match i % 128 with
  | 0 => false
  | 1 => false
  | 2 => false
  | 3 => false
  | 4 => false
  | 5 => false
  | 6 => false
  | 7 => false
  | 8 => false
  | 9 => false
  | 10 => false
  | 11 => false
  | 12 => false
  | 13 => false
  | 14 => false
  | 15 => false
  | 16 => false
  | 17 => false
  | 18 => false
  | 19 => false
  | 20 => false
  | 21 => false
  | 22 => false
  | 23 => false
  | 24 => false
  | 25 => false
  | 26 => false
  | 27 => false
  | 28 => false
  | 29 => false
  | 30 => false
  | 31 => false
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 160 → Bool
  | ⟨i, _⟩ => dmaSemScopedAt i

abbrev sig : RefSig :=
  ofTables nBuf rfl bufTy 4 160 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c_0 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_c_3 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_call0_cst : Ref sig .tc := ⟨.hbm, 57, rfl⟩
abbrev main_call0_v0 : Ref sig .tc := ⟨.hbm, 58, rfl⟩
abbrev main_call0_v1 : Ref sig .tc := ⟨.hbm, 59, rfl⟩
abbrev main_call0_cst_0 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_v7 : Ref sig .tc := ⟨.hbm, 66, rfl⟩
abbrev main_call0_cst_1 : Ref sig .tc := ⟨.hbm, 67, rfl⟩
abbrev main_call0_v8 : Ref sig .tc := ⟨.hbm, 68, rfl⟩
abbrev main_call0_cst_2 : Ref sig .tc := ⟨.hbm, 69, rfl⟩
abbrev main_call0_v9 : Ref sig .tc := ⟨.hbm, 70, rfl⟩
abbrev main_call0_v10 : Ref sig .tc := ⟨.hbm, 71, rfl⟩
abbrev main_call0_v11 : Ref sig .tc := ⟨.hbm, 72, rfl⟩
abbrev main_call0_v12 : Ref sig .tc := ⟨.hbm, 73, rfl⟩
abbrev main_call0_cst_3 : Ref sig .tc := ⟨.hbm, 74, rfl⟩
abbrev main_call0_v13 : Ref sig .tc := ⟨.hbm, 75, rfl⟩
abbrev main_call0_cst_4 : Ref sig .tc := ⟨.hbm, 76, rfl⟩
abbrev main_call0_call0_v0 : Ref sig .tc := ⟨.hbm, 77, rfl⟩
abbrev main_call0_call0_v1 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_cst_7 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_call1_cst : Ref sig .tc := ⟨.hbm, 94, rfl⟩
abbrev main_call1_v0 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_cst_8 : Ref sig .tc := ⟨.hbm, 103, rfl⟩
abbrev main_v52 : Ref sig .tc := ⟨.hbm, 104, rfl⟩
abbrev main_v53 : Ref sig .tc := ⟨.hbm, 105, rfl⟩
abbrev main_values : Ref sig .tc := ⟨.hbm, 106, rfl⟩
abbrev main_indices : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_cst_9 : Ref sig .tc := ⟨.hbm, 111, rfl⟩
abbrev main_v57 : Ref sig .tc := ⟨.hbm, 112, rfl⟩
abbrev main_v58 : Ref sig .tc := ⟨.hbm, 113, rfl⟩
abbrev main_cst_10 : Ref sig .tc := ⟨.hbm, 114, rfl⟩
abbrev main_call2_v0 : Ref sig .tc := ⟨.hbm, 115, rfl⟩
abbrev main_call2_v1 : Ref sig .tc := ⟨.hbm, 116, rfl⟩
abbrev main_v59 : Ref sig .tc := ⟨.hbm, 117, rfl⟩
abbrev main_cst_11 : Ref sig .tc := ⟨.hbm, 118, rfl⟩
abbrev main_v60 : Ref sig .tc := ⟨.hbm, 119, rfl⟩
abbrev main_cst_12 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_cst_13 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_cst_14 : Ref sig .tc := ⟨.hbm, 146, rfl⟩
abbrev main_v85 : Ref sig .tc := ⟨.hbm, 147, rfl⟩
abbrev main_v86 : Ref sig .tc := ⟨.hbm, 148, rfl⟩
abbrev main_cst_15 : Ref sig .tc := ⟨.hbm, 149, rfl⟩
abbrev main_v87 : Ref sig .tc := ⟨.hbm, 150, rfl⟩
abbrev main_v88 : Ref sig .tc := ⟨.hbm, 151, rfl⟩
abbrev main_c_16 : Ref sig .tc := ⟨.hbm, 152, rfl⟩
abbrev main_call3_cst : Ref sig .tc := ⟨.hbm, 153, rfl⟩
abbrev main_call3_v0 : Ref sig .tc := ⟨.hbm, 154, rfl⟩
abbrev main_call3_v1 : Ref sig .tc := ⟨.hbm, 155, rfl⟩
abbrev main_call3_cst_0 : Ref sig .tc := ⟨.hbm, 156, rfl⟩
abbrev main_call3_v2 : Ref sig .tc := ⟨.hbm, 157, rfl⟩
abbrev main_call3_v3 : Ref sig .tc := ⟨.hbm, 158, rfl⟩
abbrev main_call3_v4 : Ref sig .tc := ⟨.hbm, 159, rfl⟩
abbrev main_call3_v5 : Ref sig .tc := ⟨.hbm, 160, rfl⟩
abbrev main_call3_v6 : Ref sig .tc := ⟨.hbm, 161, rfl⟩
abbrev main_call3_v7 : Ref sig .tc := ⟨.hbm, 162, rfl⟩
abbrev main_call3_cst_1 : Ref sig .tc := ⟨.hbm, 163, rfl⟩
abbrev main_call3_v8 : Ref sig .tc := ⟨.hbm, 164, rfl⟩
abbrev main_call3_cst_2 : Ref sig .tc := ⟨.hbm, 165, rfl⟩
abbrev main_call3_v9 : Ref sig .tc := ⟨.hbm, 166, rfl⟩
abbrev main_call3_v10 : Ref sig .tc := ⟨.hbm, 167, rfl⟩
abbrev main_call3_v11 : Ref sig .tc := ⟨.hbm, 168, rfl⟩
abbrev main_call3_v12 : Ref sig .tc := ⟨.hbm, 169, rfl⟩
abbrev main_call3_cst_3 : Ref sig .tc := ⟨.hbm, 170, rfl⟩
abbrev main_call3_v13 : Ref sig .tc := ⟨.hbm, 171, rfl⟩
abbrev main_call3_cst_4 : Ref sig .tc := ⟨.hbm, 172, rfl⟩
abbrev main_call3_call0_v0 : Ref sig .tc := ⟨.hbm, 173, rfl⟩
abbrev main_call3_call0_v1 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_cst_17 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_call4_cst : Ref sig .tc := ⟨.hbm, 190, rfl⟩
abbrev main_call4_v0 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_cst_18 : Ref sig .tc := ⟨.hbm, 196, rfl⟩
abbrev main_v107 : Ref sig .tc := ⟨.hbm, 197, rfl⟩
abbrev main_v108 : Ref sig .tc := ⟨.hbm, 198, rfl⟩
abbrev main_cst_19 : Ref sig .tc := ⟨.hbm, 199, rfl⟩
abbrev main_v109 : Ref sig .tc := ⟨.hbm, 200, rfl⟩
abbrev main_v110 : Ref sig .tc := ⟨.hbm, 201, rfl⟩
abbrev main_c_20 : Ref sig .tc := ⟨.hbm, 202, rfl⟩
abbrev main_call5_cst : Ref sig .tc := ⟨.hbm, 203, rfl⟩
abbrev main_call5_v0 : Ref sig .tc := ⟨.hbm, 204, rfl⟩
abbrev main_call5_v1 : Ref sig .tc := ⟨.hbm, 205, rfl⟩
abbrev main_call5_cst_0 : Ref sig .tc := ⟨.hbm, 206, rfl⟩
abbrev main_call5_v2 : Ref sig .tc := ⟨.hbm, 207, rfl⟩
abbrev main_call5_v3 : Ref sig .tc := ⟨.hbm, 208, rfl⟩
abbrev main_call5_v4 : Ref sig .tc := ⟨.hbm, 209, rfl⟩
abbrev main_call5_v5 : Ref sig .tc := ⟨.hbm, 210, rfl⟩
abbrev main_call5_v6 : Ref sig .tc := ⟨.hbm, 211, rfl⟩
abbrev main_call5_v7 : Ref sig .tc := ⟨.hbm, 212, rfl⟩
abbrev main_call5_cst_1 : Ref sig .tc := ⟨.hbm, 213, rfl⟩
abbrev main_call5_v8 : Ref sig .tc := ⟨.hbm, 214, rfl⟩
abbrev main_call5_cst_2 : Ref sig .tc := ⟨.hbm, 215, rfl⟩
abbrev main_call5_v9 : Ref sig .tc := ⟨.hbm, 216, rfl⟩
abbrev main_call5_v10 : Ref sig .tc := ⟨.hbm, 217, rfl⟩
abbrev main_call5_v11 : Ref sig .tc := ⟨.hbm, 218, rfl⟩
abbrev main_call5_v12 : Ref sig .tc := ⟨.hbm, 219, rfl⟩
abbrev main_call5_cst_3 : Ref sig .tc := ⟨.hbm, 220, rfl⟩
abbrev main_call5_v13 : Ref sig .tc := ⟨.hbm, 221, rfl⟩
abbrev main_call5_cst_4 : Ref sig .tc := ⟨.hbm, 222, rfl⟩
abbrev main_call5_call0_v0 : Ref sig .tc := ⟨.hbm, 223, rfl⟩
abbrev main_call5_call0_v1 : Ref sig .tc := ⟨.hbm, 224, rfl⟩
abbrev main_v111 : Ref sig .tc := ⟨.hbm, 225, rfl⟩
abbrev main_v112 : Ref sig .tc := ⟨.hbm, 226, rfl⟩
abbrev main_v113 : Ref sig .tc := ⟨.hbm, 227, rfl⟩
abbrev main_v114 : Ref sig .tc := ⟨.hbm, 228, rfl⟩
abbrev main_v115 : Ref sig .tc := ⟨.hbm, 229, rfl⟩
abbrev main_v116 : Ref sig .tc := ⟨.hbm, 230, rfl⟩
abbrev main_cst_21 : Ref sig .tc := ⟨.hbm, 231, rfl⟩
abbrev main_v117 : Ref sig .tc := ⟨.hbm, 232, rfl⟩
abbrev main_v118 : Ref sig .tc := ⟨.hbm, 233, rfl⟩
abbrev main_v119 : Ref sig .tc := ⟨.hbm, 234, rfl⟩
abbrev main_v120 : Ref sig .tc := ⟨.hbm, 235, rfl⟩
abbrev main_v121 : Ref sig .tc := ⟨.hbm, 236, rfl⟩
abbrev main_v122 : Ref sig .tc := ⟨.hbm, 237, rfl⟩
abbrev main_v123 : Ref sig .tc := ⟨.hbm, 238, rfl⟩
abbrev main_v124 : Ref sig .tc := ⟨.hbm, 239, rfl⟩
abbrev main_call6_cst : Ref sig .tc := ⟨.hbm, 240, rfl⟩
abbrev main_call6_v0 : Ref sig .tc := ⟨.hbm, 241, rfl⟩
abbrev main_v125 : Ref sig .tc := ⟨.hbm, 242, rfl⟩
abbrev main_cst_22 : Ref sig .tc := ⟨.hbm, 243, rfl⟩
abbrev main_v126 : Ref sig .tc := ⟨.hbm, 244, rfl⟩
abbrev main_v127 : Ref sig .tc := ⟨.hbm, 245, rfl⟩
abbrev main_cst_23 : Ref sig .tc := ⟨.hbm, 246, rfl⟩
abbrev main_v128 : Ref sig .tc := ⟨.hbm, 247, rfl⟩
abbrev main_v129 : Ref sig .tc := ⟨.hbm, 248, rfl⟩
abbrev main_c_24 : Ref sig .tc := ⟨.hbm, 249, rfl⟩
abbrev main_call7_cst : Ref sig .tc := ⟨.hbm, 250, rfl⟩
abbrev main_call7_v0 : Ref sig .tc := ⟨.hbm, 251, rfl⟩
abbrev main_call7_v1 : Ref sig .tc := ⟨.hbm, 252, rfl⟩
abbrev main_call7_cst_0 : Ref sig .tc := ⟨.hbm, 253, rfl⟩
abbrev main_call7_v2 : Ref sig .tc := ⟨.hbm, 254, rfl⟩
abbrev main_call7_v3 : Ref sig .tc := ⟨.hbm, 255, rfl⟩
abbrev main_call7_v4 : Ref sig .tc := ⟨.hbm, 256, rfl⟩
abbrev main_call7_v5 : Ref sig .tc := ⟨.hbm, 257, rfl⟩
abbrev main_call7_v6 : Ref sig .tc := ⟨.hbm, 258, rfl⟩
abbrev main_call7_v7 : Ref sig .tc := ⟨.hbm, 259, rfl⟩
abbrev main_call7_cst_1 : Ref sig .tc := ⟨.hbm, 260, rfl⟩
abbrev main_call7_v8 : Ref sig .tc := ⟨.hbm, 261, rfl⟩
abbrev main_call7_cst_2 : Ref sig .tc := ⟨.hbm, 262, rfl⟩
abbrev main_call7_v9 : Ref sig .tc := ⟨.hbm, 263, rfl⟩
abbrev main_call7_v10 : Ref sig .tc := ⟨.hbm, 264, rfl⟩
abbrev main_call7_v11 : Ref sig .tc := ⟨.hbm, 265, rfl⟩
abbrev main_call7_v12 : Ref sig .tc := ⟨.hbm, 266, rfl⟩
abbrev main_call7_cst_3 : Ref sig .tc := ⟨.hbm, 267, rfl⟩
abbrev main_call7_v13 : Ref sig .tc := ⟨.hbm, 268, rfl⟩
abbrev main_call7_cst_4 : Ref sig .tc := ⟨.hbm, 269, rfl⟩
abbrev main_call7_call0_v0 : Ref sig .tc := ⟨.hbm, 270, rfl⟩
abbrev main_call7_call0_v1 : Ref sig .tc := ⟨.hbm, 271, rfl⟩
abbrev main_v130 : Ref sig .tc := ⟨.hbm, 272, rfl⟩
abbrev main_v131 : Ref sig .tc := ⟨.hbm, 273, rfl⟩
abbrev main_v132 : Ref sig .tc := ⟨.hbm, 274, rfl⟩
abbrev main_v133 : Ref sig .tc := ⟨.hbm, 275, rfl⟩
abbrev main_v134 : Ref sig .tc := ⟨.hbm, 276, rfl⟩
abbrev main_v135 : Ref sig .tc := ⟨.hbm, 277, rfl⟩
abbrev main_cst_25 : Ref sig .tc := ⟨.hbm, 278, rfl⟩
abbrev main_v136 : Ref sig .tc := ⟨.hbm, 279, rfl⟩
abbrev main_v137 : Ref sig .tc := ⟨.hbm, 280, rfl⟩
abbrev main_v138 : Ref sig .tc := ⟨.hbm, 281, rfl⟩
abbrev main_v139 : Ref sig .tc := ⟨.hbm, 282, rfl⟩
abbrev main_v140 : Ref sig .tc := ⟨.hbm, 283, rfl⟩
abbrev main_v141 : Ref sig .tc := ⟨.hbm, 284, rfl⟩
abbrev main_v142 : Ref sig .tc := ⟨.hbm, 285, rfl⟩
abbrev main_v143 : Ref sig .tc := ⟨.hbm, 286, rfl⟩
abbrev main_cst_26 : Ref sig .tc := ⟨.hbm, 287, rfl⟩
abbrev main_v144 : Ref sig .tc := ⟨.hbm, 288, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 17, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c896_i32 : BitVec 32 := 896#32
  let v5 : BitVec 32 := Scalar.addi c0_i32_1 c896_i32
  let c1_i32 : BitVec 32 := 1#32
  ⟨c0_i32_1, v5, c1_i32⟩
def k0_off1 (k0_t1 : Fin k0_t1_loop.trips) (c0_i32_252 : BitVec 32) : Fin 1 → Nat :=
  let c0_i32_1 : BitVec 32 := 0#32
  let c1_i32 : BitVec 32 := 1#32
  let arg11 : BitVec 32 := Scf.iv c0_i32_1 c1_i32 k0_t1
  let c128_i32 : BitVec 32 := 128#32
  let v107 : BitVec 32 := Scalar.muli arg11 c128_i32
  let v108 : BitVec 32 := Scalar.addi v107 c0_i32_252
  let v109 : Index := Scalar.indexCast v108
  ![v109.toNat]
@[reducible] def k0_t2_loop : Scf.Loop 32 :=
  let c0_i32_6 : BitVec 32 := 0#32
  let c32_i32 : BitVec 32 := 32#32
  let v7 : BitVec 32 := Scalar.addi c0_i32_6 c32_i32
  let c1_i32_7 : BitVec 32 := 1#32
  ⟨c0_i32_6, v7, c1_i32_7⟩
def k0_off2 (k0_t2 : Fin k0_t2_loop.trips) : Fin 1 → Nat :=
  let c0_i32_6 : BitVec 32 := 0#32
  let c1_i32_7 : BitVec 32 := 1#32
  let arg11 : BitVec 32 := Scf.iv c0_i32_6 c1_i32_7 k0_t2
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk1 (v131 : IVec S16 32) : Prop :=
  (∀ a x, ((![v131] : Fin 1 → IVec S16 32) a x).toNat < S114688.size a)
theorem k0_idx1_inb : ∀ (v131 : IVec S16 32) (k0_hw1 : k0_chk1 v131), ∀ a x, ((![v131] : Fin 1 → IVec S16 32) a x).toNat < S114688.size a := fun v131 k0_hw1 => k0_hw1
def k0_off3 (k0_t2 : Fin k0_t2_loop.trips) : Fin 1 → Nat :=
  let c0_i32_6 : BitVec 32 := 0#32
  let c1_i32_7 : BitVec 32 := 1#32
  let arg11 : BitVec 32 := Scf.iv c0_i32_6 c1_i32_7 k0_t2
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk2 (v155 : IVec S16 32) : Prop :=
  (∀ a x, ((![v155] : Fin 1 → IVec S16 32) a x).toNat < S114688.size a)
theorem k0_idx2_inb : ∀ (v155 : IVec S16 32) (k0_hw2 : k0_chk2 v155), ∀ a x, ((![v155] : Fin 1 → IVec S16 32) a x).toNat < S114688.size a := fun v155 k0_hw2 => k0_hw2
def k0_off4 (k0_t2 : Fin k0_t2_loop.trips) : Fin 1 → Nat :=
  let c0_i32_6 : BitVec 32 := 0#32
  let c1_i32_7 : BitVec 32 := 1#32
  let arg11 : BitVec 32 := Scf.iv c0_i32_6 c1_i32_7 k0_t2
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk3 (v179 : IVec S16 32) : Prop :=
  (∀ a x, ((![v179] : Fin 1 → IVec S16 32) a x).toNat < S114688.size a)
theorem k0_idx3_inb : ∀ (v179 : IVec S16 32) (k0_hw3 : k0_chk3 v179), ∀ a x, ((![v179] : Fin 1 → IVec S16 32) a x).toNat < S114688.size a := fun v179 k0_hw3 => k0_hw3
def k0_off5 (k0_t2 : Fin k0_t2_loop.trips) : Fin 1 → Nat :=
  let c0_i32_6 : BitVec 32 := 0#32
  let c1_i32_7 : BitVec 32 := 1#32
  let arg11 : BitVec 32 := Scf.iv c0_i32_6 c1_i32_7 k0_t2
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk4 (v203 : IVec S16 32) : Prop :=
  (∀ a x, ((![v203] : Fin 1 → IVec S16 32) a x).toNat < S114688.size a)
theorem k0_idx4_inb : ∀ (v203 : IVec S16 32) (k0_hw4 : k0_chk4 v203), ∀ a x, ((![v203] : Fin 1 → IVec S16 32) a x).toNat < S114688.size a := fun v203 k0_hw4 => k0_hw4
@[reducible] def k0_t3_loop : Scf.Loop 32 :=
  let c0_i32_12 : BitVec 32 := 0#32
  let c32_i32_13 : BitVec 32 := 32#32
  let v9 : BitVec 32 := Scalar.addi c0_i32_12 c32_i32_13
  let c1_i32_14 : BitVec 32 := 1#32
  ⟨c0_i32_12, v9, c1_i32_14⟩
def k0_off6 (k0_t3 : Fin k0_t3_loop.trips) : Fin 1 → Nat :=
  let c0_i32_12 : BitVec 32 := 0#32
  let c1_i32_14 : BitVec 32 := 1#32
  let arg11 : BitVec 32 := Scf.iv c0_i32_12 c1_i32_14 k0_t3
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk5 (v131 : IVec S16 32) : Prop :=
  (∀ a x, ((![v131] : Fin 1 → IVec S16 32) a x).toNat < S114688.size a)
theorem k0_idx5_inb : ∀ (v131 : IVec S16 32) (k0_hw5 : k0_chk5 v131), ∀ a x, ((![v131] : Fin 1 → IVec S16 32) a x).toNat < S114688.size a := fun v131 k0_hw5 => k0_hw5
def k0_off7 (k0_t3 : Fin k0_t3_loop.trips) : Fin 1 → Nat :=
  let c0_i32_12 : BitVec 32 := 0#32
  let c1_i32_14 : BitVec 32 := 1#32
  let arg11 : BitVec 32 := Scf.iv c0_i32_12 c1_i32_14 k0_t3
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk6 (v155 : IVec S16 32) : Prop :=
  (∀ a x, ((![v155] : Fin 1 → IVec S16 32) a x).toNat < S114688.size a)
theorem k0_idx6_inb : ∀ (v155 : IVec S16 32) (k0_hw6 : k0_chk6 v155), ∀ a x, ((![v155] : Fin 1 → IVec S16 32) a x).toNat < S114688.size a := fun v155 k0_hw6 => k0_hw6
def k0_off8 (k0_t3 : Fin k0_t3_loop.trips) : Fin 1 → Nat :=
  let c0_i32_12 : BitVec 32 := 0#32
  let c1_i32_14 : BitVec 32 := 1#32
  let arg11 : BitVec 32 := Scf.iv c0_i32_12 c1_i32_14 k0_t3
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk7 (v179 : IVec S16 32) : Prop :=
  (∀ a x, ((![v179] : Fin 1 → IVec S16 32) a x).toNat < S114688.size a)
theorem k0_idx7_inb : ∀ (v179 : IVec S16 32) (k0_hw7 : k0_chk7 v179), ∀ a x, ((![v179] : Fin 1 → IVec S16 32) a x).toNat < S114688.size a := fun v179 k0_hw7 => k0_hw7
def k0_off9 (k0_t3 : Fin k0_t3_loop.trips) : Fin 1 → Nat :=
  let c0_i32_12 : BitVec 32 := 0#32
  let c1_i32_14 : BitVec 32 := 1#32
  let arg11 : BitVec 32 := Scf.iv c0_i32_12 c1_i32_14 k0_t3
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk8 (v203 : IVec S16 32) : Prop :=
  (∀ a x, ((![v203] : Fin 1 → IVec S16 32) a x).toNat < S114688.size a)
theorem k0_idx8_inb : ∀ (v203 : IVec S16 32) (k0_hw8 : k0_chk8 v203), ∀ a x, ((![v203] : Fin 1 → IVec S16 32) a x).toNat < S114688.size a := fun v203 k0_hw8 => k0_hw8
@[reducible] def k0_t4_loop : Scf.Loop 32 :=
  let c0_i32_19 : BitVec 32 := 0#32
  let c32_i32_20 : BitVec 32 := 32#32
  let v11 : BitVec 32 := Scalar.addi c0_i32_19 c32_i32_20
  let c1_i32_21 : BitVec 32 := 1#32
  ⟨c0_i32_19, v11, c1_i32_21⟩
def k0_off10 (k0_t4 : Fin k0_t4_loop.trips) : Fin 1 → Nat :=
  let c0_i32_19 : BitVec 32 := 0#32
  let c1_i32_21 : BitVec 32 := 1#32
  let arg11 : BitVec 32 := Scf.iv c0_i32_19 c1_i32_21 k0_t4
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk9 (v131 : IVec S16 32) : Prop :=
  (∀ a x, ((![v131] : Fin 1 → IVec S16 32) a x).toNat < S114688.size a)
theorem k0_idx9_inb : ∀ (v131 : IVec S16 32) (k0_hw9 : k0_chk9 v131), ∀ a x, ((![v131] : Fin 1 → IVec S16 32) a x).toNat < S114688.size a := fun v131 k0_hw9 => k0_hw9
def k0_off11 (k0_t4 : Fin k0_t4_loop.trips) : Fin 1 → Nat :=
  let c0_i32_19 : BitVec 32 := 0#32
  let c1_i32_21 : BitVec 32 := 1#32
  let arg11 : BitVec 32 := Scf.iv c0_i32_19 c1_i32_21 k0_t4
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk10 (v155 : IVec S16 32) : Prop :=
  (∀ a x, ((![v155] : Fin 1 → IVec S16 32) a x).toNat < S114688.size a)
theorem k0_idx10_inb : ∀ (v155 : IVec S16 32) (k0_hw10 : k0_chk10 v155), ∀ a x, ((![v155] : Fin 1 → IVec S16 32) a x).toNat < S114688.size a := fun v155 k0_hw10 => k0_hw10
def k0_off12 (k0_t4 : Fin k0_t4_loop.trips) : Fin 1 → Nat :=
  let c0_i32_19 : BitVec 32 := 0#32
  let c1_i32_21 : BitVec 32 := 1#32
  let arg11 : BitVec 32 := Scf.iv c0_i32_19 c1_i32_21 k0_t4
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk11 (v179 : IVec S16 32) : Prop :=
  (∀ a x, ((![v179] : Fin 1 → IVec S16 32) a x).toNat < S114688.size a)
theorem k0_idx11_inb : ∀ (v179 : IVec S16 32) (k0_hw11 : k0_chk11 v179), ∀ a x, ((![v179] : Fin 1 → IVec S16 32) a x).toNat < S114688.size a := fun v179 k0_hw11 => k0_hw11
def k0_off13 (k0_t4 : Fin k0_t4_loop.trips) : Fin 1 → Nat :=
  let c0_i32_19 : BitVec 32 := 0#32
  let c1_i32_21 : BitVec 32 := 1#32
  let arg11 : BitVec 32 := Scf.iv c0_i32_19 c1_i32_21 k0_t4
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk12 (v203 : IVec S16 32) : Prop :=
  (∀ a x, ((![v203] : Fin 1 → IVec S16 32) a x).toNat < S114688.size a)
theorem k0_idx12_inb : ∀ (v203 : IVec S16 32) (k0_hw12 : k0_chk12 v203), ∀ a x, ((![v203] : Fin 1 → IVec S16 32) a x).toNat < S114688.size a := fun v203 k0_hw12 => k0_hw12
@[reducible] def k0_t5_loop : Scf.Loop 32 :=
  let c0_i32_26 : BitVec 32 := 0#32
  let c32_i32_27 : BitVec 32 := 32#32
  let v13 : BitVec 32 := Scalar.addi c0_i32_26 c32_i32_27
  let c1_i32_28 : BitVec 32 := 1#32
  ⟨c0_i32_26, v13, c1_i32_28⟩
def k0_off14 (k0_t5 : Fin k0_t5_loop.trips) : Fin 1 → Nat :=
  let c0_i32_26 : BitVec 32 := 0#32
  let c1_i32_28 : BitVec 32 := 1#32
  let arg11 : BitVec 32 := Scf.iv c0_i32_26 c1_i32_28 k0_t5
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk13 (v131 : IVec S16 32) : Prop :=
  (∀ a x, ((![v131] : Fin 1 → IVec S16 32) a x).toNat < S114688.size a)
theorem k0_idx13_inb : ∀ (v131 : IVec S16 32) (k0_hw13 : k0_chk13 v131), ∀ a x, ((![v131] : Fin 1 → IVec S16 32) a x).toNat < S114688.size a := fun v131 k0_hw13 => k0_hw13
def k0_off15 (k0_t5 : Fin k0_t5_loop.trips) : Fin 1 → Nat :=
  let c0_i32_26 : BitVec 32 := 0#32
  let c1_i32_28 : BitVec 32 := 1#32
  let arg11 : BitVec 32 := Scf.iv c0_i32_26 c1_i32_28 k0_t5
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk14 (v155 : IVec S16 32) : Prop :=
  (∀ a x, ((![v155] : Fin 1 → IVec S16 32) a x).toNat < S114688.size a)
theorem k0_idx14_inb : ∀ (v155 : IVec S16 32) (k0_hw14 : k0_chk14 v155), ∀ a x, ((![v155] : Fin 1 → IVec S16 32) a x).toNat < S114688.size a := fun v155 k0_hw14 => k0_hw14
def k0_off16 (k0_t5 : Fin k0_t5_loop.trips) : Fin 1 → Nat :=
  let c0_i32_26 : BitVec 32 := 0#32
  let c1_i32_28 : BitVec 32 := 1#32
  let arg11 : BitVec 32 := Scf.iv c0_i32_26 c1_i32_28 k0_t5
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk15 (v179 : IVec S16 32) : Prop :=
  (∀ a x, ((![v179] : Fin 1 → IVec S16 32) a x).toNat < S114688.size a)
theorem k0_idx15_inb : ∀ (v179 : IVec S16 32) (k0_hw15 : k0_chk15 v179), ∀ a x, ((![v179] : Fin 1 → IVec S16 32) a x).toNat < S114688.size a := fun v179 k0_hw15 => k0_hw15
def k0_off17 (k0_t5 : Fin k0_t5_loop.trips) : Fin 1 → Nat :=
  let c0_i32_26 : BitVec 32 := 0#32
  let c1_i32_28 : BitVec 32 := 1#32
  let arg11 : BitVec 32 := Scf.iv c0_i32_26 c1_i32_28 k0_t5
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk16 (v203 : IVec S16 32) : Prop :=
  (∀ a x, ((![v203] : Fin 1 → IVec S16 32) a x).toNat < S114688.size a)
theorem k0_idx16_inb : ∀ (v203 : IVec S16 32) (k0_hw16 : k0_chk16 v203), ∀ a x, ((![v203] : Fin 1 → IVec S16 32) a x).toNat < S114688.size a := fun v203 k0_hw16 => k0_hw16
@[reducible] def k0_t6_loop : Scf.Loop 32 :=
  let c0_i32_33 : BitVec 32 := 0#32
  let c32_i32_34 : BitVec 32 := 32#32
  let v15 : BitVec 32 := Scalar.addi c0_i32_33 c32_i32_34
  let c1_i32_35 : BitVec 32 := 1#32
  ⟨c0_i32_33, v15, c1_i32_35⟩
def k0_off18 (k0_t6 : Fin k0_t6_loop.trips) : Fin 1 → Nat :=
  let c0_i32_33 : BitVec 32 := 0#32
  let c1_i32_35 : BitVec 32 := 1#32
  let arg11 : BitVec 32 := Scf.iv c0_i32_33 c1_i32_35 k0_t6
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk17 (v131 : IVec S16 32) : Prop :=
  (∀ a x, ((![v131] : Fin 1 → IVec S16 32) a x).toNat < S114688.size a)
theorem k0_idx17_inb : ∀ (v131 : IVec S16 32) (k0_hw17 : k0_chk17 v131), ∀ a x, ((![v131] : Fin 1 → IVec S16 32) a x).toNat < S114688.size a := fun v131 k0_hw17 => k0_hw17
def k0_off19 (k0_t6 : Fin k0_t6_loop.trips) : Fin 1 → Nat :=
  let c0_i32_33 : BitVec 32 := 0#32
  let c1_i32_35 : BitVec 32 := 1#32
  let arg11 : BitVec 32 := Scf.iv c0_i32_33 c1_i32_35 k0_t6
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk18 (v155 : IVec S16 32) : Prop :=
  (∀ a x, ((![v155] : Fin 1 → IVec S16 32) a x).toNat < S114688.size a)
theorem k0_idx18_inb : ∀ (v155 : IVec S16 32) (k0_hw18 : k0_chk18 v155), ∀ a x, ((![v155] : Fin 1 → IVec S16 32) a x).toNat < S114688.size a := fun v155 k0_hw18 => k0_hw18
def k0_off20 (k0_t6 : Fin k0_t6_loop.trips) : Fin 1 → Nat :=
  let c0_i32_33 : BitVec 32 := 0#32
  let c1_i32_35 : BitVec 32 := 1#32
  let arg11 : BitVec 32 := Scf.iv c0_i32_33 c1_i32_35 k0_t6
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk19 (v179 : IVec S16 32) : Prop :=
  (∀ a x, ((![v179] : Fin 1 → IVec S16 32) a x).toNat < S114688.size a)
theorem k0_idx19_inb : ∀ (v179 : IVec S16 32) (k0_hw19 : k0_chk19 v179), ∀ a x, ((![v179] : Fin 1 → IVec S16 32) a x).toNat < S114688.size a := fun v179 k0_hw19 => k0_hw19
def k0_off21 (k0_t6 : Fin k0_t6_loop.trips) : Fin 1 → Nat :=
  let c0_i32_33 : BitVec 32 := 0#32
  let c1_i32_35 : BitVec 32 := 1#32
  let arg11 : BitVec 32 := Scf.iv c0_i32_33 c1_i32_35 k0_t6
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk20 (v203 : IVec S16 32) : Prop :=
  (∀ a x, ((![v203] : Fin 1 → IVec S16 32) a x).toNat < S114688.size a)
theorem k0_idx20_inb : ∀ (v203 : IVec S16 32) (k0_hw20 : k0_chk20 v203), ∀ a x, ((![v203] : Fin 1 → IVec S16 32) a x).toNat < S114688.size a := fun v203 k0_hw20 => k0_hw20
@[reducible] def k0_t7_loop : Scf.Loop 32 :=
  let c0_i32_40 : BitVec 32 := 0#32
  let c32_i32_41 : BitVec 32 := 32#32
  let v17 : BitVec 32 := Scalar.addi c0_i32_40 c32_i32_41
  let c1_i32_42 : BitVec 32 := 1#32
  ⟨c0_i32_40, v17, c1_i32_42⟩
def k0_off22 (k0_t7 : Fin k0_t7_loop.trips) : Fin 1 → Nat :=
  let c0_i32_40 : BitVec 32 := 0#32
  let c1_i32_42 : BitVec 32 := 1#32
  let arg11 : BitVec 32 := Scf.iv c0_i32_40 c1_i32_42 k0_t7
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk21 (v131 : IVec S16 32) : Prop :=
  (∀ a x, ((![v131] : Fin 1 → IVec S16 32) a x).toNat < S114688.size a)
theorem k0_idx21_inb : ∀ (v131 : IVec S16 32) (k0_hw21 : k0_chk21 v131), ∀ a x, ((![v131] : Fin 1 → IVec S16 32) a x).toNat < S114688.size a := fun v131 k0_hw21 => k0_hw21
def k0_off23 (k0_t7 : Fin k0_t7_loop.trips) : Fin 1 → Nat :=
  let c0_i32_40 : BitVec 32 := 0#32
  let c1_i32_42 : BitVec 32 := 1#32
  let arg11 : BitVec 32 := Scf.iv c0_i32_40 c1_i32_42 k0_t7
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk22 (v155 : IVec S16 32) : Prop :=
  (∀ a x, ((![v155] : Fin 1 → IVec S16 32) a x).toNat < S114688.size a)
theorem k0_idx22_inb : ∀ (v155 : IVec S16 32) (k0_hw22 : k0_chk22 v155), ∀ a x, ((![v155] : Fin 1 → IVec S16 32) a x).toNat < S114688.size a := fun v155 k0_hw22 => k0_hw22
def k0_off24 (k0_t7 : Fin k0_t7_loop.trips) : Fin 1 → Nat :=
  let c0_i32_40 : BitVec 32 := 0#32
  let c1_i32_42 : BitVec 32 := 1#32
  let arg11 : BitVec 32 := Scf.iv c0_i32_40 c1_i32_42 k0_t7
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk23 (v179 : IVec S16 32) : Prop :=
  (∀ a x, ((![v179] : Fin 1 → IVec S16 32) a x).toNat < S114688.size a)
theorem k0_idx23_inb : ∀ (v179 : IVec S16 32) (k0_hw23 : k0_chk23 v179), ∀ a x, ((![v179] : Fin 1 → IVec S16 32) a x).toNat < S114688.size a := fun v179 k0_hw23 => k0_hw23
def k0_off25 (k0_t7 : Fin k0_t7_loop.trips) : Fin 1 → Nat :=
  let c0_i32_40 : BitVec 32 := 0#32
  let c1_i32_42 : BitVec 32 := 1#32
  let arg11 : BitVec 32 := Scf.iv c0_i32_40 c1_i32_42 k0_t7
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk24 (v203 : IVec S16 32) : Prop :=
  (∀ a x, ((![v203] : Fin 1 → IVec S16 32) a x).toNat < S114688.size a)
theorem k0_idx24_inb : ∀ (v203 : IVec S16 32) (k0_hw24 : k0_chk24 v203), ∀ a x, ((![v203] : Fin 1 → IVec S16 32) a x).toNat < S114688.size a := fun v203 k0_hw24 => k0_hw24
@[reducible] def k0_t8_loop : Scf.Loop 32 :=
  let c0_i32_47 : BitVec 32 := 0#32
  let c32_i32_48 : BitVec 32 := 32#32
  let v19 : BitVec 32 := Scalar.addi c0_i32_47 c32_i32_48
  let c1_i32_49 : BitVec 32 := 1#32
  ⟨c0_i32_47, v19, c1_i32_49⟩
def k0_off26 (k0_t8 : Fin k0_t8_loop.trips) : Fin 1 → Nat :=
  let c0_i32_47 : BitVec 32 := 0#32
  let c1_i32_49 : BitVec 32 := 1#32
  let arg11 : BitVec 32 := Scf.iv c0_i32_47 c1_i32_49 k0_t8
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk25 (v131 : IVec S16 32) : Prop :=
  (∀ a x, ((![v131] : Fin 1 → IVec S16 32) a x).toNat < S114688.size a)
theorem k0_idx25_inb : ∀ (v131 : IVec S16 32) (k0_hw25 : k0_chk25 v131), ∀ a x, ((![v131] : Fin 1 → IVec S16 32) a x).toNat < S114688.size a := fun v131 k0_hw25 => k0_hw25
def k0_off27 (k0_t8 : Fin k0_t8_loop.trips) : Fin 1 → Nat :=
  let c0_i32_47 : BitVec 32 := 0#32
  let c1_i32_49 : BitVec 32 := 1#32
  let arg11 : BitVec 32 := Scf.iv c0_i32_47 c1_i32_49 k0_t8
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk26 (v155 : IVec S16 32) : Prop :=
  (∀ a x, ((![v155] : Fin 1 → IVec S16 32) a x).toNat < S114688.size a)
theorem k0_idx26_inb : ∀ (v155 : IVec S16 32) (k0_hw26 : k0_chk26 v155), ∀ a x, ((![v155] : Fin 1 → IVec S16 32) a x).toNat < S114688.size a := fun v155 k0_hw26 => k0_hw26
def k0_off28 (k0_t8 : Fin k0_t8_loop.trips) : Fin 1 → Nat :=
  let c0_i32_47 : BitVec 32 := 0#32
  let c1_i32_49 : BitVec 32 := 1#32
  let arg11 : BitVec 32 := Scf.iv c0_i32_47 c1_i32_49 k0_t8
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk27 (v179 : IVec S16 32) : Prop :=
  (∀ a x, ((![v179] : Fin 1 → IVec S16 32) a x).toNat < S114688.size a)
theorem k0_idx27_inb : ∀ (v179 : IVec S16 32) (k0_hw27 : k0_chk27 v179), ∀ a x, ((![v179] : Fin 1 → IVec S16 32) a x).toNat < S114688.size a := fun v179 k0_hw27 => k0_hw27
def k0_off29 (k0_t8 : Fin k0_t8_loop.trips) : Fin 1 → Nat :=
  let c0_i32_47 : BitVec 32 := 0#32
  let c1_i32_49 : BitVec 32 := 1#32
  let arg11 : BitVec 32 := Scf.iv c0_i32_47 c1_i32_49 k0_t8
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk28 (v203 : IVec S16 32) : Prop :=
  (∀ a x, ((![v203] : Fin 1 → IVec S16 32) a x).toNat < S114688.size a)
theorem k0_idx28_inb : ∀ (v203 : IVec S16 32) (k0_hw28 : k0_chk28 v203), ∀ a x, ((![v203] : Fin 1 → IVec S16 32) a x).toNat < S114688.size a := fun v203 k0_hw28 => k0_hw28
@[reducible] def k0_t9_loop : Scf.Loop 32 :=
  let c0_i32_54 : BitVec 32 := 0#32
  let c32_i32_55 : BitVec 32 := 32#32
  let v21 : BitVec 32 := Scalar.addi c0_i32_54 c32_i32_55
  let c1_i32_56 : BitVec 32 := 1#32
  ⟨c0_i32_54, v21, c1_i32_56⟩
def k0_off30 (k0_t9 : Fin k0_t9_loop.trips) : Fin 1 → Nat :=
  let c0_i32_54 : BitVec 32 := 0#32
  let c1_i32_56 : BitVec 32 := 1#32
  let arg11 : BitVec 32 := Scf.iv c0_i32_54 c1_i32_56 k0_t9
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk29 (v131 : IVec S16 32) : Prop :=
  (∀ a x, ((![v131] : Fin 1 → IVec S16 32) a x).toNat < S114688.size a)
theorem k0_idx29_inb : ∀ (v131 : IVec S16 32) (k0_hw29 : k0_chk29 v131), ∀ a x, ((![v131] : Fin 1 → IVec S16 32) a x).toNat < S114688.size a := fun v131 k0_hw29 => k0_hw29
def k0_off31 (k0_t9 : Fin k0_t9_loop.trips) : Fin 1 → Nat :=
  let c0_i32_54 : BitVec 32 := 0#32
  let c1_i32_56 : BitVec 32 := 1#32
  let arg11 : BitVec 32 := Scf.iv c0_i32_54 c1_i32_56 k0_t9
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk30 (v155 : IVec S16 32) : Prop :=
  (∀ a x, ((![v155] : Fin 1 → IVec S16 32) a x).toNat < S114688.size a)
theorem k0_idx30_inb : ∀ (v155 : IVec S16 32) (k0_hw30 : k0_chk30 v155), ∀ a x, ((![v155] : Fin 1 → IVec S16 32) a x).toNat < S114688.size a := fun v155 k0_hw30 => k0_hw30
def k0_off32 (k0_t9 : Fin k0_t9_loop.trips) : Fin 1 → Nat :=
  let c0_i32_54 : BitVec 32 := 0#32
  let c1_i32_56 : BitVec 32 := 1#32
  let arg11 : BitVec 32 := Scf.iv c0_i32_54 c1_i32_56 k0_t9
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk31 (v179 : IVec S16 32) : Prop :=
  (∀ a x, ((![v179] : Fin 1 → IVec S16 32) a x).toNat < S114688.size a)
theorem k0_idx31_inb : ∀ (v179 : IVec S16 32) (k0_hw31 : k0_chk31 v179), ∀ a x, ((![v179] : Fin 1 → IVec S16 32) a x).toNat < S114688.size a := fun v179 k0_hw31 => k0_hw31
def k0_off33 (k0_t9 : Fin k0_t9_loop.trips) : Fin 1 → Nat :=
  let c0_i32_54 : BitVec 32 := 0#32
  let c1_i32_56 : BitVec 32 := 1#32
  let arg11 : BitVec 32 := Scf.iv c0_i32_54 c1_i32_56 k0_t9
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk32 (v203 : IVec S16 32) : Prop :=
  (∀ a x, ((![v203] : Fin 1 → IVec S16 32) a x).toNat < S114688.size a)
theorem k0_idx32_inb : ∀ (v203 : IVec S16 32) (k0_hw32 : k0_chk32 v203), ∀ a x, ((![v203] : Fin 1 → IVec S16 32) a x).toNat < S114688.size a := fun v203 k0_hw32 => k0_hw32
@[reducible] def k0_t10_loop : Scf.Loop 32 :=
  let c0_i32_61 : BitVec 32 := 0#32
  let c32_i32_62 : BitVec 32 := 32#32
  let v23 : BitVec 32 := Scalar.addi c0_i32_61 c32_i32_62
  let c1_i32_63 : BitVec 32 := 1#32
  ⟨c0_i32_61, v23, c1_i32_63⟩
def k0_off34 (k0_t10 : Fin k0_t10_loop.trips) : Fin 1 → Nat :=
  let c0_i32_61 : BitVec 32 := 0#32
  let c1_i32_63 : BitVec 32 := 1#32
  let arg11 : BitVec 32 := Scf.iv c0_i32_61 c1_i32_63 k0_t10
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk33 (v131 : IVec S16 32) : Prop :=
  (∀ a x, ((![v131] : Fin 1 → IVec S16 32) a x).toNat < S114688.size a)
theorem k0_idx33_inb : ∀ (v131 : IVec S16 32) (k0_hw33 : k0_chk33 v131), ∀ a x, ((![v131] : Fin 1 → IVec S16 32) a x).toNat < S114688.size a := fun v131 k0_hw33 => k0_hw33
def k0_off35 (k0_t10 : Fin k0_t10_loop.trips) : Fin 1 → Nat :=
  let c0_i32_61 : BitVec 32 := 0#32
  let c1_i32_63 : BitVec 32 := 1#32
  let arg11 : BitVec 32 := Scf.iv c0_i32_61 c1_i32_63 k0_t10
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk34 (v155 : IVec S16 32) : Prop :=
  (∀ a x, ((![v155] : Fin 1 → IVec S16 32) a x).toNat < S114688.size a)
theorem k0_idx34_inb : ∀ (v155 : IVec S16 32) (k0_hw34 : k0_chk34 v155), ∀ a x, ((![v155] : Fin 1 → IVec S16 32) a x).toNat < S114688.size a := fun v155 k0_hw34 => k0_hw34
def k0_off36 (k0_t10 : Fin k0_t10_loop.trips) : Fin 1 → Nat :=
  let c0_i32_61 : BitVec 32 := 0#32
  let c1_i32_63 : BitVec 32 := 1#32
  let arg11 : BitVec 32 := Scf.iv c0_i32_61 c1_i32_63 k0_t10
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk35 (v179 : IVec S16 32) : Prop :=
  (∀ a x, ((![v179] : Fin 1 → IVec S16 32) a x).toNat < S114688.size a)
theorem k0_idx35_inb : ∀ (v179 : IVec S16 32) (k0_hw35 : k0_chk35 v179), ∀ a x, ((![v179] : Fin 1 → IVec S16 32) a x).toNat < S114688.size a := fun v179 k0_hw35 => k0_hw35
def k0_off37 (k0_t10 : Fin k0_t10_loop.trips) : Fin 1 → Nat :=
  let c0_i32_61 : BitVec 32 := 0#32
  let c1_i32_63 : BitVec 32 := 1#32
  let arg11 : BitVec 32 := Scf.iv c0_i32_61 c1_i32_63 k0_t10
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk36 (v203 : IVec S16 32) : Prop :=
  (∀ a x, ((![v203] : Fin 1 → IVec S16 32) a x).toNat < S114688.size a)
theorem k0_idx36_inb : ∀ (v203 : IVec S16 32) (k0_hw36 : k0_chk36 v203), ∀ a x, ((![v203] : Fin 1 → IVec S16 32) a x).toNat < S114688.size a := fun v203 k0_hw36 => k0_hw36
@[reducible] def k0_t11_loop : Scf.Loop 32 :=
  let c0_i32_68 : BitVec 32 := 0#32
  let c32_i32_69 : BitVec 32 := 32#32
  let v25 : BitVec 32 := Scalar.addi c0_i32_68 c32_i32_69
  let c1_i32_70 : BitVec 32 := 1#32
  ⟨c0_i32_68, v25, c1_i32_70⟩
def k0_off38 (k0_t11 : Fin k0_t11_loop.trips) : Fin 1 → Nat :=
  let c0_i32_68 : BitVec 32 := 0#32
  let c1_i32_70 : BitVec 32 := 1#32
  let arg11 : BitVec 32 := Scf.iv c0_i32_68 c1_i32_70 k0_t11
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk37 (v131 : IVec S16 32) : Prop :=
  (∀ a x, ((![v131] : Fin 1 → IVec S16 32) a x).toNat < S114688.size a)
theorem k0_idx37_inb : ∀ (v131 : IVec S16 32) (k0_hw37 : k0_chk37 v131), ∀ a x, ((![v131] : Fin 1 → IVec S16 32) a x).toNat < S114688.size a := fun v131 k0_hw37 => k0_hw37
def k0_off39 (k0_t11 : Fin k0_t11_loop.trips) : Fin 1 → Nat :=
  let c0_i32_68 : BitVec 32 := 0#32
  let c1_i32_70 : BitVec 32 := 1#32
  let arg11 : BitVec 32 := Scf.iv c0_i32_68 c1_i32_70 k0_t11
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk38 (v155 : IVec S16 32) : Prop :=
  (∀ a x, ((![v155] : Fin 1 → IVec S16 32) a x).toNat < S114688.size a)
theorem k0_idx38_inb : ∀ (v155 : IVec S16 32) (k0_hw38 : k0_chk38 v155), ∀ a x, ((![v155] : Fin 1 → IVec S16 32) a x).toNat < S114688.size a := fun v155 k0_hw38 => k0_hw38
def k0_off40 (k0_t11 : Fin k0_t11_loop.trips) : Fin 1 → Nat :=
  let c0_i32_68 : BitVec 32 := 0#32
  let c1_i32_70 : BitVec 32 := 1#32
  let arg11 : BitVec 32 := Scf.iv c0_i32_68 c1_i32_70 k0_t11
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk39 (v179 : IVec S16 32) : Prop :=
  (∀ a x, ((![v179] : Fin 1 → IVec S16 32) a x).toNat < S114688.size a)
theorem k0_idx39_inb : ∀ (v179 : IVec S16 32) (k0_hw39 : k0_chk39 v179), ∀ a x, ((![v179] : Fin 1 → IVec S16 32) a x).toNat < S114688.size a := fun v179 k0_hw39 => k0_hw39
def k0_off41 (k0_t11 : Fin k0_t11_loop.trips) : Fin 1 → Nat :=
  let c0_i32_68 : BitVec 32 := 0#32
  let c1_i32_70 : BitVec 32 := 1#32
  let arg11 : BitVec 32 := Scf.iv c0_i32_68 c1_i32_70 k0_t11
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk40 (v203 : IVec S16 32) : Prop :=
  (∀ a x, ((![v203] : Fin 1 → IVec S16 32) a x).toNat < S114688.size a)
theorem k0_idx40_inb : ∀ (v203 : IVec S16 32) (k0_hw40 : k0_chk40 v203), ∀ a x, ((![v203] : Fin 1 → IVec S16 32) a x).toNat < S114688.size a := fun v203 k0_hw40 => k0_hw40
@[reducible] def k0_t12_loop : Scf.Loop 32 :=
  let c0_i32_75 : BitVec 32 := 0#32
  let c32_i32_76 : BitVec 32 := 32#32
  let v27 : BitVec 32 := Scalar.addi c0_i32_75 c32_i32_76
  let c1_i32_77 : BitVec 32 := 1#32
  ⟨c0_i32_75, v27, c1_i32_77⟩
def k0_off42 (k0_t12 : Fin k0_t12_loop.trips) : Fin 1 → Nat :=
  let c0_i32_75 : BitVec 32 := 0#32
  let c1_i32_77 : BitVec 32 := 1#32
  let arg11 : BitVec 32 := Scf.iv c0_i32_75 c1_i32_77 k0_t12
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk41 (v131 : IVec S16 32) : Prop :=
  (∀ a x, ((![v131] : Fin 1 → IVec S16 32) a x).toNat < S114688.size a)
theorem k0_idx41_inb : ∀ (v131 : IVec S16 32) (k0_hw41 : k0_chk41 v131), ∀ a x, ((![v131] : Fin 1 → IVec S16 32) a x).toNat < S114688.size a := fun v131 k0_hw41 => k0_hw41
def k0_off43 (k0_t12 : Fin k0_t12_loop.trips) : Fin 1 → Nat :=
  let c0_i32_75 : BitVec 32 := 0#32
  let c1_i32_77 : BitVec 32 := 1#32
  let arg11 : BitVec 32 := Scf.iv c0_i32_75 c1_i32_77 k0_t12
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk42 (v155 : IVec S16 32) : Prop :=
  (∀ a x, ((![v155] : Fin 1 → IVec S16 32) a x).toNat < S114688.size a)
theorem k0_idx42_inb : ∀ (v155 : IVec S16 32) (k0_hw42 : k0_chk42 v155), ∀ a x, ((![v155] : Fin 1 → IVec S16 32) a x).toNat < S114688.size a := fun v155 k0_hw42 => k0_hw42
def k0_off44 (k0_t12 : Fin k0_t12_loop.trips) : Fin 1 → Nat :=
  let c0_i32_75 : BitVec 32 := 0#32
  let c1_i32_77 : BitVec 32 := 1#32
  let arg11 : BitVec 32 := Scf.iv c0_i32_75 c1_i32_77 k0_t12
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk43 (v179 : IVec S16 32) : Prop :=
  (∀ a x, ((![v179] : Fin 1 → IVec S16 32) a x).toNat < S114688.size a)
theorem k0_idx43_inb : ∀ (v179 : IVec S16 32) (k0_hw43 : k0_chk43 v179), ∀ a x, ((![v179] : Fin 1 → IVec S16 32) a x).toNat < S114688.size a := fun v179 k0_hw43 => k0_hw43
def k0_off45 (k0_t12 : Fin k0_t12_loop.trips) : Fin 1 → Nat :=
  let c0_i32_75 : BitVec 32 := 0#32
  let c1_i32_77 : BitVec 32 := 1#32
  let arg11 : BitVec 32 := Scf.iv c0_i32_75 c1_i32_77 k0_t12
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk44 (v203 : IVec S16 32) : Prop :=
  (∀ a x, ((![v203] : Fin 1 → IVec S16 32) a x).toNat < S114688.size a)
theorem k0_idx44_inb : ∀ (v203 : IVec S16 32) (k0_hw44 : k0_chk44 v203), ∀ a x, ((![v203] : Fin 1 → IVec S16 32) a x).toNat < S114688.size a := fun v203 k0_hw44 => k0_hw44
@[reducible] def k0_t13_loop : Scf.Loop 32 :=
  let c0_i32_82 : BitVec 32 := 0#32
  let c32_i32_83 : BitVec 32 := 32#32
  let v29 : BitVec 32 := Scalar.addi c0_i32_82 c32_i32_83
  let c1_i32_84 : BitVec 32 := 1#32
  ⟨c0_i32_82, v29, c1_i32_84⟩
def k0_off46 (k0_t13 : Fin k0_t13_loop.trips) : Fin 1 → Nat :=
  let c0_i32_82 : BitVec 32 := 0#32
  let c1_i32_84 : BitVec 32 := 1#32
  let arg11 : BitVec 32 := Scf.iv c0_i32_82 c1_i32_84 k0_t13
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk45 (v131 : IVec S16 32) : Prop :=
  (∀ a x, ((![v131] : Fin 1 → IVec S16 32) a x).toNat < S114688.size a)
theorem k0_idx45_inb : ∀ (v131 : IVec S16 32) (k0_hw45 : k0_chk45 v131), ∀ a x, ((![v131] : Fin 1 → IVec S16 32) a x).toNat < S114688.size a := fun v131 k0_hw45 => k0_hw45
def k0_off47 (k0_t13 : Fin k0_t13_loop.trips) : Fin 1 → Nat :=
  let c0_i32_82 : BitVec 32 := 0#32
  let c1_i32_84 : BitVec 32 := 1#32
  let arg11 : BitVec 32 := Scf.iv c0_i32_82 c1_i32_84 k0_t13
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk46 (v155 : IVec S16 32) : Prop :=
  (∀ a x, ((![v155] : Fin 1 → IVec S16 32) a x).toNat < S114688.size a)
theorem k0_idx46_inb : ∀ (v155 : IVec S16 32) (k0_hw46 : k0_chk46 v155), ∀ a x, ((![v155] : Fin 1 → IVec S16 32) a x).toNat < S114688.size a := fun v155 k0_hw46 => k0_hw46
def k0_off48 (k0_t13 : Fin k0_t13_loop.trips) : Fin 1 → Nat :=
  let c0_i32_82 : BitVec 32 := 0#32
  let c1_i32_84 : BitVec 32 := 1#32
  let arg11 : BitVec 32 := Scf.iv c0_i32_82 c1_i32_84 k0_t13
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk47 (v179 : IVec S16 32) : Prop :=
  (∀ a x, ((![v179] : Fin 1 → IVec S16 32) a x).toNat < S114688.size a)
theorem k0_idx47_inb : ∀ (v179 : IVec S16 32) (k0_hw47 : k0_chk47 v179), ∀ a x, ((![v179] : Fin 1 → IVec S16 32) a x).toNat < S114688.size a := fun v179 k0_hw47 => k0_hw47
def k0_off49 (k0_t13 : Fin k0_t13_loop.trips) : Fin 1 → Nat :=
  let c0_i32_82 : BitVec 32 := 0#32
  let c1_i32_84 : BitVec 32 := 1#32
  let arg11 : BitVec 32 := Scf.iv c0_i32_82 c1_i32_84 k0_t13
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk48 (v203 : IVec S16 32) : Prop :=
  (∀ a x, ((![v203] : Fin 1 → IVec S16 32) a x).toNat < S114688.size a)
theorem k0_idx48_inb : ∀ (v203 : IVec S16 32) (k0_hw48 : k0_chk48 v203), ∀ a x, ((![v203] : Fin 1 → IVec S16 32) a x).toNat < S114688.size a := fun v203 k0_hw48 => k0_hw48
@[reducible] def k0_t14_loop : Scf.Loop 32 :=
  let c0_i32_89 : BitVec 32 := 0#32
  let c32_i32_90 : BitVec 32 := 32#32
  let v31 : BitVec 32 := Scalar.addi c0_i32_89 c32_i32_90
  let c1_i32_91 : BitVec 32 := 1#32
  ⟨c0_i32_89, v31, c1_i32_91⟩
def k0_off50 (k0_t14 : Fin k0_t14_loop.trips) : Fin 1 → Nat :=
  let c0_i32_89 : BitVec 32 := 0#32
  let c1_i32_91 : BitVec 32 := 1#32
  let arg11 : BitVec 32 := Scf.iv c0_i32_89 c1_i32_91 k0_t14
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk49 (v131 : IVec S16 32) : Prop :=
  (∀ a x, ((![v131] : Fin 1 → IVec S16 32) a x).toNat < S114688.size a)
theorem k0_idx49_inb : ∀ (v131 : IVec S16 32) (k0_hw49 : k0_chk49 v131), ∀ a x, ((![v131] : Fin 1 → IVec S16 32) a x).toNat < S114688.size a := fun v131 k0_hw49 => k0_hw49
def k0_off51 (k0_t14 : Fin k0_t14_loop.trips) : Fin 1 → Nat :=
  let c0_i32_89 : BitVec 32 := 0#32
  let c1_i32_91 : BitVec 32 := 1#32
  let arg11 : BitVec 32 := Scf.iv c0_i32_89 c1_i32_91 k0_t14
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk50 (v155 : IVec S16 32) : Prop :=
  (∀ a x, ((![v155] : Fin 1 → IVec S16 32) a x).toNat < S114688.size a)
theorem k0_idx50_inb : ∀ (v155 : IVec S16 32) (k0_hw50 : k0_chk50 v155), ∀ a x, ((![v155] : Fin 1 → IVec S16 32) a x).toNat < S114688.size a := fun v155 k0_hw50 => k0_hw50
def k0_off52 (k0_t14 : Fin k0_t14_loop.trips) : Fin 1 → Nat :=
  let c0_i32_89 : BitVec 32 := 0#32
  let c1_i32_91 : BitVec 32 := 1#32
  let arg11 : BitVec 32 := Scf.iv c0_i32_89 c1_i32_91 k0_t14
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk51 (v179 : IVec S16 32) : Prop :=
  (∀ a x, ((![v179] : Fin 1 → IVec S16 32) a x).toNat < S114688.size a)
theorem k0_idx51_inb : ∀ (v179 : IVec S16 32) (k0_hw51 : k0_chk51 v179), ∀ a x, ((![v179] : Fin 1 → IVec S16 32) a x).toNat < S114688.size a := fun v179 k0_hw51 => k0_hw51
def k0_off53 (k0_t14 : Fin k0_t14_loop.trips) : Fin 1 → Nat :=
  let c0_i32_89 : BitVec 32 := 0#32
  let c1_i32_91 : BitVec 32 := 1#32
  let arg11 : BitVec 32 := Scf.iv c0_i32_89 c1_i32_91 k0_t14
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk52 (v203 : IVec S16 32) : Prop :=
  (∀ a x, ((![v203] : Fin 1 → IVec S16 32) a x).toNat < S114688.size a)
theorem k0_idx52_inb : ∀ (v203 : IVec S16 32) (k0_hw52 : k0_chk52 v203), ∀ a x, ((![v203] : Fin 1 → IVec S16 32) a x).toNat < S114688.size a := fun v203 k0_hw52 => k0_hw52
@[reducible] def k0_t15_loop : Scf.Loop 32 :=
  let c0_i32_96 : BitVec 32 := 0#32
  let c32_i32_97 : BitVec 32 := 32#32
  let v33 : BitVec 32 := Scalar.addi c0_i32_96 c32_i32_97
  let c1_i32_98 : BitVec 32 := 1#32
  ⟨c0_i32_96, v33, c1_i32_98⟩
def k0_off54 (k0_t15 : Fin k0_t15_loop.trips) : Fin 1 → Nat :=
  let c0_i32_96 : BitVec 32 := 0#32
  let c1_i32_98 : BitVec 32 := 1#32
  let arg11 : BitVec 32 := Scf.iv c0_i32_96 c1_i32_98 k0_t15
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk53 (v131 : IVec S16 32) : Prop :=
  (∀ a x, ((![v131] : Fin 1 → IVec S16 32) a x).toNat < S114688.size a)
theorem k0_idx53_inb : ∀ (v131 : IVec S16 32) (k0_hw53 : k0_chk53 v131), ∀ a x, ((![v131] : Fin 1 → IVec S16 32) a x).toNat < S114688.size a := fun v131 k0_hw53 => k0_hw53
def k0_off55 (k0_t15 : Fin k0_t15_loop.trips) : Fin 1 → Nat :=
  let c0_i32_96 : BitVec 32 := 0#32
  let c1_i32_98 : BitVec 32 := 1#32
  let arg11 : BitVec 32 := Scf.iv c0_i32_96 c1_i32_98 k0_t15
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk54 (v155 : IVec S16 32) : Prop :=
  (∀ a x, ((![v155] : Fin 1 → IVec S16 32) a x).toNat < S114688.size a)
theorem k0_idx54_inb : ∀ (v155 : IVec S16 32) (k0_hw54 : k0_chk54 v155), ∀ a x, ((![v155] : Fin 1 → IVec S16 32) a x).toNat < S114688.size a := fun v155 k0_hw54 => k0_hw54
def k0_off56 (k0_t15 : Fin k0_t15_loop.trips) : Fin 1 → Nat :=
  let c0_i32_96 : BitVec 32 := 0#32
  let c1_i32_98 : BitVec 32 := 1#32
  let arg11 : BitVec 32 := Scf.iv c0_i32_96 c1_i32_98 k0_t15
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk55 (v179 : IVec S16 32) : Prop :=
  (∀ a x, ((![v179] : Fin 1 → IVec S16 32) a x).toNat < S114688.size a)
theorem k0_idx55_inb : ∀ (v179 : IVec S16 32) (k0_hw55 : k0_chk55 v179), ∀ a x, ((![v179] : Fin 1 → IVec S16 32) a x).toNat < S114688.size a := fun v179 k0_hw55 => k0_hw55
def k0_off57 (k0_t15 : Fin k0_t15_loop.trips) : Fin 1 → Nat :=
  let c0_i32_96 : BitVec 32 := 0#32
  let c1_i32_98 : BitVec 32 := 1#32
  let arg11 : BitVec 32 := Scf.iv c0_i32_96 c1_i32_98 k0_t15
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk56 (v203 : IVec S16 32) : Prop :=
  (∀ a x, ((![v203] : Fin 1 → IVec S16 32) a x).toNat < S114688.size a)
theorem k0_idx56_inb : ∀ (v203 : IVec S16 32) (k0_hw56 : k0_chk56 v203), ∀ a x, ((![v203] : Fin 1 → IVec S16 32) a x).toNat < S114688.size a := fun v203 k0_hw56 => k0_hw56
@[reducible] def k0_t16_loop : Scf.Loop 32 :=
  let c0_i32_103 : BitVec 32 := 0#32
  let c32_i32_104 : BitVec 32 := 32#32
  let v35 : BitVec 32 := Scalar.addi c0_i32_103 c32_i32_104
  let c1_i32_105 : BitVec 32 := 1#32
  ⟨c0_i32_103, v35, c1_i32_105⟩
def k0_off58 (k0_t16 : Fin k0_t16_loop.trips) : Fin 1 → Nat :=
  let c0_i32_103 : BitVec 32 := 0#32
  let c1_i32_105 : BitVec 32 := 1#32
  let arg11 : BitVec 32 := Scf.iv c0_i32_103 c1_i32_105 k0_t16
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk57 (v131 : IVec S16 32) : Prop :=
  (∀ a x, ((![v131] : Fin 1 → IVec S16 32) a x).toNat < S114688.size a)
theorem k0_idx57_inb : ∀ (v131 : IVec S16 32) (k0_hw57 : k0_chk57 v131), ∀ a x, ((![v131] : Fin 1 → IVec S16 32) a x).toNat < S114688.size a := fun v131 k0_hw57 => k0_hw57
def k0_off59 (k0_t16 : Fin k0_t16_loop.trips) : Fin 1 → Nat :=
  let c0_i32_103 : BitVec 32 := 0#32
  let c1_i32_105 : BitVec 32 := 1#32
  let arg11 : BitVec 32 := Scf.iv c0_i32_103 c1_i32_105 k0_t16
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk58 (v155 : IVec S16 32) : Prop :=
  (∀ a x, ((![v155] : Fin 1 → IVec S16 32) a x).toNat < S114688.size a)
theorem k0_idx58_inb : ∀ (v155 : IVec S16 32) (k0_hw58 : k0_chk58 v155), ∀ a x, ((![v155] : Fin 1 → IVec S16 32) a x).toNat < S114688.size a := fun v155 k0_hw58 => k0_hw58
def k0_off60 (k0_t16 : Fin k0_t16_loop.trips) : Fin 1 → Nat :=
  let c0_i32_103 : BitVec 32 := 0#32
  let c1_i32_105 : BitVec 32 := 1#32
  let arg11 : BitVec 32 := Scf.iv c0_i32_103 c1_i32_105 k0_t16
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk59 (v179 : IVec S16 32) : Prop :=
  (∀ a x, ((![v179] : Fin 1 → IVec S16 32) a x).toNat < S114688.size a)
theorem k0_idx59_inb : ∀ (v179 : IVec S16 32) (k0_hw59 : k0_chk59 v179), ∀ a x, ((![v179] : Fin 1 → IVec S16 32) a x).toNat < S114688.size a := fun v179 k0_hw59 => k0_hw59
def k0_off61 (k0_t16 : Fin k0_t16_loop.trips) : Fin 1 → Nat :=
  let c0_i32_103 : BitVec 32 := 0#32
  let c1_i32_105 : BitVec 32 := 1#32
  let arg11 : BitVec 32 := Scf.iv c0_i32_103 c1_i32_105 k0_t16
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk60 (v203 : IVec S16 32) : Prop :=
  (∀ a x, ((![v203] : Fin 1 → IVec S16 32) a x).toNat < S114688.size a)
theorem k0_idx60_inb : ∀ (v203 : IVec S16 32) (k0_hw60 : k0_chk60 v203), ∀ a x, ((![v203] : Fin 1 → IVec S16 32) a x).toNat < S114688.size a := fun v203 k0_hw60 => k0_hw60
@[reducible] def k0_t17_loop : Scf.Loop 32 :=
  let c0_i32_110 : BitVec 32 := 0#32
  let c32_i32_111 : BitVec 32 := 32#32
  let v37 : BitVec 32 := Scalar.addi c0_i32_110 c32_i32_111
  let c1_i32_112 : BitVec 32 := 1#32
  ⟨c0_i32_110, v37, c1_i32_112⟩
def k0_off62 (k0_t17 : Fin k0_t17_loop.trips) : Fin 1 → Nat :=
  let c0_i32_110 : BitVec 32 := 0#32
  let c1_i32_112 : BitVec 32 := 1#32
  let arg11 : BitVec 32 := Scf.iv c0_i32_110 c1_i32_112 k0_t17
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk61 (v131 : IVec S16 32) : Prop :=
  (∀ a x, ((![v131] : Fin 1 → IVec S16 32) a x).toNat < S114688.size a)
theorem k0_idx61_inb : ∀ (v131 : IVec S16 32) (k0_hw61 : k0_chk61 v131), ∀ a x, ((![v131] : Fin 1 → IVec S16 32) a x).toNat < S114688.size a := fun v131 k0_hw61 => k0_hw61
def k0_off63 (k0_t17 : Fin k0_t17_loop.trips) : Fin 1 → Nat :=
  let c0_i32_110 : BitVec 32 := 0#32
  let c1_i32_112 : BitVec 32 := 1#32
  let arg11 : BitVec 32 := Scf.iv c0_i32_110 c1_i32_112 k0_t17
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk62 (v155 : IVec S16 32) : Prop :=
  (∀ a x, ((![v155] : Fin 1 → IVec S16 32) a x).toNat < S114688.size a)
theorem k0_idx62_inb : ∀ (v155 : IVec S16 32) (k0_hw62 : k0_chk62 v155), ∀ a x, ((![v155] : Fin 1 → IVec S16 32) a x).toNat < S114688.size a := fun v155 k0_hw62 => k0_hw62
def k0_off64 (k0_t17 : Fin k0_t17_loop.trips) : Fin 1 → Nat :=
  let c0_i32_110 : BitVec 32 := 0#32
  let c1_i32_112 : BitVec 32 := 1#32
  let arg11 : BitVec 32 := Scf.iv c0_i32_110 c1_i32_112 k0_t17
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk63 (v179 : IVec S16 32) : Prop :=
  (∀ a x, ((![v179] : Fin 1 → IVec S16 32) a x).toNat < S114688.size a)
theorem k0_idx63_inb : ∀ (v179 : IVec S16 32) (k0_hw63 : k0_chk63 v179), ∀ a x, ((![v179] : Fin 1 → IVec S16 32) a x).toNat < S114688.size a := fun v179 k0_hw63 => k0_hw63
def k0_off65 (k0_t17 : Fin k0_t17_loop.trips) : Fin 1 → Nat :=
  let c0_i32_110 : BitVec 32 := 0#32
  let c1_i32_112 : BitVec 32 := 1#32
  let arg11 : BitVec 32 := Scf.iv c0_i32_110 c1_i32_112 k0_t17
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk64 (v203 : IVec S16 32) : Prop :=
  (∀ a x, ((![v203] : Fin 1 → IVec S16 32) a x).toNat < S114688.size a)
theorem k0_idx64_inb : ∀ (v203 : IVec S16 32) (k0_hw64 : k0_chk64 v203), ∀ a x, ((![v203] : Fin 1 → IVec S16 32) a x).toNat < S114688.size a := fun v203 k0_hw64 => k0_hw64
def k0_off66 (i : grid0.Coords) (c0_i32 : BitVec 32) (c0_i32_114 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.addi c0_i32 v1
  let c16_i32 : BitVec 32 := 16#32
  let v4 : BitVec 32 := Scalar.muli v3 c16_i32
  let v39 : BitVec 32 := Scalar.addi v4 c0_i32_114
  let c0_i32_253_r64 : BitVec 32 := 0#32
  ![v39.toNat, 0]
@[reducible] def k0_t18_loop : Scf.Loop 32 :=
  let c0_i32_120 : BitVec 32 := 0#32
  let c896_i32_121 : BitVec 32 := 896#32
  let v57 : BitVec 32 := Scalar.addi c0_i32_120 c896_i32_121
  let c1_i32_122 : BitVec 32 := 1#32
  ⟨c0_i32_120, v57, c1_i32_122⟩
def k0_off67 (k0_t18 : Fin k0_t18_loop.trips) (c0_i32_252 : BitVec 32) : Fin 1 → Nat :=
  let c0_i32_120 : BitVec 32 := 0#32
  let c1_i32_122 : BitVec 32 := 1#32
  let arg11 : BitVec 32 := Scf.iv c0_i32_120 c1_i32_122 k0_t18
  let c128_i32 : BitVec 32 := 128#32
  let v107 : BitVec 32 := Scalar.muli arg11 c128_i32
  let v108 : BitVec 32 := Scalar.addi v107 c0_i32_252
  let v109 : Index := Scalar.indexCast v108
  ![v109.toNat]
@[reducible] def k0_t19_loop : Scf.Loop 32 :=
  let c0_i32_127 : BitVec 32 := 0#32
  let c32_i32_128 : BitVec 32 := 32#32
  let v59 : BitVec 32 := Scalar.addi c0_i32_127 c32_i32_128
  let c1_i32_129 : BitVec 32 := 1#32
  ⟨c0_i32_127, v59, c1_i32_129⟩
def k0_off68 (k0_t19 : Fin k0_t19_loop.trips) : Fin 1 → Nat :=
  let c0_i32_127 : BitVec 32 := 0#32
  let c1_i32_129 : BitVec 32 := 1#32
  let arg11 : BitVec 32 := Scf.iv c0_i32_127 c1_i32_129 k0_t19
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk65 (v131 : IVec S16 32) : Prop :=
  (∀ a x, ((![v131] : Fin 1 → IVec S16 32) a x).toNat < S114688.size a)
theorem k0_idx65_inb : ∀ (v131 : IVec S16 32) (k0_hw65 : k0_chk65 v131), ∀ a x, ((![v131] : Fin 1 → IVec S16 32) a x).toNat < S114688.size a := fun v131 k0_hw65 => k0_hw65
def k0_off69 (k0_t19 : Fin k0_t19_loop.trips) : Fin 1 → Nat :=
  let c0_i32_127 : BitVec 32 := 0#32
  let c1_i32_129 : BitVec 32 := 1#32
  let arg11 : BitVec 32 := Scf.iv c0_i32_127 c1_i32_129 k0_t19
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk66 (v155 : IVec S16 32) : Prop :=
  (∀ a x, ((![v155] : Fin 1 → IVec S16 32) a x).toNat < S114688.size a)
theorem k0_idx66_inb : ∀ (v155 : IVec S16 32) (k0_hw66 : k0_chk66 v155), ∀ a x, ((![v155] : Fin 1 → IVec S16 32) a x).toNat < S114688.size a := fun v155 k0_hw66 => k0_hw66
def k0_off70 (k0_t19 : Fin k0_t19_loop.trips) : Fin 1 → Nat :=
  let c0_i32_127 : BitVec 32 := 0#32
  let c1_i32_129 : BitVec 32 := 1#32
  let arg11 : BitVec 32 := Scf.iv c0_i32_127 c1_i32_129 k0_t19
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk67 (v179 : IVec S16 32) : Prop :=
  (∀ a x, ((![v179] : Fin 1 → IVec S16 32) a x).toNat < S114688.size a)
theorem k0_idx67_inb : ∀ (v179 : IVec S16 32) (k0_hw67 : k0_chk67 v179), ∀ a x, ((![v179] : Fin 1 → IVec S16 32) a x).toNat < S114688.size a := fun v179 k0_hw67 => k0_hw67
def k0_off71 (k0_t19 : Fin k0_t19_loop.trips) : Fin 1 → Nat :=
  let c0_i32_127 : BitVec 32 := 0#32
  let c1_i32_129 : BitVec 32 := 1#32
  let arg11 : BitVec 32 := Scf.iv c0_i32_127 c1_i32_129 k0_t19
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk68 (v203 : IVec S16 32) : Prop :=
  (∀ a x, ((![v203] : Fin 1 → IVec S16 32) a x).toNat < S114688.size a)
theorem k0_idx68_inb : ∀ (v203 : IVec S16 32) (k0_hw68 : k0_chk68 v203), ∀ a x, ((![v203] : Fin 1 → IVec S16 32) a x).toNat < S114688.size a := fun v203 k0_hw68 => k0_hw68
@[reducible] def k0_t20_loop : Scf.Loop 32 :=
  let c0_i32_134 : BitVec 32 := 0#32
  let c32_i32_135 : BitVec 32 := 32#32
  let v61 : BitVec 32 := Scalar.addi c0_i32_134 c32_i32_135
  let c1_i32_136 : BitVec 32 := 1#32
  ⟨c0_i32_134, v61, c1_i32_136⟩
def k0_off72 (k0_t20 : Fin k0_t20_loop.trips) : Fin 1 → Nat :=
  let c0_i32_134 : BitVec 32 := 0#32
  let c1_i32_136 : BitVec 32 := 1#32
  let arg11 : BitVec 32 := Scf.iv c0_i32_134 c1_i32_136 k0_t20
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk69 (v131 : IVec S16 32) : Prop :=
  (∀ a x, ((![v131] : Fin 1 → IVec S16 32) a x).toNat < S114688.size a)
theorem k0_idx69_inb : ∀ (v131 : IVec S16 32) (k0_hw69 : k0_chk69 v131), ∀ a x, ((![v131] : Fin 1 → IVec S16 32) a x).toNat < S114688.size a := fun v131 k0_hw69 => k0_hw69
def k0_off73 (k0_t20 : Fin k0_t20_loop.trips) : Fin 1 → Nat :=
  let c0_i32_134 : BitVec 32 := 0#32
  let c1_i32_136 : BitVec 32 := 1#32
  let arg11 : BitVec 32 := Scf.iv c0_i32_134 c1_i32_136 k0_t20
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk70 (v155 : IVec S16 32) : Prop :=
  (∀ a x, ((![v155] : Fin 1 → IVec S16 32) a x).toNat < S114688.size a)
theorem k0_idx70_inb : ∀ (v155 : IVec S16 32) (k0_hw70 : k0_chk70 v155), ∀ a x, ((![v155] : Fin 1 → IVec S16 32) a x).toNat < S114688.size a := fun v155 k0_hw70 => k0_hw70
def k0_off74 (k0_t20 : Fin k0_t20_loop.trips) : Fin 1 → Nat :=
  let c0_i32_134 : BitVec 32 := 0#32
  let c1_i32_136 : BitVec 32 := 1#32
  let arg11 : BitVec 32 := Scf.iv c0_i32_134 c1_i32_136 k0_t20
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk71 (v179 : IVec S16 32) : Prop :=
  (∀ a x, ((![v179] : Fin 1 → IVec S16 32) a x).toNat < S114688.size a)
theorem k0_idx71_inb : ∀ (v179 : IVec S16 32) (k0_hw71 : k0_chk71 v179), ∀ a x, ((![v179] : Fin 1 → IVec S16 32) a x).toNat < S114688.size a := fun v179 k0_hw71 => k0_hw71
def k0_off75 (k0_t20 : Fin k0_t20_loop.trips) : Fin 1 → Nat :=
  let c0_i32_134 : BitVec 32 := 0#32
  let c1_i32_136 : BitVec 32 := 1#32
  let arg11 : BitVec 32 := Scf.iv c0_i32_134 c1_i32_136 k0_t20
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk72 (v203 : IVec S16 32) : Prop :=
  (∀ a x, ((![v203] : Fin 1 → IVec S16 32) a x).toNat < S114688.size a)
theorem k0_idx72_inb : ∀ (v203 : IVec S16 32) (k0_hw72 : k0_chk72 v203), ∀ a x, ((![v203] : Fin 1 → IVec S16 32) a x).toNat < S114688.size a := fun v203 k0_hw72 => k0_hw72
@[reducible] def k0_t21_loop : Scf.Loop 32 :=
  let c0_i32_141 : BitVec 32 := 0#32
  let c32_i32_142 : BitVec 32 := 32#32
  let v63 : BitVec 32 := Scalar.addi c0_i32_141 c32_i32_142
  let c1_i32_143 : BitVec 32 := 1#32
  ⟨c0_i32_141, v63, c1_i32_143⟩
def k0_off76 (k0_t21 : Fin k0_t21_loop.trips) : Fin 1 → Nat :=
  let c0_i32_141 : BitVec 32 := 0#32
  let c1_i32_143 : BitVec 32 := 1#32
  let arg11 : BitVec 32 := Scf.iv c0_i32_141 c1_i32_143 k0_t21
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk73 (v131 : IVec S16 32) : Prop :=
  (∀ a x, ((![v131] : Fin 1 → IVec S16 32) a x).toNat < S114688.size a)
theorem k0_idx73_inb : ∀ (v131 : IVec S16 32) (k0_hw73 : k0_chk73 v131), ∀ a x, ((![v131] : Fin 1 → IVec S16 32) a x).toNat < S114688.size a := fun v131 k0_hw73 => k0_hw73
def k0_off77 (k0_t21 : Fin k0_t21_loop.trips) : Fin 1 → Nat :=
  let c0_i32_141 : BitVec 32 := 0#32
  let c1_i32_143 : BitVec 32 := 1#32
  let arg11 : BitVec 32 := Scf.iv c0_i32_141 c1_i32_143 k0_t21
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk74 (v155 : IVec S16 32) : Prop :=
  (∀ a x, ((![v155] : Fin 1 → IVec S16 32) a x).toNat < S114688.size a)
theorem k0_idx74_inb : ∀ (v155 : IVec S16 32) (k0_hw74 : k0_chk74 v155), ∀ a x, ((![v155] : Fin 1 → IVec S16 32) a x).toNat < S114688.size a := fun v155 k0_hw74 => k0_hw74
def k0_off78 (k0_t21 : Fin k0_t21_loop.trips) : Fin 1 → Nat :=
  let c0_i32_141 : BitVec 32 := 0#32
  let c1_i32_143 : BitVec 32 := 1#32
  let arg11 : BitVec 32 := Scf.iv c0_i32_141 c1_i32_143 k0_t21
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk75 (v179 : IVec S16 32) : Prop :=
  (∀ a x, ((![v179] : Fin 1 → IVec S16 32) a x).toNat < S114688.size a)
theorem k0_idx75_inb : ∀ (v179 : IVec S16 32) (k0_hw75 : k0_chk75 v179), ∀ a x, ((![v179] : Fin 1 → IVec S16 32) a x).toNat < S114688.size a := fun v179 k0_hw75 => k0_hw75
def k0_off79 (k0_t21 : Fin k0_t21_loop.trips) : Fin 1 → Nat :=
  let c0_i32_141 : BitVec 32 := 0#32
  let c1_i32_143 : BitVec 32 := 1#32
  let arg11 : BitVec 32 := Scf.iv c0_i32_141 c1_i32_143 k0_t21
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk76 (v203 : IVec S16 32) : Prop :=
  (∀ a x, ((![v203] : Fin 1 → IVec S16 32) a x).toNat < S114688.size a)
theorem k0_idx76_inb : ∀ (v203 : IVec S16 32) (k0_hw76 : k0_chk76 v203), ∀ a x, ((![v203] : Fin 1 → IVec S16 32) a x).toNat < S114688.size a := fun v203 k0_hw76 => k0_hw76
@[reducible] def k0_t22_loop : Scf.Loop 32 :=
  let c0_i32_148 : BitVec 32 := 0#32
  let c32_i32_149 : BitVec 32 := 32#32
  let v65 : BitVec 32 := Scalar.addi c0_i32_148 c32_i32_149
  let c1_i32_150 : BitVec 32 := 1#32
  ⟨c0_i32_148, v65, c1_i32_150⟩
def k0_off80 (k0_t22 : Fin k0_t22_loop.trips) : Fin 1 → Nat :=
  let c0_i32_148 : BitVec 32 := 0#32
  let c1_i32_150 : BitVec 32 := 1#32
  let arg11 : BitVec 32 := Scf.iv c0_i32_148 c1_i32_150 k0_t22
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk77 (v131 : IVec S16 32) : Prop :=
  (∀ a x, ((![v131] : Fin 1 → IVec S16 32) a x).toNat < S114688.size a)
theorem k0_idx77_inb : ∀ (v131 : IVec S16 32) (k0_hw77 : k0_chk77 v131), ∀ a x, ((![v131] : Fin 1 → IVec S16 32) a x).toNat < S114688.size a := fun v131 k0_hw77 => k0_hw77
def k0_off81 (k0_t22 : Fin k0_t22_loop.trips) : Fin 1 → Nat :=
  let c0_i32_148 : BitVec 32 := 0#32
  let c1_i32_150 : BitVec 32 := 1#32
  let arg11 : BitVec 32 := Scf.iv c0_i32_148 c1_i32_150 k0_t22
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk78 (v155 : IVec S16 32) : Prop :=
  (∀ a x, ((![v155] : Fin 1 → IVec S16 32) a x).toNat < S114688.size a)
theorem k0_idx78_inb : ∀ (v155 : IVec S16 32) (k0_hw78 : k0_chk78 v155), ∀ a x, ((![v155] : Fin 1 → IVec S16 32) a x).toNat < S114688.size a := fun v155 k0_hw78 => k0_hw78
def k0_off82 (k0_t22 : Fin k0_t22_loop.trips) : Fin 1 → Nat :=
  let c0_i32_148 : BitVec 32 := 0#32
  let c1_i32_150 : BitVec 32 := 1#32
  let arg11 : BitVec 32 := Scf.iv c0_i32_148 c1_i32_150 k0_t22
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk79 (v179 : IVec S16 32) : Prop :=
  (∀ a x, ((![v179] : Fin 1 → IVec S16 32) a x).toNat < S114688.size a)
theorem k0_idx79_inb : ∀ (v179 : IVec S16 32) (k0_hw79 : k0_chk79 v179), ∀ a x, ((![v179] : Fin 1 → IVec S16 32) a x).toNat < S114688.size a := fun v179 k0_hw79 => k0_hw79
def k0_off83 (k0_t22 : Fin k0_t22_loop.trips) : Fin 1 → Nat :=
  let c0_i32_148 : BitVec 32 := 0#32
  let c1_i32_150 : BitVec 32 := 1#32
  let arg11 : BitVec 32 := Scf.iv c0_i32_148 c1_i32_150 k0_t22
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk80 (v203 : IVec S16 32) : Prop :=
  (∀ a x, ((![v203] : Fin 1 → IVec S16 32) a x).toNat < S114688.size a)
theorem k0_idx80_inb : ∀ (v203 : IVec S16 32) (k0_hw80 : k0_chk80 v203), ∀ a x, ((![v203] : Fin 1 → IVec S16 32) a x).toNat < S114688.size a := fun v203 k0_hw80 => k0_hw80
@[reducible] def k0_t23_loop : Scf.Loop 32 :=
  let c0_i32_155 : BitVec 32 := 0#32
  let c32_i32_156 : BitVec 32 := 32#32
  let v67 : BitVec 32 := Scalar.addi c0_i32_155 c32_i32_156
  let c1_i32_157 : BitVec 32 := 1#32
  ⟨c0_i32_155, v67, c1_i32_157⟩
def k0_off84 (k0_t23 : Fin k0_t23_loop.trips) : Fin 1 → Nat :=
  let c0_i32_155 : BitVec 32 := 0#32
  let c1_i32_157 : BitVec 32 := 1#32
  let arg11 : BitVec 32 := Scf.iv c0_i32_155 c1_i32_157 k0_t23
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk81 (v131 : IVec S16 32) : Prop :=
  (∀ a x, ((![v131] : Fin 1 → IVec S16 32) a x).toNat < S114688.size a)
theorem k0_idx81_inb : ∀ (v131 : IVec S16 32) (k0_hw81 : k0_chk81 v131), ∀ a x, ((![v131] : Fin 1 → IVec S16 32) a x).toNat < S114688.size a := fun v131 k0_hw81 => k0_hw81
def k0_off85 (k0_t23 : Fin k0_t23_loop.trips) : Fin 1 → Nat :=
  let c0_i32_155 : BitVec 32 := 0#32
  let c1_i32_157 : BitVec 32 := 1#32
  let arg11 : BitVec 32 := Scf.iv c0_i32_155 c1_i32_157 k0_t23
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk82 (v155 : IVec S16 32) : Prop :=
  (∀ a x, ((![v155] : Fin 1 → IVec S16 32) a x).toNat < S114688.size a)
theorem k0_idx82_inb : ∀ (v155 : IVec S16 32) (k0_hw82 : k0_chk82 v155), ∀ a x, ((![v155] : Fin 1 → IVec S16 32) a x).toNat < S114688.size a := fun v155 k0_hw82 => k0_hw82
def k0_off86 (k0_t23 : Fin k0_t23_loop.trips) : Fin 1 → Nat :=
  let c0_i32_155 : BitVec 32 := 0#32
  let c1_i32_157 : BitVec 32 := 1#32
  let arg11 : BitVec 32 := Scf.iv c0_i32_155 c1_i32_157 k0_t23
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk83 (v179 : IVec S16 32) : Prop :=
  (∀ a x, ((![v179] : Fin 1 → IVec S16 32) a x).toNat < S114688.size a)
theorem k0_idx83_inb : ∀ (v179 : IVec S16 32) (k0_hw83 : k0_chk83 v179), ∀ a x, ((![v179] : Fin 1 → IVec S16 32) a x).toNat < S114688.size a := fun v179 k0_hw83 => k0_hw83
def k0_off87 (k0_t23 : Fin k0_t23_loop.trips) : Fin 1 → Nat :=
  let c0_i32_155 : BitVec 32 := 0#32
  let c1_i32_157 : BitVec 32 := 1#32
  let arg11 : BitVec 32 := Scf.iv c0_i32_155 c1_i32_157 k0_t23
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk84 (v203 : IVec S16 32) : Prop :=
  (∀ a x, ((![v203] : Fin 1 → IVec S16 32) a x).toNat < S114688.size a)
theorem k0_idx84_inb : ∀ (v203 : IVec S16 32) (k0_hw84 : k0_chk84 v203), ∀ a x, ((![v203] : Fin 1 → IVec S16 32) a x).toNat < S114688.size a := fun v203 k0_hw84 => k0_hw84
@[reducible] def k0_t24_loop : Scf.Loop 32 :=
  let c0_i32_162 : BitVec 32 := 0#32
  let c32_i32_163 : BitVec 32 := 32#32
  let v69 : BitVec 32 := Scalar.addi c0_i32_162 c32_i32_163
  let c1_i32_164 : BitVec 32 := 1#32
  ⟨c0_i32_162, v69, c1_i32_164⟩
def k0_off88 (k0_t24 : Fin k0_t24_loop.trips) : Fin 1 → Nat :=
  let c0_i32_162 : BitVec 32 := 0#32
  let c1_i32_164 : BitVec 32 := 1#32
  let arg11 : BitVec 32 := Scf.iv c0_i32_162 c1_i32_164 k0_t24
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk85 (v131 : IVec S16 32) : Prop :=
  (∀ a x, ((![v131] : Fin 1 → IVec S16 32) a x).toNat < S114688.size a)
theorem k0_idx85_inb : ∀ (v131 : IVec S16 32) (k0_hw85 : k0_chk85 v131), ∀ a x, ((![v131] : Fin 1 → IVec S16 32) a x).toNat < S114688.size a := fun v131 k0_hw85 => k0_hw85
def k0_off89 (k0_t24 : Fin k0_t24_loop.trips) : Fin 1 → Nat :=
  let c0_i32_162 : BitVec 32 := 0#32
  let c1_i32_164 : BitVec 32 := 1#32
  let arg11 : BitVec 32 := Scf.iv c0_i32_162 c1_i32_164 k0_t24
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk86 (v155 : IVec S16 32) : Prop :=
  (∀ a x, ((![v155] : Fin 1 → IVec S16 32) a x).toNat < S114688.size a)
theorem k0_idx86_inb : ∀ (v155 : IVec S16 32) (k0_hw86 : k0_chk86 v155), ∀ a x, ((![v155] : Fin 1 → IVec S16 32) a x).toNat < S114688.size a := fun v155 k0_hw86 => k0_hw86
def k0_off90 (k0_t24 : Fin k0_t24_loop.trips) : Fin 1 → Nat :=
  let c0_i32_162 : BitVec 32 := 0#32
  let c1_i32_164 : BitVec 32 := 1#32
  let arg11 : BitVec 32 := Scf.iv c0_i32_162 c1_i32_164 k0_t24
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk87 (v179 : IVec S16 32) : Prop :=
  (∀ a x, ((![v179] : Fin 1 → IVec S16 32) a x).toNat < S114688.size a)
theorem k0_idx87_inb : ∀ (v179 : IVec S16 32) (k0_hw87 : k0_chk87 v179), ∀ a x, ((![v179] : Fin 1 → IVec S16 32) a x).toNat < S114688.size a := fun v179 k0_hw87 => k0_hw87
def k0_off91 (k0_t24 : Fin k0_t24_loop.trips) : Fin 1 → Nat :=
  let c0_i32_162 : BitVec 32 := 0#32
  let c1_i32_164 : BitVec 32 := 1#32
  let arg11 : BitVec 32 := Scf.iv c0_i32_162 c1_i32_164 k0_t24
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk88 (v203 : IVec S16 32) : Prop :=
  (∀ a x, ((![v203] : Fin 1 → IVec S16 32) a x).toNat < S114688.size a)
theorem k0_idx88_inb : ∀ (v203 : IVec S16 32) (k0_hw88 : k0_chk88 v203), ∀ a x, ((![v203] : Fin 1 → IVec S16 32) a x).toNat < S114688.size a := fun v203 k0_hw88 => k0_hw88
@[reducible] def k0_t25_loop : Scf.Loop 32 :=
  let c0_i32_169 : BitVec 32 := 0#32
  let c32_i32_170 : BitVec 32 := 32#32
  let v71 : BitVec 32 := Scalar.addi c0_i32_169 c32_i32_170
  let c1_i32_171 : BitVec 32 := 1#32
  ⟨c0_i32_169, v71, c1_i32_171⟩
def k0_off92 (k0_t25 : Fin k0_t25_loop.trips) : Fin 1 → Nat :=
  let c0_i32_169 : BitVec 32 := 0#32
  let c1_i32_171 : BitVec 32 := 1#32
  let arg11 : BitVec 32 := Scf.iv c0_i32_169 c1_i32_171 k0_t25
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk89 (v131 : IVec S16 32) : Prop :=
  (∀ a x, ((![v131] : Fin 1 → IVec S16 32) a x).toNat < S114688.size a)
theorem k0_idx89_inb : ∀ (v131 : IVec S16 32) (k0_hw89 : k0_chk89 v131), ∀ a x, ((![v131] : Fin 1 → IVec S16 32) a x).toNat < S114688.size a := fun v131 k0_hw89 => k0_hw89
def k0_off93 (k0_t25 : Fin k0_t25_loop.trips) : Fin 1 → Nat :=
  let c0_i32_169 : BitVec 32 := 0#32
  let c1_i32_171 : BitVec 32 := 1#32
  let arg11 : BitVec 32 := Scf.iv c0_i32_169 c1_i32_171 k0_t25
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk90 (v155 : IVec S16 32) : Prop :=
  (∀ a x, ((![v155] : Fin 1 → IVec S16 32) a x).toNat < S114688.size a)
theorem k0_idx90_inb : ∀ (v155 : IVec S16 32) (k0_hw90 : k0_chk90 v155), ∀ a x, ((![v155] : Fin 1 → IVec S16 32) a x).toNat < S114688.size a := fun v155 k0_hw90 => k0_hw90
def k0_off94 (k0_t25 : Fin k0_t25_loop.trips) : Fin 1 → Nat :=
  let c0_i32_169 : BitVec 32 := 0#32
  let c1_i32_171 : BitVec 32 := 1#32
  let arg11 : BitVec 32 := Scf.iv c0_i32_169 c1_i32_171 k0_t25
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk91 (v179 : IVec S16 32) : Prop :=
  (∀ a x, ((![v179] : Fin 1 → IVec S16 32) a x).toNat < S114688.size a)
theorem k0_idx91_inb : ∀ (v179 : IVec S16 32) (k0_hw91 : k0_chk91 v179), ∀ a x, ((![v179] : Fin 1 → IVec S16 32) a x).toNat < S114688.size a := fun v179 k0_hw91 => k0_hw91
def k0_off95 (k0_t25 : Fin k0_t25_loop.trips) : Fin 1 → Nat :=
  let c0_i32_169 : BitVec 32 := 0#32
  let c1_i32_171 : BitVec 32 := 1#32
  let arg11 : BitVec 32 := Scf.iv c0_i32_169 c1_i32_171 k0_t25
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk92 (v203 : IVec S16 32) : Prop :=
  (∀ a x, ((![v203] : Fin 1 → IVec S16 32) a x).toNat < S114688.size a)
theorem k0_idx92_inb : ∀ (v203 : IVec S16 32) (k0_hw92 : k0_chk92 v203), ∀ a x, ((![v203] : Fin 1 → IVec S16 32) a x).toNat < S114688.size a := fun v203 k0_hw92 => k0_hw92
@[reducible] def k0_t26_loop : Scf.Loop 32 :=
  let c0_i32_176 : BitVec 32 := 0#32
  let c32_i32_177 : BitVec 32 := 32#32
  let v73 : BitVec 32 := Scalar.addi c0_i32_176 c32_i32_177
  let c1_i32_178 : BitVec 32 := 1#32
  ⟨c0_i32_176, v73, c1_i32_178⟩
def k0_off96 (k0_t26 : Fin k0_t26_loop.trips) : Fin 1 → Nat :=
  let c0_i32_176 : BitVec 32 := 0#32
  let c1_i32_178 : BitVec 32 := 1#32
  let arg11 : BitVec 32 := Scf.iv c0_i32_176 c1_i32_178 k0_t26
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk93 (v131 : IVec S16 32) : Prop :=
  (∀ a x, ((![v131] : Fin 1 → IVec S16 32) a x).toNat < S114688.size a)
theorem k0_idx93_inb : ∀ (v131 : IVec S16 32) (k0_hw93 : k0_chk93 v131), ∀ a x, ((![v131] : Fin 1 → IVec S16 32) a x).toNat < S114688.size a := fun v131 k0_hw93 => k0_hw93
def k0_off97 (k0_t26 : Fin k0_t26_loop.trips) : Fin 1 → Nat :=
  let c0_i32_176 : BitVec 32 := 0#32
  let c1_i32_178 : BitVec 32 := 1#32
  let arg11 : BitVec 32 := Scf.iv c0_i32_176 c1_i32_178 k0_t26
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk94 (v155 : IVec S16 32) : Prop :=
  (∀ a x, ((![v155] : Fin 1 → IVec S16 32) a x).toNat < S114688.size a)
theorem k0_idx94_inb : ∀ (v155 : IVec S16 32) (k0_hw94 : k0_chk94 v155), ∀ a x, ((![v155] : Fin 1 → IVec S16 32) a x).toNat < S114688.size a := fun v155 k0_hw94 => k0_hw94
def k0_off98 (k0_t26 : Fin k0_t26_loop.trips) : Fin 1 → Nat :=
  let c0_i32_176 : BitVec 32 := 0#32
  let c1_i32_178 : BitVec 32 := 1#32
  let arg11 : BitVec 32 := Scf.iv c0_i32_176 c1_i32_178 k0_t26
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk95 (v179 : IVec S16 32) : Prop :=
  (∀ a x, ((![v179] : Fin 1 → IVec S16 32) a x).toNat < S114688.size a)
theorem k0_idx95_inb : ∀ (v179 : IVec S16 32) (k0_hw95 : k0_chk95 v179), ∀ a x, ((![v179] : Fin 1 → IVec S16 32) a x).toNat < S114688.size a := fun v179 k0_hw95 => k0_hw95
def k0_off99 (k0_t26 : Fin k0_t26_loop.trips) : Fin 1 → Nat :=
  let c0_i32_176 : BitVec 32 := 0#32
  let c1_i32_178 : BitVec 32 := 1#32
  let arg11 : BitVec 32 := Scf.iv c0_i32_176 c1_i32_178 k0_t26
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk96 (v203 : IVec S16 32) : Prop :=
  (∀ a x, ((![v203] : Fin 1 → IVec S16 32) a x).toNat < S114688.size a)
theorem k0_idx96_inb : ∀ (v203 : IVec S16 32) (k0_hw96 : k0_chk96 v203), ∀ a x, ((![v203] : Fin 1 → IVec S16 32) a x).toNat < S114688.size a := fun v203 k0_hw96 => k0_hw96
@[reducible] def k0_t27_loop : Scf.Loop 32 :=
  let c0_i32_183 : BitVec 32 := 0#32
  let c32_i32_184 : BitVec 32 := 32#32
  let v75 : BitVec 32 := Scalar.addi c0_i32_183 c32_i32_184
  let c1_i32_185 : BitVec 32 := 1#32
  ⟨c0_i32_183, v75, c1_i32_185⟩
def k0_off100 (k0_t27 : Fin k0_t27_loop.trips) : Fin 1 → Nat :=
  let c0_i32_183 : BitVec 32 := 0#32
  let c1_i32_185 : BitVec 32 := 1#32
  let arg11 : BitVec 32 := Scf.iv c0_i32_183 c1_i32_185 k0_t27
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk97 (v131 : IVec S16 32) : Prop :=
  (∀ a x, ((![v131] : Fin 1 → IVec S16 32) a x).toNat < S114688.size a)
theorem k0_idx97_inb : ∀ (v131 : IVec S16 32) (k0_hw97 : k0_chk97 v131), ∀ a x, ((![v131] : Fin 1 → IVec S16 32) a x).toNat < S114688.size a := fun v131 k0_hw97 => k0_hw97
def k0_off101 (k0_t27 : Fin k0_t27_loop.trips) : Fin 1 → Nat :=
  let c0_i32_183 : BitVec 32 := 0#32
  let c1_i32_185 : BitVec 32 := 1#32
  let arg11 : BitVec 32 := Scf.iv c0_i32_183 c1_i32_185 k0_t27
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk98 (v155 : IVec S16 32) : Prop :=
  (∀ a x, ((![v155] : Fin 1 → IVec S16 32) a x).toNat < S114688.size a)
theorem k0_idx98_inb : ∀ (v155 : IVec S16 32) (k0_hw98 : k0_chk98 v155), ∀ a x, ((![v155] : Fin 1 → IVec S16 32) a x).toNat < S114688.size a := fun v155 k0_hw98 => k0_hw98
def k0_off102 (k0_t27 : Fin k0_t27_loop.trips) : Fin 1 → Nat :=
  let c0_i32_183 : BitVec 32 := 0#32
  let c1_i32_185 : BitVec 32 := 1#32
  let arg11 : BitVec 32 := Scf.iv c0_i32_183 c1_i32_185 k0_t27
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk99 (v179 : IVec S16 32) : Prop :=
  (∀ a x, ((![v179] : Fin 1 → IVec S16 32) a x).toNat < S114688.size a)
theorem k0_idx99_inb : ∀ (v179 : IVec S16 32) (k0_hw99 : k0_chk99 v179), ∀ a x, ((![v179] : Fin 1 → IVec S16 32) a x).toNat < S114688.size a := fun v179 k0_hw99 => k0_hw99
def k0_off103 (k0_t27 : Fin k0_t27_loop.trips) : Fin 1 → Nat :=
  let c0_i32_183 : BitVec 32 := 0#32
  let c1_i32_185 : BitVec 32 := 1#32
  let arg11 : BitVec 32 := Scf.iv c0_i32_183 c1_i32_185 k0_t27
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk100 (v203 : IVec S16 32) : Prop :=
  (∀ a x, ((![v203] : Fin 1 → IVec S16 32) a x).toNat < S114688.size a)
theorem k0_idx100_inb : ∀ (v203 : IVec S16 32) (k0_hw100 : k0_chk100 v203), ∀ a x, ((![v203] : Fin 1 → IVec S16 32) a x).toNat < S114688.size a := fun v203 k0_hw100 => k0_hw100
@[reducible] def k0_t28_loop : Scf.Loop 32 :=
  let c0_i32_190 : BitVec 32 := 0#32
  let c32_i32_191 : BitVec 32 := 32#32
  let v77 : BitVec 32 := Scalar.addi c0_i32_190 c32_i32_191
  let c1_i32_192 : BitVec 32 := 1#32
  ⟨c0_i32_190, v77, c1_i32_192⟩
def k0_off104 (k0_t28 : Fin k0_t28_loop.trips) : Fin 1 → Nat :=
  let c0_i32_190 : BitVec 32 := 0#32
  let c1_i32_192 : BitVec 32 := 1#32
  let arg11 : BitVec 32 := Scf.iv c0_i32_190 c1_i32_192 k0_t28
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk101 (v131 : IVec S16 32) : Prop :=
  (∀ a x, ((![v131] : Fin 1 → IVec S16 32) a x).toNat < S114688.size a)
theorem k0_idx101_inb : ∀ (v131 : IVec S16 32) (k0_hw101 : k0_chk101 v131), ∀ a x, ((![v131] : Fin 1 → IVec S16 32) a x).toNat < S114688.size a := fun v131 k0_hw101 => k0_hw101
def k0_off105 (k0_t28 : Fin k0_t28_loop.trips) : Fin 1 → Nat :=
  let c0_i32_190 : BitVec 32 := 0#32
  let c1_i32_192 : BitVec 32 := 1#32
  let arg11 : BitVec 32 := Scf.iv c0_i32_190 c1_i32_192 k0_t28
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk102 (v155 : IVec S16 32) : Prop :=
  (∀ a x, ((![v155] : Fin 1 → IVec S16 32) a x).toNat < S114688.size a)
theorem k0_idx102_inb : ∀ (v155 : IVec S16 32) (k0_hw102 : k0_chk102 v155), ∀ a x, ((![v155] : Fin 1 → IVec S16 32) a x).toNat < S114688.size a := fun v155 k0_hw102 => k0_hw102
def k0_off106 (k0_t28 : Fin k0_t28_loop.trips) : Fin 1 → Nat :=
  let c0_i32_190 : BitVec 32 := 0#32
  let c1_i32_192 : BitVec 32 := 1#32
  let arg11 : BitVec 32 := Scf.iv c0_i32_190 c1_i32_192 k0_t28
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk103 (v179 : IVec S16 32) : Prop :=
  (∀ a x, ((![v179] : Fin 1 → IVec S16 32) a x).toNat < S114688.size a)
theorem k0_idx103_inb : ∀ (v179 : IVec S16 32) (k0_hw103 : k0_chk103 v179), ∀ a x, ((![v179] : Fin 1 → IVec S16 32) a x).toNat < S114688.size a := fun v179 k0_hw103 => k0_hw103
def k0_off107 (k0_t28 : Fin k0_t28_loop.trips) : Fin 1 → Nat :=
  let c0_i32_190 : BitVec 32 := 0#32
  let c1_i32_192 : BitVec 32 := 1#32
  let arg11 : BitVec 32 := Scf.iv c0_i32_190 c1_i32_192 k0_t28
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk104 (v203 : IVec S16 32) : Prop :=
  (∀ a x, ((![v203] : Fin 1 → IVec S16 32) a x).toNat < S114688.size a)
theorem k0_idx104_inb : ∀ (v203 : IVec S16 32) (k0_hw104 : k0_chk104 v203), ∀ a x, ((![v203] : Fin 1 → IVec S16 32) a x).toNat < S114688.size a := fun v203 k0_hw104 => k0_hw104
@[reducible] def k0_t29_loop : Scf.Loop 32 :=
  let c0_i32_197 : BitVec 32 := 0#32
  let c32_i32_198 : BitVec 32 := 32#32
  let v79 : BitVec 32 := Scalar.addi c0_i32_197 c32_i32_198
  let c1_i32_199 : BitVec 32 := 1#32
  ⟨c0_i32_197, v79, c1_i32_199⟩
def k0_off108 (k0_t29 : Fin k0_t29_loop.trips) : Fin 1 → Nat :=
  let c0_i32_197 : BitVec 32 := 0#32
  let c1_i32_199 : BitVec 32 := 1#32
  let arg11 : BitVec 32 := Scf.iv c0_i32_197 c1_i32_199 k0_t29
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk105 (v131 : IVec S16 32) : Prop :=
  (∀ a x, ((![v131] : Fin 1 → IVec S16 32) a x).toNat < S114688.size a)
theorem k0_idx105_inb : ∀ (v131 : IVec S16 32) (k0_hw105 : k0_chk105 v131), ∀ a x, ((![v131] : Fin 1 → IVec S16 32) a x).toNat < S114688.size a := fun v131 k0_hw105 => k0_hw105
def k0_off109 (k0_t29 : Fin k0_t29_loop.trips) : Fin 1 → Nat :=
  let c0_i32_197 : BitVec 32 := 0#32
  let c1_i32_199 : BitVec 32 := 1#32
  let arg11 : BitVec 32 := Scf.iv c0_i32_197 c1_i32_199 k0_t29
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk106 (v155 : IVec S16 32) : Prop :=
  (∀ a x, ((![v155] : Fin 1 → IVec S16 32) a x).toNat < S114688.size a)
theorem k0_idx106_inb : ∀ (v155 : IVec S16 32) (k0_hw106 : k0_chk106 v155), ∀ a x, ((![v155] : Fin 1 → IVec S16 32) a x).toNat < S114688.size a := fun v155 k0_hw106 => k0_hw106
def k0_off110 (k0_t29 : Fin k0_t29_loop.trips) : Fin 1 → Nat :=
  let c0_i32_197 : BitVec 32 := 0#32
  let c1_i32_199 : BitVec 32 := 1#32
  let arg11 : BitVec 32 := Scf.iv c0_i32_197 c1_i32_199 k0_t29
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk107 (v179 : IVec S16 32) : Prop :=
  (∀ a x, ((![v179] : Fin 1 → IVec S16 32) a x).toNat < S114688.size a)
theorem k0_idx107_inb : ∀ (v179 : IVec S16 32) (k0_hw107 : k0_chk107 v179), ∀ a x, ((![v179] : Fin 1 → IVec S16 32) a x).toNat < S114688.size a := fun v179 k0_hw107 => k0_hw107
def k0_off111 (k0_t29 : Fin k0_t29_loop.trips) : Fin 1 → Nat :=
  let c0_i32_197 : BitVec 32 := 0#32
  let c1_i32_199 : BitVec 32 := 1#32
  let arg11 : BitVec 32 := Scf.iv c0_i32_197 c1_i32_199 k0_t29
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk108 (v203 : IVec S16 32) : Prop :=
  (∀ a x, ((![v203] : Fin 1 → IVec S16 32) a x).toNat < S114688.size a)
theorem k0_idx108_inb : ∀ (v203 : IVec S16 32) (k0_hw108 : k0_chk108 v203), ∀ a x, ((![v203] : Fin 1 → IVec S16 32) a x).toNat < S114688.size a := fun v203 k0_hw108 => k0_hw108
@[reducible] def k0_t30_loop : Scf.Loop 32 :=
  let c0_i32_204 : BitVec 32 := 0#32
  let c32_i32_205 : BitVec 32 := 32#32
  let v81 : BitVec 32 := Scalar.addi c0_i32_204 c32_i32_205
  let c1_i32_206 : BitVec 32 := 1#32
  ⟨c0_i32_204, v81, c1_i32_206⟩
def k0_off112 (k0_t30 : Fin k0_t30_loop.trips) : Fin 1 → Nat :=
  let c0_i32_204 : BitVec 32 := 0#32
  let c1_i32_206 : BitVec 32 := 1#32
  let arg11 : BitVec 32 := Scf.iv c0_i32_204 c1_i32_206 k0_t30
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk109 (v131 : IVec S16 32) : Prop :=
  (∀ a x, ((![v131] : Fin 1 → IVec S16 32) a x).toNat < S114688.size a)
theorem k0_idx109_inb : ∀ (v131 : IVec S16 32) (k0_hw109 : k0_chk109 v131), ∀ a x, ((![v131] : Fin 1 → IVec S16 32) a x).toNat < S114688.size a := fun v131 k0_hw109 => k0_hw109
def k0_off113 (k0_t30 : Fin k0_t30_loop.trips) : Fin 1 → Nat :=
  let c0_i32_204 : BitVec 32 := 0#32
  let c1_i32_206 : BitVec 32 := 1#32
  let arg11 : BitVec 32 := Scf.iv c0_i32_204 c1_i32_206 k0_t30
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk110 (v155 : IVec S16 32) : Prop :=
  (∀ a x, ((![v155] : Fin 1 → IVec S16 32) a x).toNat < S114688.size a)
theorem k0_idx110_inb : ∀ (v155 : IVec S16 32) (k0_hw110 : k0_chk110 v155), ∀ a x, ((![v155] : Fin 1 → IVec S16 32) a x).toNat < S114688.size a := fun v155 k0_hw110 => k0_hw110
def k0_off114 (k0_t30 : Fin k0_t30_loop.trips) : Fin 1 → Nat :=
  let c0_i32_204 : BitVec 32 := 0#32
  let c1_i32_206 : BitVec 32 := 1#32
  let arg11 : BitVec 32 := Scf.iv c0_i32_204 c1_i32_206 k0_t30
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk111 (v179 : IVec S16 32) : Prop :=
  (∀ a x, ((![v179] : Fin 1 → IVec S16 32) a x).toNat < S114688.size a)
theorem k0_idx111_inb : ∀ (v179 : IVec S16 32) (k0_hw111 : k0_chk111 v179), ∀ a x, ((![v179] : Fin 1 → IVec S16 32) a x).toNat < S114688.size a := fun v179 k0_hw111 => k0_hw111
def k0_off115 (k0_t30 : Fin k0_t30_loop.trips) : Fin 1 → Nat :=
  let c0_i32_204 : BitVec 32 := 0#32
  let c1_i32_206 : BitVec 32 := 1#32
  let arg11 : BitVec 32 := Scf.iv c0_i32_204 c1_i32_206 k0_t30
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk112 (v203 : IVec S16 32) : Prop :=
  (∀ a x, ((![v203] : Fin 1 → IVec S16 32) a x).toNat < S114688.size a)
theorem k0_idx112_inb : ∀ (v203 : IVec S16 32) (k0_hw112 : k0_chk112 v203), ∀ a x, ((![v203] : Fin 1 → IVec S16 32) a x).toNat < S114688.size a := fun v203 k0_hw112 => k0_hw112
@[reducible] def k0_t31_loop : Scf.Loop 32 :=
  let c0_i32_211 : BitVec 32 := 0#32
  let c32_i32_212 : BitVec 32 := 32#32
  let v83 : BitVec 32 := Scalar.addi c0_i32_211 c32_i32_212
  let c1_i32_213 : BitVec 32 := 1#32
  ⟨c0_i32_211, v83, c1_i32_213⟩
def k0_off116 (k0_t31 : Fin k0_t31_loop.trips) : Fin 1 → Nat :=
  let c0_i32_211 : BitVec 32 := 0#32
  let c1_i32_213 : BitVec 32 := 1#32
  let arg11 : BitVec 32 := Scf.iv c0_i32_211 c1_i32_213 k0_t31
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk113 (v131 : IVec S16 32) : Prop :=
  (∀ a x, ((![v131] : Fin 1 → IVec S16 32) a x).toNat < S114688.size a)
theorem k0_idx113_inb : ∀ (v131 : IVec S16 32) (k0_hw113 : k0_chk113 v131), ∀ a x, ((![v131] : Fin 1 → IVec S16 32) a x).toNat < S114688.size a := fun v131 k0_hw113 => k0_hw113
def k0_off117 (k0_t31 : Fin k0_t31_loop.trips) : Fin 1 → Nat :=
  let c0_i32_211 : BitVec 32 := 0#32
  let c1_i32_213 : BitVec 32 := 1#32
  let arg11 : BitVec 32 := Scf.iv c0_i32_211 c1_i32_213 k0_t31
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk114 (v155 : IVec S16 32) : Prop :=
  (∀ a x, ((![v155] : Fin 1 → IVec S16 32) a x).toNat < S114688.size a)
theorem k0_idx114_inb : ∀ (v155 : IVec S16 32) (k0_hw114 : k0_chk114 v155), ∀ a x, ((![v155] : Fin 1 → IVec S16 32) a x).toNat < S114688.size a := fun v155 k0_hw114 => k0_hw114
def k0_off118 (k0_t31 : Fin k0_t31_loop.trips) : Fin 1 → Nat :=
  let c0_i32_211 : BitVec 32 := 0#32
  let c1_i32_213 : BitVec 32 := 1#32
  let arg11 : BitVec 32 := Scf.iv c0_i32_211 c1_i32_213 k0_t31
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk115 (v179 : IVec S16 32) : Prop :=
  (∀ a x, ((![v179] : Fin 1 → IVec S16 32) a x).toNat < S114688.size a)
theorem k0_idx115_inb : ∀ (v179 : IVec S16 32) (k0_hw115 : k0_chk115 v179), ∀ a x, ((![v179] : Fin 1 → IVec S16 32) a x).toNat < S114688.size a := fun v179 k0_hw115 => k0_hw115
def k0_off119 (k0_t31 : Fin k0_t31_loop.trips) : Fin 1 → Nat :=
  let c0_i32_211 : BitVec 32 := 0#32
  let c1_i32_213 : BitVec 32 := 1#32
  let arg11 : BitVec 32 := Scf.iv c0_i32_211 c1_i32_213 k0_t31
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk116 (v203 : IVec S16 32) : Prop :=
  (∀ a x, ((![v203] : Fin 1 → IVec S16 32) a x).toNat < S114688.size a)
theorem k0_idx116_inb : ∀ (v203 : IVec S16 32) (k0_hw116 : k0_chk116 v203), ∀ a x, ((![v203] : Fin 1 → IVec S16 32) a x).toNat < S114688.size a := fun v203 k0_hw116 => k0_hw116
@[reducible] def k0_t32_loop : Scf.Loop 32 :=
  let c0_i32_218 : BitVec 32 := 0#32
  let c32_i32_219 : BitVec 32 := 32#32
  let v85 : BitVec 32 := Scalar.addi c0_i32_218 c32_i32_219
  let c1_i32_220 : BitVec 32 := 1#32
  ⟨c0_i32_218, v85, c1_i32_220⟩
def k0_off120 (k0_t32 : Fin k0_t32_loop.trips) : Fin 1 → Nat :=
  let c0_i32_218 : BitVec 32 := 0#32
  let c1_i32_220 : BitVec 32 := 1#32
  let arg11 : BitVec 32 := Scf.iv c0_i32_218 c1_i32_220 k0_t32
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk117 (v131 : IVec S16 32) : Prop :=
  (∀ a x, ((![v131] : Fin 1 → IVec S16 32) a x).toNat < S114688.size a)
theorem k0_idx117_inb : ∀ (v131 : IVec S16 32) (k0_hw117 : k0_chk117 v131), ∀ a x, ((![v131] : Fin 1 → IVec S16 32) a x).toNat < S114688.size a := fun v131 k0_hw117 => k0_hw117
def k0_off121 (k0_t32 : Fin k0_t32_loop.trips) : Fin 1 → Nat :=
  let c0_i32_218 : BitVec 32 := 0#32
  let c1_i32_220 : BitVec 32 := 1#32
  let arg11 : BitVec 32 := Scf.iv c0_i32_218 c1_i32_220 k0_t32
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk118 (v155 : IVec S16 32) : Prop :=
  (∀ a x, ((![v155] : Fin 1 → IVec S16 32) a x).toNat < S114688.size a)
theorem k0_idx118_inb : ∀ (v155 : IVec S16 32) (k0_hw118 : k0_chk118 v155), ∀ a x, ((![v155] : Fin 1 → IVec S16 32) a x).toNat < S114688.size a := fun v155 k0_hw118 => k0_hw118
def k0_off122 (k0_t32 : Fin k0_t32_loop.trips) : Fin 1 → Nat :=
  let c0_i32_218 : BitVec 32 := 0#32
  let c1_i32_220 : BitVec 32 := 1#32
  let arg11 : BitVec 32 := Scf.iv c0_i32_218 c1_i32_220 k0_t32
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk119 (v179 : IVec S16 32) : Prop :=
  (∀ a x, ((![v179] : Fin 1 → IVec S16 32) a x).toNat < S114688.size a)
theorem k0_idx119_inb : ∀ (v179 : IVec S16 32) (k0_hw119 : k0_chk119 v179), ∀ a x, ((![v179] : Fin 1 → IVec S16 32) a x).toNat < S114688.size a := fun v179 k0_hw119 => k0_hw119
def k0_off123 (k0_t32 : Fin k0_t32_loop.trips) : Fin 1 → Nat :=
  let c0_i32_218 : BitVec 32 := 0#32
  let c1_i32_220 : BitVec 32 := 1#32
  let arg11 : BitVec 32 := Scf.iv c0_i32_218 c1_i32_220 k0_t32
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk120 (v203 : IVec S16 32) : Prop :=
  (∀ a x, ((![v203] : Fin 1 → IVec S16 32) a x).toNat < S114688.size a)
theorem k0_idx120_inb : ∀ (v203 : IVec S16 32) (k0_hw120 : k0_chk120 v203), ∀ a x, ((![v203] : Fin 1 → IVec S16 32) a x).toNat < S114688.size a := fun v203 k0_hw120 => k0_hw120
@[reducible] def k0_t33_loop : Scf.Loop 32 :=
  let c0_i32_225 : BitVec 32 := 0#32
  let c32_i32_226 : BitVec 32 := 32#32
  let v87 : BitVec 32 := Scalar.addi c0_i32_225 c32_i32_226
  let c1_i32_227 : BitVec 32 := 1#32
  ⟨c0_i32_225, v87, c1_i32_227⟩
def k0_off124 (k0_t33 : Fin k0_t33_loop.trips) : Fin 1 → Nat :=
  let c0_i32_225 : BitVec 32 := 0#32
  let c1_i32_227 : BitVec 32 := 1#32
  let arg11 : BitVec 32 := Scf.iv c0_i32_225 c1_i32_227 k0_t33
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk121 (v131 : IVec S16 32) : Prop :=
  (∀ a x, ((![v131] : Fin 1 → IVec S16 32) a x).toNat < S114688.size a)
theorem k0_idx121_inb : ∀ (v131 : IVec S16 32) (k0_hw121 : k0_chk121 v131), ∀ a x, ((![v131] : Fin 1 → IVec S16 32) a x).toNat < S114688.size a := fun v131 k0_hw121 => k0_hw121
def k0_off125 (k0_t33 : Fin k0_t33_loop.trips) : Fin 1 → Nat :=
  let c0_i32_225 : BitVec 32 := 0#32
  let c1_i32_227 : BitVec 32 := 1#32
  let arg11 : BitVec 32 := Scf.iv c0_i32_225 c1_i32_227 k0_t33
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk122 (v155 : IVec S16 32) : Prop :=
  (∀ a x, ((![v155] : Fin 1 → IVec S16 32) a x).toNat < S114688.size a)
theorem k0_idx122_inb : ∀ (v155 : IVec S16 32) (k0_hw122 : k0_chk122 v155), ∀ a x, ((![v155] : Fin 1 → IVec S16 32) a x).toNat < S114688.size a := fun v155 k0_hw122 => k0_hw122
def k0_off126 (k0_t33 : Fin k0_t33_loop.trips) : Fin 1 → Nat :=
  let c0_i32_225 : BitVec 32 := 0#32
  let c1_i32_227 : BitVec 32 := 1#32
  let arg11 : BitVec 32 := Scf.iv c0_i32_225 c1_i32_227 k0_t33
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk123 (v179 : IVec S16 32) : Prop :=
  (∀ a x, ((![v179] : Fin 1 → IVec S16 32) a x).toNat < S114688.size a)
theorem k0_idx123_inb : ∀ (v179 : IVec S16 32) (k0_hw123 : k0_chk123 v179), ∀ a x, ((![v179] : Fin 1 → IVec S16 32) a x).toNat < S114688.size a := fun v179 k0_hw123 => k0_hw123
def k0_off127 (k0_t33 : Fin k0_t33_loop.trips) : Fin 1 → Nat :=
  let c0_i32_225 : BitVec 32 := 0#32
  let c1_i32_227 : BitVec 32 := 1#32
  let arg11 : BitVec 32 := Scf.iv c0_i32_225 c1_i32_227 k0_t33
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk124 (v203 : IVec S16 32) : Prop :=
  (∀ a x, ((![v203] : Fin 1 → IVec S16 32) a x).toNat < S114688.size a)
theorem k0_idx124_inb : ∀ (v203 : IVec S16 32) (k0_hw124 : k0_chk124 v203), ∀ a x, ((![v203] : Fin 1 → IVec S16 32) a x).toNat < S114688.size a := fun v203 k0_hw124 => k0_hw124
@[reducible] def k0_t34_loop : Scf.Loop 32 :=
  let c0_i32_232 : BitVec 32 := 0#32
  let c32_i32_233 : BitVec 32 := 32#32
  let v89 : BitVec 32 := Scalar.addi c0_i32_232 c32_i32_233
  let c1_i32_234 : BitVec 32 := 1#32
  ⟨c0_i32_232, v89, c1_i32_234⟩
def k0_off128 (k0_t34 : Fin k0_t34_loop.trips) : Fin 1 → Nat :=
  let c0_i32_232 : BitVec 32 := 0#32
  let c1_i32_234 : BitVec 32 := 1#32
  let arg11 : BitVec 32 := Scf.iv c0_i32_232 c1_i32_234 k0_t34
  let c64_i32 : BitVec 32 := 64#32
  let v107 : BitVec 32 := Scalar.muli arg11 c64_i32
  let c0_i32_252 : BitVec 32 := 0#32
  let v108 : BitVec 32 := Scalar.addi v107 c0_i32_252
  let v109 : Index := Scalar.indexCast v108
  ![v109.toNat]

def k0_chk125 (v131 : IVec S16 32) : Prop :=
  (∀ a x, ((![v131] : Fin 1 → IVec S16 32) a x).toNat < S114688.size a)
theorem k0_idx125_inb : ∀ (v131 : IVec S16 32) (k0_hw125 : k0_chk125 v131), ∀ a x, ((![v131] : Fin 1 → IVec S16 32) a x).toNat < S114688.size a := fun v131 k0_hw125 => k0_hw125
def k0_off129 (k0_t34 : Fin k0_t34_loop.trips) : Fin 1 → Nat :=
  let c0_i32_232 : BitVec 32 := 0#32
  let c1_i32_234 : BitVec 32 := 1#32
  let arg11 : BitVec 32 := Scf.iv c0_i32_232 c1_i32_234 k0_t34
  let c64_i32 : BitVec 32 := 64#32
  let v107 : BitVec 32 := Scalar.muli arg11 c64_i32
  let c16_i32_256 : BitVec 32 := 16#32
  let v132 : BitVec 32 := Scalar.addi v107 c16_i32_256
  let v133 : Index := Scalar.indexCast v132
  ![v133.toNat]

def k0_chk126 (v155 : IVec S16 32) : Prop :=
  (∀ a x, ((![v155] : Fin 1 → IVec S16 32) a x).toNat < S114688.size a)
theorem k0_idx126_inb : ∀ (v155 : IVec S16 32) (k0_hw126 : k0_chk126 v155), ∀ a x, ((![v155] : Fin 1 → IVec S16 32) a x).toNat < S114688.size a := fun v155 k0_hw126 => k0_hw126
def k0_off130 (k0_t34 : Fin k0_t34_loop.trips) : Fin 1 → Nat :=
  let c0_i32_232 : BitVec 32 := 0#32
  let c1_i32_234 : BitVec 32 := 1#32
  let arg11 : BitVec 32 := Scf.iv c0_i32_232 c1_i32_234 k0_t34
  let c64_i32 : BitVec 32 := 64#32
  let v107 : BitVec 32 := Scalar.muli arg11 c64_i32
  let c32_i32_262 : BitVec 32 := 32#32
  let v156 : BitVec 32 := Scalar.addi v107 c32_i32_262
  let v157 : Index := Scalar.indexCast v156
  ![v157.toNat]

def k0_chk127 (v179 : IVec S16 32) : Prop :=
  (∀ a x, ((![v179] : Fin 1 → IVec S16 32) a x).toNat < S114688.size a)
theorem k0_idx127_inb : ∀ (v179 : IVec S16 32) (k0_hw127 : k0_chk127 v179), ∀ a x, ((![v179] : Fin 1 → IVec S16 32) a x).toNat < S114688.size a := fun v179 k0_hw127 => k0_hw127
def k0_off131 (k0_t34 : Fin k0_t34_loop.trips) : Fin 1 → Nat :=
  let c0_i32_232 : BitVec 32 := 0#32
  let c1_i32_234 : BitVec 32 := 1#32
  let arg11 : BitVec 32 := Scf.iv c0_i32_232 c1_i32_234 k0_t34
  let c64_i32 : BitVec 32 := 64#32
  let v107 : BitVec 32 := Scalar.muli arg11 c64_i32
  let c48_i32 : BitVec 32 := 48#32
  let v180 : BitVec 32 := Scalar.addi v107 c48_i32
  let v181 : Index := Scalar.indexCast v180
  ![v181.toNat]

def k0_chk128 (v203 : IVec S16 32) : Prop :=
  (∀ a x, ((![v203] : Fin 1 → IVec S16 32) a x).toNat < S114688.size a)
theorem k0_idx128_inb : ∀ (v203 : IVec S16 32) (k0_hw128 : k0_chk128 v203), ∀ a x, ((![v203] : Fin 1 → IVec S16 32) a x).toNat < S114688.size a := fun v203 k0_hw128 => k0_hw128
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x512 : Shape := ⟨2, ![1024, 512]⟩
abbrev S2x32768 : Shape := ⟨2, ![2, 32768]⟩
abbrev S32768 : Shape := ⟨1, ![32768]⟩
abbrev S7x512x512 : Shape := ⟨3, ![7, 512, 512]⟩
abbrev S512 : Shape := ⟨1, ![512]⟩
abbrev S2x512x512 : Shape := ⟨3, ![2, 512, 512]⟩
abbrev S3584x512 : Shape := ⟨2, ![3584, 512]⟩
abbrev S1x32768 : Shape := ⟨2, ![1, 32768]⟩
abbrev S_ : Shape := ⟨0, ![]⟩
abbrev S1024x7168 : Shape := ⟨2, ![1024, 7168]⟩
abbrev S32768x1 : Shape := ⟨2, ![32768, 1]⟩
abbrev S32768x2 : Shape := ⟨2, ![32768, 2]⟩
abbrev S1024x7x1024 : Shape := ⟨3, ![1024, 7, 1024]⟩
abbrev S512x1024x7 : Shape := ⟨3, ![512, 1024, 7]⟩
abbrev S7x1024x512 : Shape := ⟨3, ![7, 1024, 512]⟩
abbrev S7x512 : Shape := ⟨2, ![7, 512]⟩
abbrev S7x1x512 : Shape := ⟨3, ![7, 1, 512]⟩
abbrev S1x1x512 : Shape := ⟨3, ![1, 1, 512]⟩
abbrev S2x1024x512 : Shape := ⟨3, ![2, 1024, 512]⟩
abbrev S2x1024x8x64 : Shape := ⟨4, ![2, 1024, 8, 64]⟩
abbrev S2x1024x1024 : Shape := ⟨3, ![2, 1024, 1024]⟩
abbrev S2x1024x32 : Shape := ⟨3, ![2, 1024, 32]⟩
abbrev S2x1024x1 : Shape := ⟨3, ![2, 1024, 1]⟩
abbrev S2x1024 : Shape := ⟨2, ![2, 1024]⟩
abbrev S1024x2x1024 : Shape := ⟨3, ![1024, 2, 1024]⟩
abbrev S1024x2048 : Shape := ⟨2, ![1024, 2048]⟩
abbrev S1024x5120 : Shape := ⟨2, ![1024, 5120]⟩
abbrev S1024x7x512 : Shape := ⟨3, ![1024, 7, 512]⟩
abbrev S1024x3584 : Shape := ⟨2, ![1024, 3584]⟩
abbrev S1x512 : Shape := ⟨2, ![1, 512]⟩

abbrev nBuf : Space → Nat
  | .hbm => 284
  | .vmem => 0
  | .smem => 0
  | _ => 0

abbrev hbmTy0_0 (i : Nat) : BufTy := match i % 128 with
  | 0 => ⟨S1024x512, .f32⟩
  | 1 => ⟨S2x32768, .i32⟩
  | 2 => ⟨S32768, .i32⟩
  | 3 => ⟨S32768, .f32⟩
  | 4 => ⟨S7x512x512, .f32⟩
  | 5 => ⟨S512, .f32⟩
  | 6 => ⟨S512, .f32⟩
  | 7 => ⟨S2x512x512, .f32⟩
  | 8 => ⟨S2x512x512, .f32⟩
  | 9 => ⟨S3584x512, .f32⟩
  | 10 => ⟨S512, .f32⟩
  | 11 => ⟨S512, .f32⟩
  | 12 => ⟨S3584x512, .f32⟩
  | 13 => ⟨S512, .f32⟩
  | 14 => ⟨S512, .f32⟩
  | 15 => ⟨S512, .f32⟩
  | 16 => ⟨S512, .f32⟩
  | 17 => ⟨S1x32768, .i32⟩
  | 18 => ⟨S32768, .i32⟩
  | 19 => ⟨S1x32768, .i32⟩
  | 20 => ⟨S32768, .i32⟩
  | 21 => ⟨S_, .i32⟩
  | 22 => ⟨S32768, .i32⟩
  | 23 => ⟨S32768, .i32⟩
  | 24 => ⟨S32768, .i32⟩
  | 25 => ⟨S_, .f32⟩
  | 26 => ⟨S1024x7168, .f32⟩
  | 27 => ⟨S_, .i32⟩
  | 28 => ⟨S32768, .i32⟩
  | 29 => ⟨S32768, .i1⟩
  | 30 => ⟨S_, .i32⟩
  | 31 => ⟨S32768, .i32⟩
  | 32 => ⟨S32768, .i32⟩
  | 33 => ⟨S32768, .i32⟩
  | 34 => ⟨S_, .i32⟩
  | 35 => ⟨S32768, .i32⟩
  | 36 => ⟨S32768, .i1⟩
  | 37 => ⟨S_, .i32⟩
  | 38 => ⟨S32768, .i32⟩
  | 39 => ⟨S32768, .i32⟩
  | 40 => ⟨S32768, .i32⟩
  | 41 => ⟨S32768x1, .i32⟩
  | 42 => ⟨S32768x1, .i32⟩
  | 43 => ⟨S32768x2, .i32⟩
  | 44 => ⟨S1024x7168, .f32⟩
  | 45 => ⟨S1024x7x1024, .f32⟩
  | 46 => ⟨S512x1024x7, .f32⟩
  | 47 => ⟨S7x1024x512, .f32⟩
  | 48 => ⟨S7x1024x512, .f32⟩
  | 49 => ⟨S_, .f32⟩
  | 50 => ⟨S7x512, .f32⟩
  | 51 => ⟨S7x1x512, .f32⟩
  | 52 => ⟨S_, .f32⟩
  | 53 => ⟨S7x1x512, .f32⟩
  | 54 => ⟨S7x1x512, .f32⟩
  | 55 => ⟨S_, .i32⟩
  | 56 => ⟨S_, .f32⟩
  | 57 => ⟨S7x512, .f32⟩
  | 58 => ⟨S7x1x512, .f32⟩
  | 59 => ⟨S_, .f32⟩
  | 60 => ⟨S7x1x512, .f32⟩
  | 61 => ⟨S7x1x512, .f32⟩
  | 62 => ⟨S7x1024x512, .f32⟩
  | 63 => ⟨S7x1024x512, .f32⟩
  | 64 => ⟨S7x1024x512, .f32⟩
  | 65 => ⟨S_, .f32⟩
  | 66 => ⟨S_, .f32⟩
  | 67 => ⟨S_, .f32⟩
  | 68 => ⟨S_, .f32⟩
  | 69 => ⟨S7x512, .f32⟩
  | 70 => ⟨S7x1x512, .f32⟩
  | 71 => ⟨S7x1x512, .f32⟩
  | 72 => ⟨S7x1x512, .f32⟩
  | 73 => ⟨S_, .f32⟩
  | 74 => ⟨S_, .i1⟩
  | 75 => ⟨S_, .f32⟩
  | 76 => ⟨S_, .f32⟩
  | 77 => ⟨S7x1x512, .f32⟩
  | 78 => ⟨S7x1x512, .f32⟩
  | 79 => ⟨S7x1024x512, .f32⟩
  | 80 => ⟨S7x1024x512, .f32⟩
  | 81 => ⟨S1x1x512, .f32⟩
  | 82 => ⟨S7x1024x512, .f32⟩
  | 83 => ⟨S7x1024x512, .f32⟩
  | 84 => ⟨S_, .f32⟩
  | 85 => ⟨S7x1x512, .f32⟩
  | 86 => ⟨S7x1x512, .f32⟩
  | 87 => ⟨S7x1x512, .f32⟩
  | 88 => ⟨S7x1024x512, .f32⟩
  | 89 => ⟨S7x1024x512, .f32⟩
  | 90 => ⟨S1x1x512, .f32⟩
  | 91 => ⟨S7x1024x512, .f32⟩
  | 92 => ⟨S7x1024x512, .f32⟩
  | 93 => ⟨S_, .f32⟩
  | 94 => ⟨S7x1024x512, .f32⟩
  | 95 => ⟨S7x1024x512, .f32⟩
  | 96 => ⟨S2x1024x512, .f32⟩
  | 97 => ⟨S2x1024x512, .f32⟩
  | 98 => ⟨S2x1024x8x64, .f32⟩
  | 99 => ⟨S2x1024x512, .f32⟩
  | 100 => ⟨S2x1024x8x64, .f32⟩
  | 101 => ⟨S2x1024x1024, .f32⟩
  | 102 => ⟨S_, .f32⟩
  | 103 => ⟨S2x1024x1024, .f32⟩
  | 104 => ⟨S2x1024x1024, .f32⟩
  | 105 => ⟨S2x1024x32, .f32⟩
  | 106 => ⟨S2x1024x32, .i32⟩
  | 107 => ⟨S2x1024x1, .f32⟩
  | 108 => ⟨S2x1024x1024, .f32⟩
  | 109 => ⟨S2x1024x1024, .i1⟩
  | 110 => ⟨S_, .f32⟩
  | 111 => ⟨S2x1024x1024, .f32⟩
  | 112 => ⟨S2x1024x1024, .f32⟩
  | 113 => ⟨S_, .f32⟩
  | 114 => ⟨S_, .f32⟩
  | 115 => ⟨S2x1024x1024, .f32⟩
  | 116 => ⟨S2x1024x1024, .f32⟩
  | 117 => ⟨S_, .f32⟩
  | 118 => ⟨S2x1024, .f32⟩
  | 119 => ⟨S_, .f32⟩
  | 120 => ⟨S2x1024, .f32⟩
  | 121 => ⟨S2x1024, .f32⟩
  | 122 => ⟨S2x1024x1, .f32⟩
  | 123 => ⟨S2x1024x1024, .f32⟩
  | 124 => ⟨S2x1024x1024, .f32⟩
  | 125 => ⟨S2x1024x1024, .f32⟩
  | 126 => ⟨S_, .f32⟩
  | 127 => ⟨S2x1024, .f32⟩
  | _ => ⟨S1024x512, .f32⟩

abbrev hbmTy0_1 (i : Nat) : BufTy := match i % 128 with
  | 0 => ⟨S2x1024x1, .f32⟩
  | 1 => ⟨S2x1024x1024, .f32⟩
  | 2 => ⟨S2x1024x1024, .f32⟩
  | 3 => ⟨S1024x2x1024, .f32⟩
  | 4 => ⟨S1024x2048, .f32⟩
  | 5 => ⟨S1024x2048, .f32⟩
  | 6 => ⟨S1024x2048, .f32⟩
  | 7 => ⟨S1024x5120, .f32⟩
  | 8 => ⟨S1024x7168, .f32⟩
  | 9 => ⟨S1024x7x1024, .f32⟩
  | 10 => ⟨S1024x7x512, .f32⟩
  | 11 => ⟨S1024x3584, .f32⟩
  | 12 => ⟨S1024x512, .f32⟩
  | 13 => ⟨S_, .f32⟩
  | 14 => ⟨S512, .f32⟩
  | 15 => ⟨S1x512, .f32⟩
  | 16 => ⟨S_, .f32⟩
  | 17 => ⟨S1x512, .f32⟩
  | 18 => ⟨S1x512, .f32⟩
  | 19 => ⟨S_, .i32⟩
  | 20 => ⟨S_, .f32⟩
  | 21 => ⟨S512, .f32⟩
  | 22 => ⟨S1x512, .f32⟩
  | 23 => ⟨S_, .f32⟩
  | 24 => ⟨S1x512, .f32⟩
  | 25 => ⟨S1x512, .f32⟩
  | 26 => ⟨S1024x512, .f32⟩
  | 27 => ⟨S1024x512, .f32⟩
  | 28 => ⟨S1024x512, .f32⟩
  | 29 => ⟨S_, .f32⟩
  | 30 => ⟨S_, .f32⟩
  | 31 => ⟨S_, .f32⟩
  | 32 => ⟨S_, .f32⟩
  | 33 => ⟨S512, .f32⟩
  | 34 => ⟨S1x512, .f32⟩
  | 35 => ⟨S1x512, .f32⟩
  | 36 => ⟨S1x512, .f32⟩
  | 37 => ⟨S_, .f32⟩
  | 38 => ⟨S_, .i1⟩
  | 39 => ⟨S_, .f32⟩
  | 40 => ⟨S_, .f32⟩
  | 41 => ⟨S1x512, .f32⟩
  | 42 => ⟨S1x512, .f32⟩
  | 43 => ⟨S1024x512, .f32⟩
  | 44 => ⟨S1024x512, .f32⟩
  | 45 => ⟨S1x512, .f32⟩
  | 46 => ⟨S1024x512, .f32⟩
  | 47 => ⟨S1024x512, .f32⟩
  | 48 => ⟨S_, .f32⟩
  | 49 => ⟨S1x512, .f32⟩
  | 50 => ⟨S1x512, .f32⟩
  | 51 => ⟨S1x512, .f32⟩
  | 52 => ⟨S1024x512, .f32⟩
  | 53 => ⟨S1024x512, .f32⟩
  | 54 => ⟨S1x512, .f32⟩
  | 55 => ⟨S1024x512, .f32⟩
  | 56 => ⟨S1024x512, .f32⟩
  | 57 => ⟨S_, .f32⟩
  | 58 => ⟨S1024x512, .f32⟩
  | 59 => ⟨S1024x512, .f32⟩
  | 60 => ⟨S1024x7x512, .f32⟩
  | 61 => ⟨S1024x3584, .f32⟩
  | 62 => ⟨S1024x512, .f32⟩
  | 63 => ⟨S_, .f32⟩
  | 64 => ⟨S512, .f32⟩
  | 65 => ⟨S1x512, .f32⟩
  | 66 => ⟨S_, .f32⟩
  | 67 => ⟨S1x512, .f32⟩
  | 68 => ⟨S1x512, .f32⟩
  | 69 => ⟨S_, .i32⟩
  | 70 => ⟨S_, .f32⟩
  | 71 => ⟨S512, .f32⟩
  | 72 => ⟨S1x512, .f32⟩
  | 73 => ⟨S_, .f32⟩
  | 74 => ⟨S1x512, .f32⟩
  | 75 => ⟨S1x512, .f32⟩
  | 76 => ⟨S1024x512, .f32⟩
  | 77 => ⟨S1024x512, .f32⟩
  | 78 => ⟨S1024x512, .f32⟩
  | 79 => ⟨S_, .f32⟩
  | 80 => ⟨S_, .f32⟩
  | 81 => ⟨S_, .f32⟩
  | 82 => ⟨S_, .f32⟩
  | 83 => ⟨S512, .f32⟩
  | 84 => ⟨S1x512, .f32⟩
  | 85 => ⟨S1x512, .f32⟩
  | 86 => ⟨S1x512, .f32⟩
  | 87 => ⟨S_, .f32⟩
  | 88 => ⟨S_, .i1⟩
  | 89 => ⟨S_, .f32⟩
  | 90 => ⟨S_, .f32⟩
  | 91 => ⟨S1x512, .f32⟩
  | 92 => ⟨S1x512, .f32⟩
  | 93 => ⟨S1024x512, .f32⟩
  | 94 => ⟨S1024x512, .f32⟩
  | 95 => ⟨S1x512, .f32⟩
  | 96 => ⟨S1024x512, .f32⟩
  | 97 => ⟨S1024x512, .f32⟩
  | 98 => ⟨S_, .f32⟩
  | 99 => ⟨S1x512, .f32⟩
  | 100 => ⟨S1x512, .f32⟩
  | 101 => ⟨S1x512, .f32⟩
  | 102 => ⟨S1024x512, .f32⟩
  | 103 => ⟨S1024x512, .f32⟩
  | 104 => ⟨S1x512, .f32⟩
  | 105 => ⟨S1024x512, .f32⟩
  | 106 => ⟨S1024x512, .f32⟩
  | 107 => ⟨S_, .f32⟩
  | 108 => ⟨S1024x512, .f32⟩
  | 109 => ⟨S1024x512, .f32⟩
  | 110 => ⟨S_, .f32⟩
  | 111 => ⟨S512, .f32⟩
  | 112 => ⟨S1x512, .f32⟩
  | 113 => ⟨S_, .f32⟩
  | 114 => ⟨S1x512, .f32⟩
  | 115 => ⟨S1x512, .f32⟩
  | 116 => ⟨S_, .i32⟩
  | 117 => ⟨S_, .f32⟩
  | 118 => ⟨S512, .f32⟩
  | 119 => ⟨S1x512, .f32⟩
  | 120 => ⟨S_, .f32⟩
  | 121 => ⟨S1x512, .f32⟩
  | 122 => ⟨S1x512, .f32⟩
  | 123 => ⟨S1024x512, .f32⟩
  | 124 => ⟨S1024x512, .f32⟩
  | 125 => ⟨S1024x512, .f32⟩
  | 126 => ⟨S_, .f32⟩
  | 127 => ⟨S_, .f32⟩
  | _ => ⟨S1024x512, .f32⟩

abbrev hbmTy0_2 (i : Nat) : BufTy := match i % 128 with
  | 0 => ⟨S_, .f32⟩
  | 1 => ⟨S_, .f32⟩
  | 2 => ⟨S512, .f32⟩
  | 3 => ⟨S1x512, .f32⟩
  | 4 => ⟨S1x512, .f32⟩
  | 5 => ⟨S1x512, .f32⟩
  | 6 => ⟨S_, .f32⟩
  | 7 => ⟨S_, .i1⟩
  | 8 => ⟨S_, .f32⟩
  | 9 => ⟨S_, .f32⟩
  | 10 => ⟨S1x512, .f32⟩
  | 11 => ⟨S1x512, .f32⟩
  | 12 => ⟨S1024x512, .f32⟩
  | 13 => ⟨S1024x512, .f32⟩
  | 14 => ⟨S1x512, .f32⟩
  | 15 => ⟨S1024x512, .f32⟩
  | 16 => ⟨S1024x512, .f32⟩
  | 17 => ⟨S_, .f32⟩
  | 18 => ⟨S1x512, .f32⟩
  | 19 => ⟨S1x512, .f32⟩
  | 20 => ⟨S1x512, .f32⟩
  | 21 => ⟨S1024x512, .f32⟩
  | 22 => ⟨S1024x512, .f32⟩
  | 23 => ⟨S1x512, .f32⟩
  | 24 => ⟨S1024x512, .f32⟩
  | 25 => ⟨S1024x512, .f32⟩
  | 26 => ⟨S_, .f32⟩
  | 27 => ⟨S512, .f32⟩
  | _ => ⟨S1024x512, .f32⟩

abbrev hbmTy (i : Nat) : BufTy := match i / 128 with
  | 0 => hbmTy0_0 i
  | 1 => hbmTy0_1 i
  | 2 => hbmTy0_2 i
  | _ => ⟨S1024x512, .f32⟩

abbrev bufTy : (tb : Table) → Fin (tcTables nBuf tb) → BufTy
  | .hbm, ⟨i, _⟩ => hbmTy i
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_c_0 : Ref sig .tc := ⟨.hbm, 27, rfl⟩
abbrev main_v8 : Ref sig .tc := ⟨.hbm, 28, rfl⟩
abbrev main_v9 : Ref sig .tc := ⟨.hbm, 29, rfl⟩
abbrev main_c_1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_c_3 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_v29 : Ref sig .tc := ⟨.hbm, 54, rfl⟩
abbrev main_c_6 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_cst_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_cst_1 : Ref sig .tc := ⟨.hbm, 66, rfl⟩
abbrev main_call0_v8 : Ref sig .tc := ⟨.hbm, 67, rfl⟩
abbrev main_call0_cst_2 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_v12 : Ref sig .tc := ⟨.hbm, 72, rfl⟩
abbrev main_call0_cst_3 : Ref sig .tc := ⟨.hbm, 73, rfl⟩
abbrev main_call0_v13 : Ref sig .tc := ⟨.hbm, 74, rfl⟩
abbrev main_call0_cst_4 : Ref sig .tc := ⟨.hbm, 75, rfl⟩
abbrev main_call0_call0_v0 : Ref sig .tc := ⟨.hbm, 76, rfl⟩
abbrev main_call0_call0_v1 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_cst_7 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_call1_cst : Ref sig .tc := ⟨.hbm, 93, rfl⟩
abbrev main_call1_v0 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_cst_8 : Ref sig .tc := ⟨.hbm, 102, rfl⟩
abbrev main_v51 : Ref sig .tc := ⟨.hbm, 103, rfl⟩
abbrev main_v52 : Ref sig .tc := ⟨.hbm, 104, rfl⟩
abbrev main_values : Ref sig .tc := ⟨.hbm, 105, rfl⟩
abbrev main_indices : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_cst_9 : Ref sig .tc := ⟨.hbm, 110, rfl⟩
abbrev main_v56 : Ref sig .tc := ⟨.hbm, 111, rfl⟩
abbrev main_v57 : Ref sig .tc := ⟨.hbm, 112, rfl⟩
abbrev main_cst_10 : Ref sig .tc := ⟨.hbm, 113, rfl⟩
abbrev main_call2_v0 : Ref sig .tc := ⟨.hbm, 114, rfl⟩
abbrev main_call2_v1 : Ref sig .tc := ⟨.hbm, 115, rfl⟩
abbrev main_v58 : Ref sig .tc := ⟨.hbm, 116, rfl⟩
abbrev main_cst_11 : Ref sig .tc := ⟨.hbm, 117, rfl⟩
abbrev main_v59 : Ref sig .tc := ⟨.hbm, 118, rfl⟩
abbrev main_cst_12 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_cst_13 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_cst_14 : Ref sig .tc := ⟨.hbm, 141, rfl⟩
abbrev main_v80 : Ref sig .tc := ⟨.hbm, 142, rfl⟩
abbrev main_v81 : Ref sig .tc := ⟨.hbm, 143, rfl⟩
abbrev main_cst_15 : Ref sig .tc := ⟨.hbm, 144, rfl⟩
abbrev main_v82 : Ref sig .tc := ⟨.hbm, 145, rfl⟩
abbrev main_v83 : Ref sig .tc := ⟨.hbm, 146, rfl⟩
abbrev main_c_16 : Ref sig .tc := ⟨.hbm, 147, rfl⟩
abbrev main_call3_cst : Ref sig .tc := ⟨.hbm, 148, rfl⟩
abbrev main_call3_v0 : Ref sig .tc := ⟨.hbm, 149, rfl⟩
abbrev main_call3_v1 : Ref sig .tc := ⟨.hbm, 150, rfl⟩
abbrev main_call3_cst_0 : Ref sig .tc := ⟨.hbm, 151, rfl⟩
abbrev main_call3_v2 : Ref sig .tc := ⟨.hbm, 152, rfl⟩
abbrev main_call3_v3 : Ref sig .tc := ⟨.hbm, 153, rfl⟩
abbrev main_call3_v4 : Ref sig .tc := ⟨.hbm, 154, rfl⟩
abbrev main_call3_v5 : Ref sig .tc := ⟨.hbm, 155, rfl⟩
abbrev main_call3_v6 : Ref sig .tc := ⟨.hbm, 156, rfl⟩
abbrev main_call3_v7 : Ref sig .tc := ⟨.hbm, 157, rfl⟩
abbrev main_call3_cst_1 : Ref sig .tc := ⟨.hbm, 158, rfl⟩
abbrev main_call3_v8 : Ref sig .tc := ⟨.hbm, 159, rfl⟩
abbrev main_call3_cst_2 : Ref sig .tc := ⟨.hbm, 160, rfl⟩
abbrev main_call3_v9 : Ref sig .tc := ⟨.hbm, 161, rfl⟩
abbrev main_call3_v10 : Ref sig .tc := ⟨.hbm, 162, rfl⟩
abbrev main_call3_v11 : Ref sig .tc := ⟨.hbm, 163, rfl⟩
abbrev main_call3_v12 : Ref sig .tc := ⟨.hbm, 164, rfl⟩
abbrev main_call3_cst_3 : Ref sig .tc := ⟨.hbm, 165, rfl⟩
abbrev main_call3_v13 : Ref sig .tc := ⟨.hbm, 166, rfl⟩
abbrev main_call3_cst_4 : Ref sig .tc := ⟨.hbm, 167, rfl⟩
abbrev main_call3_call0_v0 : Ref sig .tc := ⟨.hbm, 168, rfl⟩
abbrev main_call3_call0_v1 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_cst_17 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_call4_cst : Ref sig .tc := ⟨.hbm, 185, rfl⟩
abbrev main_call4_v0 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_v101 : Ref sig .tc := ⟨.hbm, 190, rfl⟩
abbrev main_cst_18 : Ref sig .tc := ⟨.hbm, 191, rfl⟩
abbrev main_v102 : Ref sig .tc := ⟨.hbm, 192, rfl⟩
abbrev main_v103 : Ref sig .tc := ⟨.hbm, 193, rfl⟩
abbrev main_cst_19 : Ref sig .tc := ⟨.hbm, 194, rfl⟩
abbrev main_v104 : Ref sig .tc := ⟨.hbm, 195, rfl⟩
abbrev main_v105 : Ref sig .tc := ⟨.hbm, 196, rfl⟩
abbrev main_c_20 : Ref sig .tc := ⟨.hbm, 197, rfl⟩
abbrev main_call5_cst : Ref sig .tc := ⟨.hbm, 198, rfl⟩
abbrev main_call5_v0 : Ref sig .tc := ⟨.hbm, 199, rfl⟩
abbrev main_call5_v1 : Ref sig .tc := ⟨.hbm, 200, rfl⟩
abbrev main_call5_cst_0 : Ref sig .tc := ⟨.hbm, 201, rfl⟩
abbrev main_call5_v2 : Ref sig .tc := ⟨.hbm, 202, rfl⟩
abbrev main_call5_v3 : Ref sig .tc := ⟨.hbm, 203, rfl⟩
abbrev main_call5_v4 : Ref sig .tc := ⟨.hbm, 204, rfl⟩
abbrev main_call5_v5 : Ref sig .tc := ⟨.hbm, 205, rfl⟩
abbrev main_call5_v6 : Ref sig .tc := ⟨.hbm, 206, rfl⟩
abbrev main_call5_v7 : Ref sig .tc := ⟨.hbm, 207, rfl⟩
abbrev main_call5_cst_1 : Ref sig .tc := ⟨.hbm, 208, rfl⟩
abbrev main_call5_v8 : Ref sig .tc := ⟨.hbm, 209, rfl⟩
abbrev main_call5_cst_2 : Ref sig .tc := ⟨.hbm, 210, rfl⟩
abbrev main_call5_v9 : Ref sig .tc := ⟨.hbm, 211, rfl⟩
abbrev main_call5_v10 : Ref sig .tc := ⟨.hbm, 212, rfl⟩
abbrev main_call5_v11 : Ref sig .tc := ⟨.hbm, 213, rfl⟩
abbrev main_call5_v12 : Ref sig .tc := ⟨.hbm, 214, rfl⟩
abbrev main_call5_cst_3 : Ref sig .tc := ⟨.hbm, 215, rfl⟩
abbrev main_call5_v13 : Ref sig .tc := ⟨.hbm, 216, rfl⟩
abbrev main_call5_cst_4 : Ref sig .tc := ⟨.hbm, 217, rfl⟩
abbrev main_call5_call0_v0 : Ref sig .tc := ⟨.hbm, 218, rfl⟩
abbrev main_call5_call0_v1 : Ref sig .tc := ⟨.hbm, 219, rfl⟩
abbrev main_v106 : Ref sig .tc := ⟨.hbm, 220, rfl⟩
abbrev main_v107 : Ref sig .tc := ⟨.hbm, 221, rfl⟩
abbrev main_v108 : Ref sig .tc := ⟨.hbm, 222, rfl⟩
abbrev main_v109 : Ref sig .tc := ⟨.hbm, 223, rfl⟩
abbrev main_v110 : Ref sig .tc := ⟨.hbm, 224, rfl⟩
abbrev main_v111 : Ref sig .tc := ⟨.hbm, 225, rfl⟩
abbrev main_cst_21 : Ref sig .tc := ⟨.hbm, 226, rfl⟩
abbrev main_v112 : Ref sig .tc := ⟨.hbm, 227, rfl⟩
abbrev main_v113 : Ref sig .tc := ⟨.hbm, 228, rfl⟩
abbrev main_v114 : Ref sig .tc := ⟨.hbm, 229, rfl⟩
abbrev main_v115 : Ref sig .tc := ⟨.hbm, 230, rfl⟩
abbrev main_v116 : Ref sig .tc := ⟨.hbm, 231, rfl⟩
abbrev main_v117 : Ref sig .tc := ⟨.hbm, 232, rfl⟩
abbrev main_v118 : Ref sig .tc := ⟨.hbm, 233, rfl⟩
abbrev main_v119 : Ref sig .tc := ⟨.hbm, 234, rfl⟩
abbrev main_call6_cst : Ref sig .tc := ⟨.hbm, 235, rfl⟩
abbrev main_call6_v0 : Ref sig .tc := ⟨.hbm, 236, rfl⟩
abbrev main_v120 : Ref sig .tc := ⟨.hbm, 237, rfl⟩
abbrev main_cst_22 : Ref sig .tc := ⟨.hbm, 238, rfl⟩
abbrev main_v121 : Ref sig .tc := ⟨.hbm, 239, rfl⟩
abbrev main_v122 : Ref sig .tc := ⟨.hbm, 240, rfl⟩
abbrev main_cst_23 : Ref sig .tc := ⟨.hbm, 241, rfl⟩
abbrev main_v123 : Ref sig .tc := ⟨.hbm, 242, rfl⟩
abbrev main_v124 : Ref sig .tc := ⟨.hbm, 243, rfl⟩
abbrev main_c_24 : Ref sig .tc := ⟨.hbm, 244, rfl⟩
abbrev main_call7_cst : Ref sig .tc := ⟨.hbm, 245, rfl⟩
abbrev main_call7_v0 : Ref sig .tc := ⟨.hbm, 246, rfl⟩
abbrev main_call7_v1 : Ref sig .tc := ⟨.hbm, 247, rfl⟩
abbrev main_call7_cst_0 : Ref sig .tc := ⟨.hbm, 248, rfl⟩
abbrev main_call7_v2 : Ref sig .tc := ⟨.hbm, 249, rfl⟩
abbrev main_call7_v3 : Ref sig .tc := ⟨.hbm, 250, rfl⟩
abbrev main_call7_v4 : Ref sig .tc := ⟨.hbm, 251, rfl⟩
abbrev main_call7_v5 : Ref sig .tc := ⟨.hbm, 252, rfl⟩
abbrev main_call7_v6 : Ref sig .tc := ⟨.hbm, 253, rfl⟩
abbrev main_call7_v7 : Ref sig .tc := ⟨.hbm, 254, rfl⟩
abbrev main_call7_cst_1 : Ref sig .tc := ⟨.hbm, 255, rfl⟩
abbrev main_call7_v8 : Ref sig .tc := ⟨.hbm, 256, rfl⟩
abbrev main_call7_cst_2 : Ref sig .tc := ⟨.hbm, 257, rfl⟩
abbrev main_call7_v9 : Ref sig .tc := ⟨.hbm, 258, rfl⟩
abbrev main_call7_v10 : Ref sig .tc := ⟨.hbm, 259, rfl⟩
abbrev main_call7_v11 : Ref sig .tc := ⟨.hbm, 260, rfl⟩
abbrev main_call7_v12 : Ref sig .tc := ⟨.hbm, 261, rfl⟩
abbrev main_call7_cst_3 : Ref sig .tc := ⟨.hbm, 262, rfl⟩
abbrev main_call7_v13 : Ref sig .tc := ⟨.hbm, 263, rfl⟩
abbrev main_call7_cst_4 : Ref sig .tc := ⟨.hbm, 264, rfl⟩
abbrev main_call7_call0_v0 : Ref sig .tc := ⟨.hbm, 265, rfl⟩
abbrev main_call7_call0_v1 : Ref sig .tc := ⟨.hbm, 266, rfl⟩
abbrev main_v125 : Ref sig .tc := ⟨.hbm, 267, rfl⟩
abbrev main_v126 : Ref sig .tc := ⟨.hbm, 268, rfl⟩
abbrev main_v127 : Ref sig .tc := ⟨.hbm, 269, rfl⟩
abbrev main_v128 : Ref sig .tc := ⟨.hbm, 270, rfl⟩
abbrev main_v129 : Ref sig .tc := ⟨.hbm, 271, rfl⟩
abbrev main_v130 : Ref sig .tc := ⟨.hbm, 272, rfl⟩
abbrev main_cst_25 : Ref sig .tc := ⟨.hbm, 273, rfl⟩
abbrev main_v131 : Ref sig .tc := ⟨.hbm, 274, rfl⟩
abbrev main_v132 : Ref sig .tc := ⟨.hbm, 275, rfl⟩
abbrev main_v133 : Ref sig .tc := ⟨.hbm, 276, rfl⟩
abbrev main_v134 : Ref sig .tc := ⟨.hbm, 277, rfl⟩
abbrev main_v135 : Ref sig .tc := ⟨.hbm, 278, rfl⟩
abbrev main_v136 : Ref sig .tc := ⟨.hbm, 279, rfl⟩
abbrev main_v137 : Ref sig .tc := ⟨.hbm, 280, rfl⟩
abbrev main_v138 : Ref sig .tc := ⟨.hbm, 281, rfl⟩
abbrev main_cst_26 : Ref sig .tc := ⟨.hbm, 282, rfl⟩
abbrev main_v139 : Ref sig .tc := ⟨.hbm, 283, rfl⟩

abbrev nD : Nat := 1
abbrev τ : Topo := Topo.v7x

variable {F : FTy → Type} [FloatOps F]
-- ==== Proof.Setup.lean ====
/-
  The program as the launch theorem sees it: the SparseCore call `K`, the kernels' body table `D`, the resource
  algebra (the handshakes' rounds beside the transfers' counters), the arrays the call works on and the tile's
  memrefs. Stated for `Cert.Kernel` at any float instance.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.Kernel

@[expose] public section

noncomputable section

namespace Cert.Adj

open Cert.Kernel Cert.Kernel.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The call and the body table -/

/-- The kernels' label signature, lifted through the empty family of TensorCore pipelines. -/
abbrev ΛP : Labels := Pipeline.Sig Λ₀ (Fin 0) fun p => (pcfgs (F := F) p).Adm
/-- The SparseCore calls of the program. -/
abbrev K : SparseCore.Cfg τ sig (ΛP (F := F)) 1 := sc (F := F)
/-- The kernels' body table, lifted. -/
abbrev D [FloatOps F] : Defs nD τ sig (Elt F) (ΛP (F := F)) := Pipeline.defs pcfgs defs₀
/-- The kernel makes no call of its own. -/
abbrev 𝒱₀ : Variants := Variants.none
abbrev 𝒱 : Variants := 𝒱₀.lift
abbrev v₀ : 𝒱.V := Sum.inl none

/-- The facts about launch semaphores and SparseCore buffers that the launch theorem takes. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

/-- The handshakes' rounds library, the left factor; the transfers' counters are the right one. -/
abbrev EH : Emb UH (MT nD τ sig (HIx 1) (Elt F) ℕ UU ℕ) := embL

/-! ## The arrays of the call and a tile's memrefs -/

/-- The edge list, the relations, the weights (arguments 1, 2, 3) and the adjacency (the call's result), as locations of
    device `d`. -/
abbrev eLoc (d : Dev nD) : Loc nD τ sig := (SparseCore.T d).loc main_arg1
abbrev rLoc (d : Dev nD) : Loc nD τ sig := (SparseCore.T d).loc main_arg2
abbrev wLoc (d : Dev nD) : Loc nD τ sig := (SparseCore.T d).loc main_arg3
abbrev oLoc (d : Dev nD) : Loc nD τ sig := (SparseCore.T d).loc main_v0

/-- The tile of coordinates `i` (SparseCore `i 0`, subcore `i 1`) on device `d`. -/
abbrev tile (d : Dev nD) (i : grid0.Coords) : Thread nD τ := V d ((i 0).castLE hcore0) ((i 1).castLE hsub0)

abbrev eM : Memref sig .scVector .hbm S2x32768 .i32 := Memref.whole main_arg1_scv
abbrev rM : Memref sig .scVector .hbm S32768 .i32 := Memref.whole main_arg2_scv
abbrev wM : Memref sig .scVector .hbm S32768 .f32 := Memref.whole main_arg3_scv
abbrev oM : Memref sig .scVector .hbm S1024x7168 .f32 := Memref.whole main_v0_scv
/-- The sixteen adjacency rows a tile builds at a time, flat. -/
abbrev aM : Memref sig .scVector .vmem S114688 .f32 := Memref.whole cc0_scratch0
/-- A chunk of 2048 edges: their rows, their columns, their relations, their weights. -/
abbrev bM : Memref sig .scVector .vmem S2048 .i32 := Memref.whole cc0_scratch1
abbrev cM : Memref sig .scVector .vmem S2048 .i32 := Memref.whole cc0_scratch2
abbrev lM : Memref sig .scVector .vmem S2048 .i32 := Memref.whole cc0_scratch3
abbrev mM : Memref sig .scVector .vmem S2048 .f32 := Memref.whole cc0_scratch4

end Cert.Adj

end
-- ==== Proof.Host.lean ====
/-
  @main after the call, as lists of its host operations in order, cut where a named array is finished; that @main is
  the call followed by them, and which buffers each list reads and writes.
-/
module

public import proofs.«01_k».proof.Proof.Setup

@[expose] public section

noncomputable section

namespace Cert.Adj

open Cert.Kernel Cert.Kernel.Gen
open Idealize.ShloMosaic Idealize.ShloMosaic.TcCoe Idealize.SL.Sem Idealize.ShloMosaic.StableHlo

variable {F : FTy → Type} [FloatOps F]

/-- Two columns of indices side by side. -/
def pairs : (⟨S32768x1, .i32⟩ : BufTy).Contents (Elt F) → (⟨S32768x1, .i32⟩ : BufTy).Contents (Elt F) → (⟨S32768x2, .i32⟩ : BufTy).Contents (Elt F) :=
  fun a b => concatenate S32768x2 1 [⟨S32768x1, a⟩, ⟨S32768x1, b⟩] concatenates_S32768x1_S32768x1_S32768x2_d1
/-- The last two relations' block before the first five'. -/
def overlay : (⟨S1024x2048, .f32⟩ : BufTy).Contents (Elt F) → (⟨S1024x5120, .f32⟩ : BufTy).Contents (Elt F) → (⟨S1024x7168, .f32⟩ : BufTy).Contents (Elt F) :=
  fun a b => concatenate S1024x7168 1 [⟨S1024x2048, a⟩, ⟨S1024x5120, b⟩] concatenates_S1024x2048_S1024x5120_S1024x7168_d1

/-- Operations 1 … 28: the reference adjacency: index pairs built from the edges, the weights scattered with add into zeros. -/
def opsA : List (HloOp τ sig (Elt F)) :=
  [ nullary main_c (constantI S_ 32 1024#32),
    unary main_c main_v1 (broadcastInDim S32768 ![] bcast_S_S32768 : (⟨S_, .i32⟩ : BufTy).Contents (Elt F) → (⟨S32768, .i32⟩ : BufTy).Contents (Elt F)),
    binary main_arg2 main_v1 main_v2 (muli : (⟨S32768, .i32⟩ : BufTy).Contents (Elt F) → (⟨S32768, .i32⟩ : BufTy).Contents (Elt F) → (⟨S32768, .i32⟩ : BufTy).Contents (Elt F)),
    unary main_arg1 main_v3 ((extractStridedSlice S1x32768 ![1, 0] · slices_S2x32768_S1x32768_1_0) : (⟨S2x32768, .i32⟩ : BufTy).Contents (Elt F) → (⟨S1x32768, .i32⟩ : BufTy).Contents (Elt F)),
    reshape main_v3 main_v4 (rfl : (.i32 : EltTy) = .i32) shapeCasts_S1x32768_S32768,
    binary main_v2 main_v4 main_v5 (addi : (⟨S32768, .i32⟩ : BufTy).Contents (Elt F) → (⟨S32768, .i32⟩ : BufTy).Contents (Elt F) → (⟨S32768, .i32⟩ : BufTy).Contents (Elt F)),
    nullary main_cst (constant S_ .f32 0x00000000#32),
    unary main_cst main_v6 (broadcastInDim S1024x7168 ![] bcast_S_S1024x7168 : (⟨S_, .f32⟩ : BufTy).Contents (Elt F) → (⟨S1024x7168, .f32⟩ : BufTy).Contents (Elt F)),
    unary main_arg1 main_v7 ((extractStridedSlice S1x32768 ![0, 0] · slices_S2x32768_S1x32768_0_0) : (⟨S2x32768, .i32⟩ : BufTy).Contents (Elt F) → (⟨S1x32768, .i32⟩ : BufTy).Contents (Elt F)),
    reshape main_v7 main_v8 (rfl : (.i32 : EltTy) = .i32) shapeCasts_S1x32768_S32768,
    nullary main_c_0 (constantI S_ 32 0#32),
    unary main_c_0 main_v9 (broadcastInDim S32768 ![] bcast_S_S32768 : (⟨S_, .i32⟩ : BufTy).Contents (Elt F) → (⟨S32768, .i32⟩ : BufTy).Contents (Elt F)),
    binary main_v8 main_v9 main_v10 (cmpi .slt : (⟨S32768, .i32⟩ : BufTy).Contents (Elt F) → (⟨S32768, .i32⟩ : BufTy).Contents (Elt F) → (⟨S32768, .i1⟩ : BufTy).Contents (Elt F)),
    nullary main_c_1 (constantI S_ 32 1024#32),
    unary main_c_1 main_v11 (broadcastInDim S32768 ![] bcast_S_S32768 : (⟨S_, .i32⟩ : BufTy).Contents (Elt F) → (⟨S32768, .i32⟩ : BufTy).Contents (Elt F)),
    binary main_v8 main_v11 main_v12 (addi : (⟨S32768, .i32⟩ : BufTy).Contents (Elt F) → (⟨S32768, .i32⟩ : BufTy).Contents (Elt F) → (⟨S32768, .i32⟩ : BufTy).Contents (Elt F)),
    ternary main_v10 main_v12 main_v8 main_v13 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    nullary main_c_2 (constantI S_ 32 0#32),
    unary main_c_2 main_v14 (broadcastInDim S32768 ![] bcast_S_S32768 : (⟨S_, .i32⟩ : BufTy).Contents (Elt F) → (⟨S32768, .i32⟩ : BufTy).Contents (Elt F)),
    binary main_v5 main_v14 main_v15 (cmpi .slt : (⟨S32768, .i32⟩ : BufTy).Contents (Elt F) → (⟨S32768, .i32⟩ : BufTy).Contents (Elt F) → (⟨S32768, .i1⟩ : BufTy).Contents (Elt F)),
    nullary main_c_3 (constantI S_ 32 7168#32),
    unary main_c_3 main_v16 (broadcastInDim S32768 ![] bcast_S_S32768 : (⟨S_, .i32⟩ : BufTy).Contents (Elt F) → (⟨S32768, .i32⟩ : BufTy).Contents (Elt F)),
    binary main_v5 main_v16 main_v17 (addi : (⟨S32768, .i32⟩ : BufTy).Contents (Elt F) → (⟨S32768, .i32⟩ : BufTy).Contents (Elt F) → (⟨S32768, .i32⟩ : BufTy).Contents (Elt F)),
    ternary main_v15 main_v17 main_v5 main_v18 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v13 main_v19 (broadcastInDim S32768x1 ![0] bcast_S32768_S32768x1_0 : (⟨S32768, .i32⟩ : BufTy).Contents (Elt F) → (⟨S32768x1, .i32⟩ : BufTy).Contents (Elt F)),
    unary main_v18 main_v20 (broadcastInDim S32768x1 ![0] bcast_S32768_S32768x1_0 : (⟨S32768, .i32⟩ : BufTy).Contents (Elt F) → (⟨S32768x1, .i32⟩ : BufTy).Contents (Elt F)),
    binary main_v19 main_v20 main_v21 (pairs (F := F)),
    ternary main_v6 main_v21 main_arg3 main_v22 ((fun x i u => Host.scatterAdd scatter_S1024x7168_S32768x2_S32768_n_01_01_1 x i u) : (⟨S1024x7168, .f32⟩ : BufTy).Contents (Elt F) → (⟨S32768x2, .i32⟩ : BufTy).Contents (Elt F) → (⟨S32768, .f32⟩ : BufTy).Contents (Elt F) → (⟨S1024x7168, .f32⟩ : BufTy).Contents (Elt F)) ]

/-- Operations 29 … 32: the features mixed along the adjacency and projected, one relation at a time. -/
def opsB : List (HloOp τ sig (Elt F)) :=
  [ reshape main_v22 main_v23 (rfl : (.f32 : EltTy) = .f32) shapeCasts_S1024x7168_S1024x7x1024,
    binary main_arg0 main_v23 main_v24 ((fun l r => Host.dotGeneral dot_S1024x512_S1024x7x1024_S512x1024x7_0_2_1_01_n_n none l r) : (⟨S1024x512, .f32⟩ : BufTy).Contents (Elt F) → (⟨S1024x7x1024, .f32⟩ : BufTy).Contents (Elt F) → (⟨S512x1024x7, .f32⟩ : BufTy).Contents (Elt F)),
    unary main_v24 main_v25 ((transpose S7x1024x512 [2, 1, 0] · transposes_S512x1024x7_S7x1024x512_2_1_0) : (⟨S512x1024x7, .f32⟩ : BufTy).Contents (Elt F) → (⟨S7x1024x512, .f32⟩ : BufTy).Contents (Elt F)),
    binary main_v25 main_arg4 main_v26 ((fun l r => Host.dotGeneral dot_S7x1024x512_S7x512x512_S7x1024x512_2_1_1_2_0_0 none l r) : (⟨S7x1024x512, .f32⟩ : BufTy).Contents (Elt F) → (⟨S7x512x512, .f32⟩ : BufTy).Contents (Elt F) → (⟨S7x1024x512, .f32⟩ : BufTy).Contents (Elt F)) ]

/-- Operations 33 … 80: the first normalisation and its activation. -/
def opsC : List (HloOp τ sig (Elt F)) :=
  [ nullary main_cst_4 (constant S_ .f32 0x00000000#32),
    binary main_v26 main_cst_4 main_v27 ((fun x v => Host.reduceAdd x v reducesTo_S7x1024x512_S7x512_d1 h_S_) : (⟨S7x1024x512, .f32⟩ : BufTy).Contents (Elt F) → (⟨S_, .f32⟩ : BufTy).Contents (Elt F) → (⟨S7x512, .f32⟩ : BufTy).Contents (Elt F)),
    unary main_v27 main_v28 (broadcastInDim S7x1x512 ![0, 2] bcast_S7x512_S7x1x512_0_2 : (⟨S7x512, .f32⟩ : BufTy).Contents (Elt F) → (⟨S7x1x512, .f32⟩ : BufTy).Contents (Elt F)),
    nullary main_cst_5 (constant S_ .f32 0x44800000#32),
    unary main_cst_5 main_v29 (broadcastInDim S7x1x512 ![] bcast_S_S7x1x512 : (⟨S_, .f32⟩ : BufTy).Contents (Elt F) → (⟨S7x1x512, .f32⟩ : BufTy).Contents (Elt F)),
    binary main_v28 main_v29 main_v30 (Host.divf : (⟨S7x1x512, .f32⟩ : BufTy).Contents (Elt F) → (⟨S7x1x512, .f32⟩ : BufTy).Contents (Elt F) → (⟨S7x1x512, .f32⟩ : BufTy).Contents (Elt F)),
    nullary main_c_6 (constantI S_ 32 0#32),
    TRef.nullary (TRef.of (T := ⟨S_, .f32⟩) main_call0_cst) (constant S_ .f32 0x00000000#32),
    TRef.binary (TRef.of (T := ⟨S7x1024x512, .f32⟩) main_v26) (TRef.of (T := ⟨S_, .f32⟩) main_call0_cst) (TRef.of (T := ⟨S7x512, .f32⟩) main_call0_v0) (fun x v => Host.reduceAdd x v reducesTo_S7x1024x512_S7x512_d1 h_S_),
    TRef.unary (TRef.of (T := ⟨S7x512, .f32⟩) main_call0_v0) (TRef.of (T := ⟨S7x1x512, .f32⟩) main_call0_v1) (broadcastInDim S7x1x512 ![0, 2] bcast_S7x512_S7x1x512_0_2),
    TRef.nullary (TRef.of (T := ⟨S_, .f32⟩) main_call0_cst_0) (constant S_ .f32 0x44800000#32),
    TRef.unary (TRef.of (T := ⟨S_, .f32⟩) main_call0_cst_0) (TRef.of (T := ⟨S7x1x512, .f32⟩) main_call0_v2) (broadcastInDim S7x1x512 ![] bcast_S_S7x1x512),
    TRef.binary (TRef.of (T := ⟨S7x1x512, .f32⟩) main_call0_v1) (TRef.of (T := ⟨S7x1x512, .f32⟩) main_call0_v2) (TRef.of (T := ⟨S7x1x512, .f32⟩) main_call0_v3) Host.divf,
    TRef.unary (TRef.of (T := ⟨S7x1x512, .f32⟩) main_call0_v3) (TRef.of (T := ⟨S7x1024x512, .f32⟩) main_call0_v4) (broadcastInDim S7x1024x512 ![0, 1, 2] bcast_S7x1x512_S7x1024x512_0_1_2),
    TRef.binary (TRef.of (T := ⟨S7x1024x512, .f32⟩) main_v26) (TRef.of (T := ⟨S7x1024x512, .f32⟩) main_call0_v4) (TRef.of (T := ⟨S7x1024x512, .f32⟩) main_call0_v5) subf,
    TRef.binary (TRef.of (T := ⟨S7x1024x512, .f32⟩) main_call0_v5) (TRef.of (T := ⟨S7x1024x512, .f32⟩) main_call0_v5) (TRef.of (T := ⟨S7x1024x512, .f32⟩) main_call0_v6) mulf,
    TRef.unary (TRef.of (T := ⟨S_, .i32⟩) main_c_6) (TRef.of (T := ⟨S_, .f32⟩) main_call0_v7) (sitofp .f32),
    TRef.nullary (TRef.of (T := ⟨S_, .f32⟩) main_call0_cst_1) (constant S_ .f32 0x44800000#32),
    TRef.binary (TRef.of (T := ⟨S_, .f32⟩) main_call0_cst_1) (TRef.of (T := ⟨S_, .f32⟩) main_call0_v7) (TRef.of (T := ⟨S_, .f32⟩) main_call0_v8) subf,
    TRef.nullary (TRef.of (T := ⟨S_, .f32⟩) main_call0_cst_2) (constant S_ .f32 0x00000000#32),
    TRef.binary (TRef.of (T := ⟨S7x1024x512, .f32⟩) main_call0_v6) (TRef.of (T := ⟨S_, .f32⟩) main_call0_cst_2) (TRef.of (T := ⟨S7x512, .f32⟩) main_call0_v9) (fun x v => Host.reduceAdd x v reducesTo_S7x1024x512_S7x512_d1 h_S_),
    TRef.unary (TRef.of (T := ⟨S7x512, .f32⟩) main_call0_v9) (TRef.of (T := ⟨S7x1x512, .f32⟩) main_call0_v10) (broadcastInDim S7x1x512 ![0, 2] bcast_S7x512_S7x1x512_0_2),
    TRef.unary (TRef.of (T := ⟨S_, .f32⟩) main_call0_v8) (TRef.of (T := ⟨S7x1x512, .f32⟩) main_call0_v11) (broadcastInDim S7x1x512 ![] bcast_S_S7x1x512),
    TRef.binary (TRef.of (T := ⟨S7x1x512, .f32⟩) main_call0_v10) (TRef.of (T := ⟨S7x1x512, .f32⟩) main_call0_v11) (TRef.of (T := ⟨S7x1x512, .f32⟩) main_call0_v12) Host.divf,
    TRef.nullary (TRef.of (T := ⟨S_, .f32⟩) main_call0_cst_3) (constant S_ .f32 0x00000000#32),
    TRef.binary (TRef.of (T := ⟨S_, .f32⟩) main_call0_v8) (TRef.of (T := ⟨S_, .f32⟩) main_call0_cst_3) (TRef.of (T := ⟨S_, .i1⟩) main_call0_v13) (cmpf .ogt),
    TRef.nullary (TRef.of (T := ⟨S_, .f32⟩) main_call0_cst_4) (constant S_ .f32 0x7FC00000#32),
    TRef.unary (TRef.of (T := ⟨S_, .f32⟩) main_call0_cst_4) (TRef.of (T := ⟨S_, .f32⟩) main_call0_call0_v0) id,
    TRef.unary (TRef.of (T := ⟨S_, .f32⟩) main_call0_call0_v0) (TRef.of (T := ⟨S7x1x512, .f32⟩) main_call0_call0_v1) (broadcastInDim S7x1x512 ![] bcast_S_S7x1x512),
    TRef.ternary (TRef.of (T := ⟨S_, .i1⟩) main_call0_v13) (TRef.of (T := ⟨S7x1x512, .f32⟩) main_call0_v12) (TRef.of (T := ⟨S7x1x512, .f32⟩) main_call0_call0_v1) (TRef.of (T := ⟨S7x1x512, .f32⟩) main_v31) (fun p a b => select (broadcastInDim S7x1x512 ![] bcast_S_S7x1x512 p) a b),
    unary main_v30 main_v32 (broadcastInDim S7x1024x512 ![0, 1, 2] bcast_S7x1x512_S7x1024x512_0_1_2 : (⟨S7x1x512, .f32⟩ : BufTy).Contents (Elt F) → (⟨S7x1024x512, .f32⟩ : BufTy).Contents (Elt F)),
    binary main_v26 main_v32 main_v33 (subf : (⟨S7x1024x512, .f32⟩ : BufTy).Contents (Elt F) → (⟨S7x1024x512, .f32⟩ : BufTy).Contents (Elt F) → (⟨S7x1024x512, .f32⟩ : BufTy).Contents (Elt F)),
    unary main_arg5 main_v34 (broadcastInDim S1x1x512 ![2] bcast_S512_S1x1x512_2 : (⟨S512, .f32⟩ : BufTy).Contents (Elt F) → (⟨S1x1x512, .f32⟩ : BufTy).Contents (Elt F)),
    unary main_v34 main_v35 (broadcastInDim S7x1024x512 ![0, 1, 2] bcast_S1x1x512_S7x1024x512_0_1_2 : (⟨S1x1x512, .f32⟩ : BufTy).Contents (Elt F) → (⟨S7x1024x512, .f32⟩ : BufTy).Contents (Elt F)),
    binary main_v35 main_v33 main_v36 (mulf : (⟨S7x1024x512, .f32⟩ : BufTy).Contents (Elt F) → (⟨S7x1024x512, .f32⟩ : BufTy).Contents (Elt F) → (⟨S7x1024x512, .f32⟩ : BufTy).Contents (Elt F)),
    nullary main_cst_7 (constant S_ .f32 0x3727C5AC#32),
    unary main_cst_7 main_v37 (broadcastInDim S7x1x512 ![] bcast_S_S7x1x512 : (⟨S_, .f32⟩ : BufTy).Contents (Elt F) → (⟨S7x1x512, .f32⟩ : BufTy).Contents (Elt F)),
    binary main_v31 main_v37 main_v38 (addf : (⟨S7x1x512, .f32⟩ : BufTy).Contents (Elt F) → (⟨S7x1x512, .f32⟩ : BufTy).Contents (Elt F) → (⟨S7x1x512, .f32⟩ : BufTy).Contents (Elt F)),
    unary main_v38 main_v39 (Host.sqrt : (⟨S7x1x512, .f32⟩ : BufTy).Contents (Elt F) → (⟨S7x1x512, .f32⟩ : BufTy).Contents (Elt F)),
    unary main_v39 main_v40 (broadcastInDim S7x1024x512 ![0, 1, 2] bcast_S7x1x512_S7x1024x512_0_1_2 : (⟨S7x1x512, .f32⟩ : BufTy).Contents (Elt F) → (⟨S7x1024x512, .f32⟩ : BufTy).Contents (Elt F)),
    binary main_v36 main_v40 main_v41 (Host.divf : (⟨S7x1024x512, .f32⟩ : BufTy).Contents (Elt F) → (⟨S7x1024x512, .f32⟩ : BufTy).Contents (Elt F) → (⟨S7x1024x512, .f32⟩ : BufTy).Contents (Elt F)),
    unary main_arg6 main_v42 (broadcastInDim S1x1x512 ![2] bcast_S512_S1x1x512_2 : (⟨S512, .f32⟩ : BufTy).Contents (Elt F) → (⟨S1x1x512, .f32⟩ : BufTy).Contents (Elt F)),
    unary main_v42 main_v43 (broadcastInDim S7x1024x512 ![0, 1, 2] bcast_S1x1x512_S7x1024x512_0_1_2 : (⟨S1x1x512, .f32⟩ : BufTy).Contents (Elt F) → (⟨S7x1024x512, .f32⟩ : BufTy).Contents (Elt F)),
    binary main_v41 main_v43 main_v44 (addf : (⟨S7x1024x512, .f32⟩ : BufTy).Contents (Elt F) → (⟨S7x1024x512, .f32⟩ : BufTy).Contents (Elt F) → (⟨S7x1024x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S7x1024x512, .f32⟩) main_call1_v0) (broadcastInDim S7x1024x512 ![] bcast_S_S7x1024x512),
    TRef.binary (TRef.of (T := ⟨S7x1024x512, .f32⟩) main_v44) (TRef.of (T := ⟨S7x1024x512, .f32⟩) main_call1_v0) (TRef.of (T := ⟨S7x1024x512, .f32⟩) main_v45) maximumf,
    unary main_v45 main_v46 ((extractStridedSlice S2x1024x512 ![5, 0, 0] · slices_S7x1024x512_S2x1024x512_5_0_0) : (⟨S7x1024x512, .f32⟩ : BufTy).Contents (Elt F) → (⟨S2x1024x512, .f32⟩ : BufTy).Contents (Elt F)) ]

/-- Operations 81 … 83: the attention scores, scaled (first part). -/
def opsD0 : List (HloOp τ sig (Elt F)) :=
  [ binary main_v46 main_arg7 main_v47 ((fun l r => Host.dotGeneral dot_S2x1024x512_S2x512x512_S2x1024x512_2_1_1_2_0_0 none l r) : (⟨S2x1024x512, .f32⟩ : BufTy).Contents (Elt F) → (⟨S2x512x512, .f32⟩ : BufTy).Contents (Elt F) → (⟨S2x1024x512, .f32⟩ : BufTy).Contents (Elt F)),
    reshape main_v47 main_v48 (rfl : (.f32 : EltTy) = .f32) shapeCasts_S2x1024x512_S2x1024x8x64,
    binary main_v46 main_arg8 main_v49 ((fun l r => Host.dotGeneral dot_S2x1024x512_S2x512x512_S2x1024x512_2_1_1_2_0_0 none l r) : (⟨S2x1024x512, .f32⟩ : BufTy).Contents (Elt F) → (⟨S2x512x512, .f32⟩ : BufTy).Contents (Elt F) → (⟨S2x1024x512, .f32⟩ : BufTy).Contents (Elt F)) ]

/-- Operations 84 … 88: the attention scores, scaled (second part). -/
def opsD1 : List (HloOp τ sig (Elt F)) :=
  [ reshape main_v49 main_v50 (rfl : (.f32 : EltTy) = .f32) shapeCasts_S2x1024x512_S2x1024x8x64,
    binary main_v48 main_v50 main_v51 ((fun l r => Host.dotGeneral dot_S2x1024x8x64_S2x1024x8x64_S2x1024x1024_32_32_1_1_0_0 none l r) : (⟨S2x1024x8x64, .f32⟩ : BufTy).Contents (Elt F) → (⟨S2x1024x8x64, .f32⟩ : BufTy).Contents (Elt F) → (⟨S2x1024x1024, .f32⟩ : BufTy).Contents (Elt F)),
    nullary main_cst_8 (constant S_ .f32 0x42800000#32),
    unary main_cst_8 main_v52 (broadcastInDim S2x1024x1024 ![] bcast_S_S2x1024x1024 : (⟨S_, .f32⟩ : BufTy).Contents (Elt F) → (⟨S2x1024x1024, .f32⟩ : BufTy).Contents (Elt F)),
    binary main_v51 main_v52 main_v53 (Host.divf : (⟨S2x1024x1024, .f32⟩ : BufTy).Contents (Elt F) → (⟨S2x1024x1024, .f32⟩ : BufTy).Contents (Elt F) → (⟨S2x1024x1024, .f32⟩ : BufTy).Contents (Elt F)) ]

/-- Operations 89 … 100: the scores kept where among the largest. -/
def opsE : List (HloOp τ sig (Elt F)) :=
  [ unary main_v53 main_values ((fun x => (Host.topK S2x1024x32 2 (FloatOps.cmpfTotal .gt) x sliceFits_S2x1024x1024_S2x1024x32).1) : (⟨S2x1024x1024, .f32⟩ : BufTy).Contents (Elt F) → (⟨S2x1024x32, .f32⟩ : BufTy).Contents (Elt F)),
    unary main_v53 main_indices ((fun x => (Host.topK S2x1024x32 2 (FloatOps.cmpfTotal .gt) x sliceFits_S2x1024x1024_S2x1024x32).2) : (⟨S2x1024x1024, .f32⟩ : BufTy).Contents (Elt F) → (⟨S2x1024x32, .i32⟩ : BufTy).Contents (Elt F)),
    unary main_values main_v54 ((extractStridedSlice S2x1024x1 ![0, 0, 31] · slices_S2x1024x32_S2x1024x1_0_0_31) : (⟨S2x1024x32, .f32⟩ : BufTy).Contents (Elt F) → (⟨S2x1024x1, .f32⟩ : BufTy).Contents (Elt F)),
    unary main_v54 main_v55 (broadcastInDim S2x1024x1024 ![0, 1, 2] bcast_S2x1024x1_S2x1024x1024_0_1_2 : (⟨S2x1024x1, .f32⟩ : BufTy).Contents (Elt F) → (⟨S2x1024x1024, .f32⟩ : BufTy).Contents (Elt F)),
    binary main_v53 main_v55 main_v56 (cmpf .oge : (⟨S2x1024x1024, .f32⟩ : BufTy).Contents (Elt F) → (⟨S2x1024x1024, .f32⟩ : BufTy).Contents (Elt F) → (⟨S2x1024x1024, .i1⟩ : BufTy).Contents (Elt F)),
    nullary main_cst_9 (constant S_ .f32 0x3F000000#32),
    unary main_cst_9 main_v57 (broadcastInDim S2x1024x1024 ![] bcast_S_S2x1024x1024 : (⟨S_, .f32⟩ : BufTy).Contents (Elt F) → (⟨S2x1024x1024, .f32⟩ : BufTy).Contents (Elt F)),
    binary main_v53 main_v57 main_v58 (Host.divf : (⟨S2x1024x1024, .f32⟩ : BufTy).Contents (Elt F) → (⟨S2x1024x1024, .f32⟩ : BufTy).Contents (Elt F) → (⟨S2x1024x1024, .f32⟩ : BufTy).Contents (Elt F)),
    nullary main_cst_10 (constant S_ .f32 0xCE6E6B28#32),
    TRef.unary (TRef.of (T := ⟨S_, .f32⟩) main_cst_10) (TRef.of (T := ⟨S_, .f32⟩) main_call2_v0) id,
    TRef.unary (TRef.of (T := ⟨S_, .f32⟩) main_call2_v0) (TRef.of (T := ⟨S2x1024x1024, .f32⟩) main_call2_v1) (broadcastInDim S2x1024x1024 ![] bcast_S_S2x1024x1024),
    TRef.ternary (TRef.of (T := ⟨S2x1024x1024, .i1⟩) main_v56) (TRef.of (T := ⟨S2x1024x1024, .f32⟩) main_v58) (TRef.of (T := ⟨S2x1024x1024, .f32⟩) main_call2_v1) (TRef.of (T := ⟨S2x1024x1024, .f32⟩) main_v59) select ]

/-- Operations 101 … 109: the exponentials of the softmax. -/
def opsF : List (HloOp τ sig (Elt F)) :=
  [ nullary main_cst_11 (constant S_ .f32 0xFF800000#32),
    binary main_v59 main_cst_11 main_v60 ((fun x v => Host.reduce FloatOps.maximumf x v reducesTo_S2x1024x1024_S2x1024_d2 h_S_) : (⟨S2x1024x1024, .f32⟩ : BufTy).Contents (Elt F) → (⟨S_, .f32⟩ : BufTy).Contents (Elt F) → (⟨S2x1024, .f32⟩ : BufTy).Contents (Elt F)),
    nullary main_cst_12 (constant S_ .f32 0xFF800000#32),
    unary main_cst_12 main_v61 (broadcastInDim S2x1024 ![] bcast_S_S2x1024 : (⟨S_, .f32⟩ : BufTy).Contents (Elt F) → (⟨S2x1024, .f32⟩ : BufTy).Contents (Elt F)),
    binary main_v61 main_v60 main_v62 (maximumf : (⟨S2x1024, .f32⟩ : BufTy).Contents (Elt F) → (⟨S2x1024, .f32⟩ : BufTy).Contents (Elt F) → (⟨S2x1024, .f32⟩ : BufTy).Contents (Elt F)),
    unary main_v62 main_v63 (broadcastInDim S2x1024x1 ![0, 1] bcast_S2x1024_S2x1024x1_0_1 : (⟨S2x1024, .f32⟩ : BufTy).Contents (Elt F) → (⟨S2x1024x1, .f32⟩ : BufTy).Contents (Elt F)),
    unary main_v63 main_v64 (broadcastInDim S2x1024x1024 ![0, 1, 2] bcast_S2x1024x1_S2x1024x1024_0_1_2 : (⟨S2x1024x1, .f32⟩ : BufTy).Contents (Elt F) → (⟨S2x1024x1024, .f32⟩ : BufTy).Contents (Elt F)),
    binary main_v59 main_v64 main_v65 (subf : (⟨S2x1024x1024, .f32⟩ : BufTy).Contents (Elt F) → (⟨S2x1024x1024, .f32⟩ : BufTy).Contents (Elt F) → (⟨S2x1024x1024, .f32⟩ : BufTy).Contents (Elt F)),
    unary main_v65 main_v66 (Host.exp : (⟨S2x1024x1024, .f32⟩ : BufTy).Contents (Elt F) → (⟨S2x1024x1024, .f32⟩ : BufTy).Contents (Elt F)) ]

/-- Operations 110 … 121: the softmax, and the adjacency with the attention laid over its last two relations. -/
def opsG : List (HloOp τ sig (Elt F)) :=
  [ nullary main_cst_13 (constant S_ .f32 0x00000000#32),
    binary main_v66 main_cst_13 main_v67 ((fun x v => Host.reduceAdd x v reducesTo_S2x1024x1024_S2x1024_d2 h_S_) : (⟨S2x1024x1024, .f32⟩ : BufTy).Contents (Elt F) → (⟨S_, .f32⟩ : BufTy).Contents (Elt F) → (⟨S2x1024, .f32⟩ : BufTy).Contents (Elt F)),
    unary main_v67 main_v68 (broadcastInDim S2x1024x1 ![0, 1] bcast_S2x1024_S2x1024x1_0_1 : (⟨S2x1024, .f32⟩ : BufTy).Contents (Elt F) → (⟨S2x1024x1, .f32⟩ : BufTy).Contents (Elt F)),
    unary main_v68 main_v69 (broadcastInDim S2x1024x1024 ![0, 1, 2] bcast_S2x1024x1_S2x1024x1024_0_1_2 : (⟨S2x1024x1, .f32⟩ : BufTy).Contents (Elt F) → (⟨S2x1024x1024, .f32⟩ : BufTy).Contents (Elt F)),
    binary main_v66 main_v69 main_v70 (Host.divf : (⟨S2x1024x1024, .f32⟩ : BufTy).Contents (Elt F) → (⟨S2x1024x1024, .f32⟩ : BufTy).Contents (Elt F) → (⟨S2x1024x1024, .f32⟩ : BufTy).Contents (Elt F)),
    unary main_v70 main_v71 ((transpose S1024x2x1024 [1, 0, 2] · transposes_S2x1024x1024_S1024x2x1024_1_0_2) : (⟨S2x1024x1024, .f32⟩ : BufTy).Contents (Elt F) → (⟨S1024x2x1024, .f32⟩ : BufTy).Contents (Elt F)),
    reshape main_v71 main_v72 (rfl : (.f32 : EltTy) = .f32) shapeCasts_S1024x2x1024_S1024x2048,
    unary main_v22 main_v73 ((extractStridedSlice S1024x2048 ![0, 5120] · slices_S1024x7168_S1024x2048_0_5120) : (⟨S1024x7168, .f32⟩ : BufTy).Contents (Elt F) → (⟨S1024x2048, .f32⟩ : BufTy).Contents (Elt F)),
    binary main_v73 main_v72 main_v74 (maximumf : (⟨S1024x2048, .f32⟩ : BufTy).Contents (Elt F) → (⟨S1024x2048, .f32⟩ : BufTy).Contents (Elt F) → (⟨S1024x2048, .f32⟩ : BufTy).Contents (Elt F)),
    unary main_v22 main_v75 ((extractStridedSlice S1024x5120 ![0, 0] · slices_S1024x7168_S1024x5120_0_0) : (⟨S1024x7168, .f32⟩ : BufTy).Contents (Elt F) → (⟨S1024x5120, .f32⟩ : BufTy).Contents (Elt F)),
    binary main_v74 main_v75 main_v76 (overlay (F := F)),
    reshape main_v76 main_v77 (rfl : (.f32 : EltTy) = .f32) shapeCasts_S1024x7168_S1024x7x1024 ]

/-- Operations 122 … 125: the third result: the attention laid over the adjacency that the SparseCores wrote. -/
def opsH : List (HloOp τ sig (Elt F)) :=
  [ unary main_v0 main_v78 ((extractStridedSlice S1024x2048 ![0, 5120] · slices_S1024x7168_S1024x2048_0_5120) : (⟨S1024x7168, .f32⟩ : BufTy).Contents (Elt F) → (⟨S1024x2048, .f32⟩ : BufTy).Contents (Elt F)),
    binary main_v78 main_v74 main_v79 (maximumf : (⟨S1024x2048, .f32⟩ : BufTy).Contents (Elt F) → (⟨S1024x2048, .f32⟩ : BufTy).Contents (Elt F) → (⟨S1024x2048, .f32⟩ : BufTy).Contents (Elt F)),
    unary main_v0 main_v80 ((extractStridedSlice S1024x5120 ![0, 0] · slices_S1024x7168_S1024x5120_0_0) : (⟨S1024x7168, .f32⟩ : BufTy).Contents (Elt F) → (⟨S1024x5120, .f32⟩ : BufTy).Contents (Elt F)),
    binary main_v79 main_v80 main_v81 (overlay (F := F)) ]

/-- Operations 126 … 128: the features mixed along that adjacency and projected. -/
def opsI : List (HloOp τ sig (Elt F)) :=
  [ binary main_v77 main_arg0 main_v82 ((fun l r => Host.dotGeneral dot_S1024x7x1024_S1024x512_S1024x7x512_2_0_01_1_n_n none l r) : (⟨S1024x7x1024, .f32⟩ : BufTy).Contents (Elt F) → (⟨S1024x512, .f32⟩ : BufTy).Contents (Elt F) → (⟨S1024x7x512, .f32⟩ : BufTy).Contents (Elt F)),
    reshape main_v82 main_v83 (rfl : (.f32 : EltTy) = .f32) shapeCasts_S1024x7x512_S1024x3584,
    binary main_v83 main_arg9 main_v84 ((fun l r => Host.dotGeneral dot_S1024x3584_S3584x512_S1024x512_1_0_0_1_n_n none l r) : (⟨S1024x3584, .f32⟩ : BufTy).Contents (Elt F) → (⟨S3584x512, .f32⟩ : BufTy).Contents (Elt F) → (⟨S1024x512, .f32⟩ : BufTy).Contents (Elt F)) ]

/-- Operations 129 … 167: the second normalisation, its activation and projection (first part). -/
def opsJ0 : List (HloOp τ sig (Elt F)) :=
  [ nullary main_cst_14 (constant S_ .f32 0x00000000#32),
    binary main_v84 main_cst_14 main_v85 ((fun x v => Host.reduceAdd x v reducesTo_S1024x512_S512_d0 h_S_) : (⟨S1024x512, .f32⟩ : BufTy).Contents (Elt F) → (⟨S_, .f32⟩ : BufTy).Contents (Elt F) → (⟨S512, .f32⟩ : BufTy).Contents (Elt F)),
    unary main_v85 main_v86 (broadcastInDim S1x512 ![1] bcast_S512_S1x512_1 : (⟨S512, .f32⟩ : BufTy).Contents (Elt F) → (⟨S1x512, .f32⟩ : BufTy).Contents (Elt F)),
    nullary main_cst_15 (constant S_ .f32 0x44800000#32),
    unary main_cst_15 main_v87 (broadcastInDim S1x512 ![] bcast_S_S1x512 : (⟨S_, .f32⟩ : BufTy).Contents (Elt F) → (⟨S1x512, .f32⟩ : BufTy).Contents (Elt F)),
    binary main_v86 main_v87 main_v88 (Host.divf : (⟨S1x512, .f32⟩ : BufTy).Contents (Elt F) → (⟨S1x512, .f32⟩ : BufTy).Contents (Elt F) → (⟨S1x512, .f32⟩ : BufTy).Contents (Elt F)),
    nullary main_c_16 (constantI S_ 32 0#32),
    TRef.nullary (TRef.of (T := ⟨S_, .f32⟩) main_call3_cst) (constant S_ .f32 0x00000000#32),
    TRef.binary (TRef.of (T := ⟨S1024x512, .f32⟩) main_v84) (TRef.of (T := ⟨S_, .f32⟩) main_call3_cst) (TRef.of (T := ⟨S512, .f32⟩) main_call3_v0) (fun x v => Host.reduceAdd x v reducesTo_S1024x512_S512_d0 h_S_),
    TRef.unary (TRef.of (T := ⟨S512, .f32⟩) main_call3_v0) (TRef.of (T := ⟨S1x512, .f32⟩) main_call3_v1) (broadcastInDim S1x512 ![1] bcast_S512_S1x512_1),
    TRef.nullary (TRef.of (T := ⟨S_, .f32⟩) main_call3_cst_0) (constant S_ .f32 0x44800000#32),
    TRef.unary (TRef.of (T := ⟨S_, .f32⟩) main_call3_cst_0) (TRef.of (T := ⟨S1x512, .f32⟩) main_call3_v2) (broadcastInDim S1x512 ![] bcast_S_S1x512),
    TRef.binary (TRef.of (T := ⟨S1x512, .f32⟩) main_call3_v1) (TRef.of (T := ⟨S1x512, .f32⟩) main_call3_v2) (TRef.of (T := ⟨S1x512, .f32⟩) main_call3_v3) Host.divf,
    TRef.unary (TRef.of (T := ⟨S1x512, .f32⟩) main_call3_v3) (TRef.of (T := ⟨S1024x512, .f32⟩) main_call3_v4) (broadcastInDim S1024x512 ![0, 1] bcast_S1x512_S1024x512_0_1),
    TRef.binary (TRef.of (T := ⟨S1024x512, .f32⟩) main_v84) (TRef.of (T := ⟨S1024x512, .f32⟩) main_call3_v4) (TRef.of (T := ⟨S1024x512, .f32⟩) main_call3_v5) subf,
    TRef.binary (TRef.of (T := ⟨S1024x512, .f32⟩) main_call3_v5) (TRef.of (T := ⟨S1024x512, .f32⟩) main_call3_v5) (TRef.of (T := ⟨S1024x512, .f32⟩) main_call3_v6) mulf,
    TRef.unary (TRef.of (T := ⟨S_, .i32⟩) main_c_16) (TRef.of (T := ⟨S_, .f32⟩) main_call3_v7) (sitofp .f32),
    TRef.nullary (TRef.of (T := ⟨S_, .f32⟩) main_call3_cst_1) (constant S_ .f32 0x44800000#32),
    TRef.binary (TRef.of (T := ⟨S_, .f32⟩) main_call3_cst_1) (TRef.of (T := ⟨S_, .f32⟩) main_call3_v7) (TRef.of (T := ⟨S_, .f32⟩) main_call3_v8) subf,
    TRef.nullary (TRef.of (T := ⟨S_, .f32⟩) main_call3_cst_2) (constant S_ .f32 0x00000000#32),
    TRef.binary (TRef.of (T := ⟨S1024x512, .f32⟩) main_call3_v6) (TRef.of (T := ⟨S_, .f32⟩) main_call3_cst_2) (TRef.of (T := ⟨S512, .f32⟩) main_call3_v9) (fun x v => Host.reduceAdd x v reducesTo_S1024x512_S512_d0 h_S_),
    TRef.unary (TRef.of (T := ⟨S512, .f32⟩) main_call3_v9) (TRef.of (T := ⟨S1x512, .f32⟩) main_call3_v10) (broadcastInDim S1x512 ![1] bcast_S512_S1x512_1),
    TRef.unary (TRef.of (T := ⟨S_, .f32⟩) main_call3_v8) (TRef.of (T := ⟨S1x512, .f32⟩) main_call3_v11) (broadcastInDim S1x512 ![] bcast_S_S1x512),
    TRef.binary (TRef.of (T := ⟨S1x512, .f32⟩) main_call3_v10) (TRef.of (T := ⟨S1x512, .f32⟩) main_call3_v11) (TRef.of (T := ⟨S1x512, .f32⟩) main_call3_v12) Host.divf,
    TRef.nullary (TRef.of (T := ⟨S_, .f32⟩) main_call3_cst_3) (constant S_ .f32 0x00000000#32),
    TRef.binary (TRef.of (T := ⟨S_, .f32⟩) main_call3_v8) (TRef.of (T := ⟨S_, .f32⟩) main_call3_cst_3) (TRef.of (T := ⟨S_, .i1⟩) main_call3_v13) (cmpf .ogt),
    TRef.nullary (TRef.of (T := ⟨S_, .f32⟩) main_call3_cst_4) (constant S_ .f32 0x7FC00000#32),
    TRef.unary (TRef.of (T := ⟨S_, .f32⟩) main_call3_cst_4) (TRef.of (T := ⟨S_, .f32⟩) main_call3_call0_v0) id,
    TRef.unary (TRef.of (T := ⟨S_, .f32⟩) main_call3_call0_v0) (TRef.of (T := ⟨S1x512, .f32⟩) main_call3_call0_v1) (broadcastInDim S1x512 ![] bcast_S_S1x512),
    TRef.ternary (TRef.of (T := ⟨S_, .i1⟩) main_call3_v13) (TRef.of (T := ⟨S1x512, .f32⟩) main_call3_v12) (TRef.of (T := ⟨S1x512, .f32⟩) main_call3_call0_v1) (TRef.of (T := ⟨S1x512, .f32⟩) main_v89) (fun p a b => select (broadcastInDim S1x512 ![] bcast_S_S1x512 p) a b),
    unary main_v88 main_v90 (broadcastInDim S1024x512 ![0, 1] bcast_S1x512_S1024x512_0_1 : (⟨S1x512, .f32⟩ : BufTy).Contents (Elt F) → (⟨S1024x512, .f32⟩ : BufTy).Contents (Elt F)),
    binary main_v84 main_v90 main_v91 (subf : (⟨S1024x512, .f32⟩ : BufTy).Contents (Elt F) → (⟨S1024x512, .f32⟩ : BufTy).Contents (Elt F) → (⟨S1024x512, .f32⟩ : BufTy).Contents (Elt F)),
    unary main_arg10 main_v92 (broadcastInDim S1x512 ![1] bcast_S512_S1x512_1 : (⟨S512, .f32⟩ : BufTy).Contents (Elt F) → (⟨S1x512, .f32⟩ : BufTy).Contents (Elt F)),
    unary main_v92 main_v93 (broadcastInDim S1024x512 ![0, 1] bcast_S1x512_S1024x512_0_1 : (⟨S1x512, .f32⟩ : BufTy).Contents (Elt F) → (⟨S1024x512, .f32⟩ : BufTy).Contents (Elt F)),
    binary main_v93 main_v91 main_v94 (mulf : (⟨S1024x512, .f32⟩ : BufTy).Contents (Elt F) → (⟨S1024x512, .f32⟩ : BufTy).Contents (Elt F) → (⟨S1024x512, .f32⟩ : BufTy).Contents (Elt F)),
    nullary main_cst_17 (constant S_ .f32 0x3727C5AC#32),
    unary main_cst_17 main_v95 (broadcastInDim S1x512 ![] bcast_S_S1x512 : (⟨S_, .f32⟩ : BufTy).Contents (Elt F) → (⟨S1x512, .f32⟩ : BufTy).Contents (Elt F)),
    binary main_v89 main_v95 main_v96 (addf : (⟨S1x512, .f32⟩ : BufTy).Contents (Elt F) → (⟨S1x512, .f32⟩ : BufTy).Contents (Elt F) → (⟨S1x512, .f32⟩ : BufTy).Contents (Elt F)),
    unary main_v96 main_v97 (Host.sqrt : (⟨S1x512, .f32⟩ : BufTy).Contents (Elt F) → (⟨S1x512, .f32⟩ : BufTy).Contents (Elt F)) ]

/-- Operations 168 … 178: the second normalisation, its activation and projection (second part). -/
def opsJ1 : List (HloOp τ sig (Elt F)) :=
  [ unary main_v97 main_v98 (broadcastInDim S1024x512 ![0, 1] bcast_S1x512_S1024x512_0_1 : (⟨S1x512, .f32⟩ : BufTy).Contents (Elt F) → (⟨S1024x512, .f32⟩ : BufTy).Contents (Elt F)),
    binary main_v94 main_v98 main_v99 (Host.divf : (⟨S1024x512, .f32⟩ : BufTy).Contents (Elt F) → (⟨S1024x512, .f32⟩ : BufTy).Contents (Elt F) → (⟨S1024x512, .f32⟩ : BufTy).Contents (Elt F)),
    unary main_arg11 main_v100 (broadcastInDim S1x512 ![1] bcast_S512_S1x512_1 : (⟨S512, .f32⟩ : BufTy).Contents (Elt F) → (⟨S1x512, .f32⟩ : BufTy).Contents (Elt F)),
    unary main_v100 main_v101 (broadcastInDim S1024x512 ![0, 1] bcast_S1x512_S1024x512_0_1 : (⟨S1x512, .f32⟩ : BufTy).Contents (Elt F) → (⟨S1024x512, .f32⟩ : BufTy).Contents (Elt F)),
    binary main_v99 main_v101 main_v102 (addf : (⟨S1024x512, .f32⟩ : BufTy).Contents (Elt F) → (⟨S1024x512, .f32⟩ : BufTy).Contents (Elt F) → (⟨S1024x512, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S1024x512, .f32⟩) main_call4_v0) (broadcastInDim S1024x512 ![] bcast_S_S1024x512),
    TRef.binary (TRef.of (T := ⟨S1024x512, .f32⟩) main_v102) (TRef.of (T := ⟨S1024x512, .f32⟩) main_call4_v0) (TRef.of (T := ⟨S1024x512, .f32⟩) main_v103) maximumf,
    binary main_v77 main_v103 main_v104 ((fun l r => Host.dotGeneral dot_S1024x7x1024_S1024x512_S1024x7x512_2_0_01_1_n_n none l r) : (⟨S1024x7x1024, .f32⟩ : BufTy).Contents (Elt F) → (⟨S1024x512, .f32⟩ : BufTy).Contents (Elt F) → (⟨S1024x7x512, .f32⟩ : BufTy).Contents (Elt F)),
    reshape main_v104 main_v105 (rfl : (.f32 : EltTy) = .f32) shapeCasts_S1024x7x512_S1024x3584,
    binary main_v105 main_arg12 main_v106 ((fun l r => Host.dotGeneral dot_S1024x3584_S3584x512_S1024x512_1_0_0_1_n_n none l r) : (⟨S1024x3584, .f32⟩ : BufTy).Contents (Elt F) → (⟨S3584x512, .f32⟩ : BufTy).Contents (Elt F) → (⟨S1024x512, .f32⟩ : BufTy).Contents (Elt F)) ]

/-- Operations 179 … 225: the third normalisation, its activation and the residual. -/
def opsK : List (HloOp τ sig (Elt F)) :=
  [ nullary main_cst_18 (constant S_ .f32 0x00000000#32),
    binary main_v106 main_cst_18 main_v107 ((fun x v => Host.reduceAdd x v reducesTo_S1024x512_S512_d0 h_S_) : (⟨S1024x512, .f32⟩ : BufTy).Contents (Elt F) → (⟨S_, .f32⟩ : BufTy).Contents (Elt F) → (⟨S512, .f32⟩ : BufTy).Contents (Elt F)),
    unary main_v107 main_v108 (broadcastInDim S1x512 ![1] bcast_S512_S1x512_1 : (⟨S512, .f32⟩ : BufTy).Contents (Elt F) → (⟨S1x512, .f32⟩ : BufTy).Contents (Elt F)),
    nullary main_cst_19 (constant S_ .f32 0x44800000#32),
    unary main_cst_19 main_v109 (broadcastInDim S1x512 ![] bcast_S_S1x512 : (⟨S_, .f32⟩ : BufTy).Contents (Elt F) → (⟨S1x512, .f32⟩ : BufTy).Contents (Elt F)),
    binary main_v108 main_v109 main_v110 (Host.divf : (⟨S1x512, .f32⟩ : BufTy).Contents (Elt F) → (⟨S1x512, .f32⟩ : BufTy).Contents (Elt F) → (⟨S1x512, .f32⟩ : BufTy).Contents (Elt F)),
    nullary main_c_20 (constantI S_ 32 0#32),
    TRef.nullary (TRef.of (T := ⟨S_, .f32⟩) main_call5_cst) (constant S_ .f32 0x00000000#32),
    TRef.binary (TRef.of (T := ⟨S1024x512, .f32⟩) main_v106) (TRef.of (T := ⟨S_, .f32⟩) main_call5_cst) (TRef.of (T := ⟨S512, .f32⟩) main_call5_v0) (fun x v => Host.reduceAdd x v reducesTo_S1024x512_S512_d0 h_S_),
    TRef.unary (TRef.of (T := ⟨S512, .f32⟩) main_call5_v0) (TRef.of (T := ⟨S1x512, .f32⟩) main_call5_v1) (broadcastInDim S1x512 ![1] bcast_S512_S1x512_1),
    TRef.nullary (TRef.of (T := ⟨S_, .f32⟩) main_call5_cst_0) (constant S_ .f32 0x44800000#32),
    TRef.unary (TRef.of (T := ⟨S_, .f32⟩) main_call5_cst_0) (TRef.of (T := ⟨S1x512, .f32⟩) main_call5_v2) (broadcastInDim S1x512 ![] bcast_S_S1x512),
    TRef.binary (TRef.of (T := ⟨S1x512, .f32⟩) main_call5_v1) (TRef.of (T := ⟨S1x512, .f32⟩) main_call5_v2) (TRef.of (T := ⟨S1x512, .f32⟩) main_call5_v3) Host.divf,
    TRef.unary (TRef.of (T := ⟨S1x512, .f32⟩) main_call5_v3) (TRef.of (T := ⟨S1024x512, .f32⟩) main_call5_v4) (broadcastInDim S1024x512 ![0, 1] bcast_S1x512_S1024x512_0_1),
    TRef.binary (TRef.of (T := ⟨S1024x512, .f32⟩) main_v106) (TRef.of (T := ⟨S1024x512, .f32⟩) main_call5_v4) (TRef.of (T := ⟨S1024x512, .f32⟩) main_call5_v5) subf,
    TRef.binary (TRef.of (T := ⟨S1024x512, .f32⟩) main_call5_v5) (TRef.of (T := ⟨S1024x512, .f32⟩) main_call5_v5) (TRef.of (T := ⟨S1024x512, .f32⟩) main_call5_v6) mulf,
    TRef.unary (TRef.of (T := ⟨S_, .i32⟩) main_c_20) (TRef.of (T := ⟨S_, .f32⟩) main_call5_v7) (sitofp .f32),
    TRef.nullary (TRef.of (T := ⟨S_, .f32⟩) main_call5_cst_1) (constant S_ .f32 0x44800000#32),
    TRef.binary (TRef.of (T := ⟨S_, .f32⟩) main_call5_cst_1) (TRef.of (T := ⟨S_, .f32⟩) main_call5_v7) (TRef.of (T := ⟨S_, .f32⟩) main_call5_v8) subf,
    TRef.nullary (TRef.of (T := ⟨S_, .f32⟩) main_call5_cst_2) (constant S_ .f32 0x00000000#32),
    TRef.binary (TRef.of (T := ⟨S1024x512, .f32⟩) main_call5_v6) (TRef.of (T := ⟨S_, .f32⟩) main_call5_cst_2) (TRef.of (T := ⟨S512, .f32⟩) main_call5_v9) (fun x v => Host.reduceAdd x v reducesTo_S1024x512_S512_d0 h_S_),
    TRef.unary (TRef.of (T := ⟨S512, .f32⟩) main_call5_v9) (TRef.of (T := ⟨S1x512, .f32⟩) main_call5_v10) (broadcastInDim S1x512 ![1] bcast_S512_S1x512_1),
    TRef.unary (TRef.of (T := ⟨S_, .f32⟩) main_call5_v8) (TRef.of (T := ⟨S1x512, .f32⟩) main_call5_v11) (broadcastInDim S1x512 ![] bcast_S_S1x512),
    TRef.binary (TRef.of (T := ⟨S1x512, .f32⟩) main_call5_v10) (TRef.of (T := ⟨S1x512, .f32⟩) main_call5_v11) (TRef.of (T := ⟨S1x512, .f32⟩) main_call5_v12) Host.divf,
    TRef.nullary (TRef.of (T := ⟨S_, .f32⟩) main_call5_cst_3) (constant S_ .f32 0x00000000#32),
    TRef.binary (TRef.of (T := ⟨S_, .f32⟩) main_call5_v8) (TRef.of (T := ⟨S_, .f32⟩) main_call5_cst_3) (TRef.of (T := ⟨S_, .i1⟩) main_call5_v13) (cmpf .ogt),
    TRef.nullary (TRef.of (T := ⟨S_, .f32⟩) main_call5_cst_4) (constant S_ .f32 0x7FC00000#32),
    TRef.unary (TRef.of (T := ⟨S_, .f32⟩) main_call5_cst_4) (TRef.of (T := ⟨S_, .f32⟩) main_call5_call0_v0) id,
    TRef.unary (TRef.of (T := ⟨S_, .f32⟩) main_call5_call0_v0) (TRef.of (T := ⟨S1x512, .f32⟩) main_call5_call0_v1) (broadcastInDim S1x512 ![] bcast_S_S1x512),
    TRef.ternary (TRef.of (T := ⟨S_, .i1⟩) main_call5_v13) (TRef.of (T := ⟨S1x512, .f32⟩) main_call5_v12) (TRef.of (T := ⟨S1x512, .f32⟩) main_call5_call0_v1) (TRef.of (T := ⟨S1x512, .f32⟩) main_v111) (fun p a b => select (broadcastInDim S1x512 ![] bcast_S_S1x512 p) a b),
    unary main_v110 main_v112 (broadcastInDim S1024x512 ![0, 1] bcast_S1x512_S1024x512_0_1 : (⟨S1x512, .f32⟩ : BufTy).Contents (Elt F) → (⟨S1024x512, .f32⟩ : BufTy).Contents (Elt F)),
    binary main_v106 main_v112 main_v113 (subf : (⟨S1024x512, .f32⟩ : BufTy).Contents (Elt F) → (⟨S1024x512, .f32⟩ : BufTy).Contents (Elt F) → (⟨S1024x512, .f32⟩ : BufTy).Contents (Elt F)),
    unary main_arg13 main_v114 (broadcastInDim S1x512 ![1] bcast_S512_S1x512_1 : (⟨S512, .f32⟩ : BufTy).Contents (Elt F) → (⟨S1x512, .f32⟩ : BufTy).Contents (Elt F)),
    unary main_v114 main_v115 (broadcastInDim S1024x512 ![0, 1] bcast_S1x512_S1024x512_0_1 : (⟨S1x512, .f32⟩ : BufTy).Contents (Elt F) → (⟨S1024x512, .f32⟩ : BufTy).Contents (Elt F)),
    binary main_v115 main_v113 main_v116 (mulf : (⟨S1024x512, .f32⟩ : BufTy).Contents (Elt F) → (⟨S1024x512, .f32⟩ : BufTy).Contents (Elt F) → (⟨S1024x512, .f32⟩ : BufTy).Contents (Elt F)),
    nullary main_cst_21 (constant S_ .f32 0x3727C5AC#32),
    unary main_cst_21 main_v117 (broadcastInDim S1x512 ![] bcast_S_S1x512 : (⟨S_, .f32⟩ : BufTy).Contents (Elt F) → (⟨S1x512, .f32⟩ : BufTy).Contents (Elt F)),
    binary main_v111 main_v117 main_v118 (addf : (⟨S1x512, .f32⟩ : BufTy).Contents (Elt F) → (⟨S1x512, .f32⟩ : BufTy).Contents (Elt F) → (⟨S1x512, .f32⟩ : BufTy).Contents (Elt F)),
    unary main_v118 main_v119 (Host.sqrt : (⟨S1x512, .f32⟩ : BufTy).Contents (Elt F) → (⟨S1x512, .f32⟩ : BufTy).Contents (Elt F)),
    unary main_v119 main_v120 (broadcastInDim S1024x512 ![0, 1] bcast_S1x512_S1024x512_0_1 : (⟨S1x512, .f32⟩ : BufTy).Contents (Elt F) → (⟨S1024x512, .f32⟩ : BufTy).Contents (Elt F)),
    binary main_v116 main_v120 main_v121 (Host.divf : (⟨S1024x512, .f32⟩ : BufTy).Contents (Elt F) → (⟨S1024x512, .f32⟩ : BufTy).Contents (Elt F) → (⟨S1024x512, .f32⟩ : BufTy).Contents (Elt F)),
    unary main_arg14 main_v122 (broadcastInDim S1x512 ![1] bcast_S512_S1x512_1 : (⟨S512, .f32⟩ : BufTy).Contents (Elt F) → (⟨S1x512, .f32⟩ : BufTy).Contents (Elt F)),
    unary main_v122 main_v123 (broadcastInDim S1024x512 ![0, 1] bcast_S1x512_S1024x512_0_1 : (⟨S1x512, .f32⟩ : BufTy).Contents (Elt F) → (⟨S1024x512, .f32⟩ : BufTy).Contents (Elt F)),
    binary main_v121 main_v123 main_v124 (addf : (⟨S1024x512, .f32⟩ : BufTy).Contents (Elt F) → (⟨S1024x512, .f32⟩ : BufTy).Contents (Elt F) → (⟨S1024x512, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S1024x512, .f32⟩) main_call6_v0) (broadcastInDim S1024x512 ![] bcast_S_S1024x512),
    TRef.binary (TRef.of (T := ⟨S1024x512, .f32⟩) main_v124) (TRef.of (T := ⟨S1024x512, .f32⟩) main_call6_v0) (TRef.of (T := ⟨S1024x512, .f32⟩) main_v125) maximumf ]

/-- Operations 226 … 269: the second result: the last normalisation. -/
def opsL : List (HloOp τ sig (Elt F)) :=
  [ nullary main_cst_22 (constant S_ .f32 0x00000000#32),
    binary main_v125 main_cst_22 main_v126 ((fun x v => Host.reduceAdd x v reducesTo_S1024x512_S512_d0 h_S_) : (⟨S1024x512, .f32⟩ : BufTy).Contents (Elt F) → (⟨S_, .f32⟩ : BufTy).Contents (Elt F) → (⟨S512, .f32⟩ : BufTy).Contents (Elt F)),
    unary main_v126 main_v127 (broadcastInDim S1x512 ![1] bcast_S512_S1x512_1 : (⟨S512, .f32⟩ : BufTy).Contents (Elt F) → (⟨S1x512, .f32⟩ : BufTy).Contents (Elt F)),
    nullary main_cst_23 (constant S_ .f32 0x44800000#32),
    unary main_cst_23 main_v128 (broadcastInDim S1x512 ![] bcast_S_S1x512 : (⟨S_, .f32⟩ : BufTy).Contents (Elt F) → (⟨S1x512, .f32⟩ : BufTy).Contents (Elt F)),
    binary main_v127 main_v128 main_v129 (Host.divf : (⟨S1x512, .f32⟩ : BufTy).Contents (Elt F) → (⟨S1x512, .f32⟩ : BufTy).Contents (Elt F) → (⟨S1x512, .f32⟩ : BufTy).Contents (Elt F)),
    nullary main_c_24 (constantI S_ 32 0#32),
    TRef.nullary (TRef.of (T := ⟨S_, .f32⟩) main_call7_cst) (constant S_ .f32 0x00000000#32),
    TRef.binary (TRef.of (T := ⟨S1024x512, .f32⟩) main_v125) (TRef.of (T := ⟨S_, .f32⟩) main_call7_cst) (TRef.of (T := ⟨S512, .f32⟩) main_call7_v0) (fun x v => Host.reduceAdd x v reducesTo_S1024x512_S512_d0 h_S_),
    TRef.unary (TRef.of (T := ⟨S512, .f32⟩) main_call7_v0) (TRef.of (T := ⟨S1x512, .f32⟩) main_call7_v1) (broadcastInDim S1x512 ![1] bcast_S512_S1x512_1),
    TRef.nullary (TRef.of (T := ⟨S_, .f32⟩) main_call7_cst_0) (constant S_ .f32 0x44800000#32),
    TRef.unary (TRef.of (T := ⟨S_, .f32⟩) main_call7_cst_0) (TRef.of (T := ⟨S1x512, .f32⟩) main_call7_v2) (broadcastInDim S1x512 ![] bcast_S_S1x512),
    TRef.binary (TRef.of (T := ⟨S1x512, .f32⟩) main_call7_v1) (TRef.of (T := ⟨S1x512, .f32⟩) main_call7_v2) (TRef.of (T := ⟨S1x512, .f32⟩) main_call7_v3) Host.divf,
    TRef.unary (TRef.of (T := ⟨S1x512, .f32⟩) main_call7_v3) (TRef.of (T := ⟨S1024x512, .f32⟩) main_call7_v4) (broadcastInDim S1024x512 ![0, 1] bcast_S1x512_S1024x512_0_1),
    TRef.binary (TRef.of (T := ⟨S1024x512, .f32⟩) main_v125) (TRef.of (T := ⟨S1024x512, .f32⟩) main_call7_v4) (TRef.of (T := ⟨S1024x512, .f32⟩) main_call7_v5) subf,
    TRef.binary (TRef.of (T := ⟨S1024x512, .f32⟩) main_call7_v5) (TRef.of (T := ⟨S1024x512, .f32⟩) main_call7_v5) (TRef.of (T := ⟨S1024x512, .f32⟩) main_call7_v6) mulf,
    TRef.unary (TRef.of (T := ⟨S_, .i32⟩) main_c_24) (TRef.of (T := ⟨S_, .f32⟩) main_call7_v7) (sitofp .f32),
    TRef.nullary (TRef.of (T := ⟨S_, .f32⟩) main_call7_cst_1) (constant S_ .f32 0x44800000#32),
    TRef.binary (TRef.of (T := ⟨S_, .f32⟩) main_call7_cst_1) (TRef.of (T := ⟨S_, .f32⟩) main_call7_v7) (TRef.of (T := ⟨S_, .f32⟩) main_call7_v8) subf,
    TRef.nullary (TRef.of (T := ⟨S_, .f32⟩) main_call7_cst_2) (constant S_ .f32 0x00000000#32),
    TRef.binary (TRef.of (T := ⟨S1024x512, .f32⟩) main_call7_v6) (TRef.of (T := ⟨S_, .f32⟩) main_call7_cst_2) (TRef.of (T := ⟨S512, .f32⟩) main_call7_v9) (fun x v => Host.reduceAdd x v reducesTo_S1024x512_S512_d0 h_S_),
    TRef.unary (TRef.of (T := ⟨S512, .f32⟩) main_call7_v9) (TRef.of (T := ⟨S1x512, .f32⟩) main_call7_v10) (broadcastInDim S1x512 ![1] bcast_S512_S1x512_1),
    TRef.unary (TRef.of (T := ⟨S_, .f32⟩) main_call7_v8) (TRef.of (T := ⟨S1x512, .f32⟩) main_call7_v11) (broadcastInDim S1x512 ![] bcast_S_S1x512),
    TRef.binary (TRef.of (T := ⟨S1x512, .f32⟩) main_call7_v10) (TRef.of (T := ⟨S1x512, .f32⟩) main_call7_v11) (TRef.of (T := ⟨S1x512, .f32⟩) main_call7_v12) Host.divf,
    TRef.nullary (TRef.of (T := ⟨S_, .f32⟩) main_call7_cst_3) (constant S_ .f32 0x00000000#32),
    TRef.binary (TRef.of (T := ⟨S_, .f32⟩) main_call7_v8) (TRef.of (T := ⟨S_, .f32⟩) main_call7_cst_3) (TRef.of (T := ⟨S_, .i1⟩) main_call7_v13) (cmpf .ogt),
    TRef.nullary (TRef.of (T := ⟨S_, .f32⟩) main_call7_cst_4) (constant S_ .f32 0x7FC00000#32),
    TRef.unary (TRef.of (T := ⟨S_, .f32⟩) main_call7_cst_4) (TRef.of (T := ⟨S_, .f32⟩) main_call7_call0_v0) id,
    TRef.unary (TRef.of (T := ⟨S_, .f32⟩) main_call7_call0_v0) (TRef.of (T := ⟨S1x512, .f32⟩) main_call7_call0_v1) (broadcastInDim S1x512 ![] bcast_S_S1x512),
    TRef.ternary (TRef.of (T := ⟨S_, .i1⟩) main_call7_v13) (TRef.of (T := ⟨S1x512, .f32⟩) main_call7_v12) (TRef.of (T := ⟨S1x512, .f32⟩) main_call7_call0_v1) (TRef.of (T := ⟨S1x512, .f32⟩) main_v130) (fun p a b => select (broadcastInDim S1x512 ![] bcast_S_S1x512 p) a b),
    unary main_v129 main_v131 (broadcastInDim S1024x512 ![0, 1] bcast_S1x512_S1024x512_0_1 : (⟨S1x512, .f32⟩ : BufTy).Contents (Elt F) → (⟨S1024x512, .f32⟩ : BufTy).Contents (Elt F)),
    binary main_v125 main_v131 main_v132 (subf : (⟨S1024x512, .f32⟩ : BufTy).Contents (Elt F) → (⟨S1024x512, .f32⟩ : BufTy).Contents (Elt F) → (⟨S1024x512, .f32⟩ : BufTy).Contents (Elt F)),
    unary main_arg15 main_v133 (broadcastInDim S1x512 ![1] bcast_S512_S1x512_1 : (⟨S512, .f32⟩ : BufTy).Contents (Elt F) → (⟨S1x512, .f32⟩ : BufTy).Contents (Elt F)),
    unary main_v133 main_v134 (broadcastInDim S1024x512 ![0, 1] bcast_S1x512_S1024x512_0_1 : (⟨S1x512, .f32⟩ : BufTy).Contents (Elt F) → (⟨S1024x512, .f32⟩ : BufTy).Contents (Elt F)),
    binary main_v134 main_v132 main_v135 (mulf : (⟨S1024x512, .f32⟩ : BufTy).Contents (Elt F) → (⟨S1024x512, .f32⟩ : BufTy).Contents (Elt F) → (⟨S1024x512, .f32⟩ : BufTy).Contents (Elt F)),
    nullary main_cst_25 (constant S_ .f32 0x3727C5AC#32),
    unary main_cst_25 main_v136 (broadcastInDim S1x512 ![] bcast_S_S1x512 : (⟨S_, .f32⟩ : BufTy).Contents (Elt F) → (⟨S1x512, .f32⟩ : BufTy).Contents (Elt F)),
    binary main_v130 main_v136 main_v137 (addf : (⟨S1x512, .f32⟩ : BufTy).Contents (Elt F) → (⟨S1x512, .f32⟩ : BufTy).Contents (Elt F) → (⟨S1x512, .f32⟩ : BufTy).Contents (Elt F)),
    unary main_v137 main_v138 (Host.sqrt : (⟨S1x512, .f32⟩ : BufTy).Contents (Elt F) → (⟨S1x512, .f32⟩ : BufTy).Contents (Elt F)),
    unary main_v138 main_v139 (broadcastInDim S1024x512 ![0, 1] bcast_S1x512_S1024x512_0_1 : (⟨S1x512, .f32⟩ : BufTy).Contents (Elt F) → (⟨S1024x512, .f32⟩ : BufTy).Contents (Elt F)),
    binary main_v135 main_v139 main_v140 (Host.divf : (⟨S1024x512, .f32⟩ : BufTy).Contents (Elt F) → (⟨S1024x512, .f32⟩ : BufTy).Contents (Elt F) → (⟨S1024x512, .f32⟩ : BufTy).Contents (Elt F)),
    unary main_arg16 main_v141 (broadcastInDim S1x512 ![1] bcast_S512_S1x512_1 : (⟨S512, .f32⟩ : BufTy).Contents (Elt F) → (⟨S1x512, .f32⟩ : BufTy).Contents (Elt F)),
    unary main_v141 main_v142 (broadcastInDim S1024x512 ![0, 1] bcast_S1x512_S1024x512_0_1 : (⟨S1x512, .f32⟩ : BufTy).Contents (Elt F) → (⟨S1024x512, .f32⟩ : BufTy).Contents (Elt F)),
    binary main_v140 main_v142 main_v143 (addf : (⟨S1024x512, .f32⟩ : BufTy).Contents (Elt F) → (⟨S1024x512, .f32⟩ : BufTy).Contents (Elt F) → (⟨S1024x512, .f32⟩ : BufTy).Contents (Elt F)) ]

/-- Operations 270 … 271: the first result: the sums over the rows. -/
def opsM : List (HloOp τ sig (Elt F)) :=
  [ nullary main_cst_26 (constant S_ .f32 0x00000000#32),
    binary main_v143 main_cst_26 main_v144 ((fun x v => Host.reduceAdd x v reducesTo_S1024x512_S512_d0 h_S_) : (⟨S1024x512, .f32⟩ : BufTy).Contents (Elt F) → (⟨S_, .f32⟩ : BufTy).Contents (Elt F) → (⟨S512, .f32⟩ : BufTy).Contents (Elt F)) ]

/-- The operations of the three parts of @main, after the call. -/
def opsPart0 : List (HloOp τ sig (Elt F)) := opsA ++ (opsB ++ (opsC ++ (opsD0)))
def opsPart1 : List (HloOp τ sig (Elt F)) := opsD1 ++ (opsE ++ (opsF ++ (opsG ++ (opsH ++ (opsI ++ (opsJ0))))))
def opsPart2 : List (HloOp τ sig (Elt F)) := opsJ1 ++ (opsK ++ (opsL ++ (opsM)))
/-- All the operations of @main after the call. -/
def opsAll : List (HloOp τ sig (Elt F)) := opsPart0 ++ (opsPart1 ++ opsPart2)

/-! ## @main is the call and then these operations -/

set_option maxRecDepth 8192 in
set_option maxHeartbeats 4000000 in
theorem main_part0_eq (d : Dev nD) : main_part0 (F := F) d = (sc.run d 0 >>= fun _ => seq opsPart0) := rfl
set_option maxRecDepth 8192 in
set_option maxHeartbeats 4000000 in
theorem main_part1_eq (d : Dev nD) : main_part1 (F := F) d = seq opsPart1 := rfl
set_option maxRecDepth 8192 in
set_option maxHeartbeats 4000000 in
theorem main_part2_eq (d : Dev nD) : main_part2 (F := F) d = seq opsPart2 := rfl
theorem main_eq (d : Dev nD) : main (F := F) d = (sc.run d 0 >>= fun _ => seq opsAll) := by
  have h : main (F := F) d = (main_part0 (F := F) d >>= fun _ => main_part1 (F := F) d >>= fun _ => main_part2 (F := F) d) := rfl
  rw [h, main_part0_eq, main_part1_eq, main_part2_eq]
  simp only [opsAll, seq_append, bind_assoc]

/-! ## What the operations touch and write -/

/-- What the operations of `opsA` write, in order. -/
abbrev opsAW : List (Ref sig .tc) := [main_c, main_v1, main_v2, main_v3, main_v4, main_v5, main_cst, main_v6, main_v7, main_v8, main_c_0, main_v9, main_v10, main_c_1, main_v11, main_v12, main_v13, main_c_2, main_v14, main_v15, main_c_3, main_v16, main_v17, main_v18, main_v19, main_v20, main_v21, main_v22]
set_option maxRecDepth 8192 in
theorem opsA_writes : (opsA : List (HloOp τ sig (Elt F))).Forall fun op => op.writes ⊆ (opsAW.map (Proc.devRef (τ := τ) .tc)).toFinset :=
  forall_writes_sub_of_map rfl
set_option maxRecDepth 8192 in
theorem opsA_sub : (opsA : List (HloOp τ sig (Elt F))).Forall fun op => op.bufs ⊆ tcRefs τ sig :=
  ⟨nullary_bufs_sub .., unary_bufs_sub .., binary_bufs_sub .., unary_bufs_sub .., reshape_bufs_sub .., binary_bufs_sub .., nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub ..⟩
set_option maxRecDepth 8192 in
theorem opsA_fresh : (opsA : List (HloOp τ sig (Elt F))).Forall fun op => op.fresh = ∅ :=
  forall_fresh_of_map rfl
/-- What the operations of `opsB` write, in order. -/
abbrev opsBW : List (Ref sig .tc) := [main_v23, main_v24, main_v25, main_v26]
set_option maxRecDepth 8192 in
theorem opsB_writes : (opsB : List (HloOp τ sig (Elt F))).Forall fun op => op.writes ⊆ (opsBW.map (Proc.devRef (τ := τ) .tc)).toFinset :=
  forall_writes_sub_of_map rfl
set_option maxRecDepth 8192 in
theorem opsB_sub : (opsB : List (HloOp τ sig (Elt F))).Forall fun op => op.bufs ⊆ tcRefs τ sig :=
  ⟨reshape_bufs_sub .., binary_bufs_sub .., unary_bufs_sub .., binary_bufs_sub ..⟩
set_option maxRecDepth 8192 in
theorem opsB_fresh : (opsB : List (HloOp τ sig (Elt F))).Forall fun op => op.fresh = ∅ :=
  forall_fresh_of_map rfl
/-- What the operations of `opsC` write, in order. -/
abbrev opsCW : List (Ref sig .tc) := [main_cst_4, main_v27, main_v28, main_cst_5, main_v29, main_v30, main_c_6, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v31, main_v32, main_v33, main_v34, main_v35, main_v36, main_cst_7, main_v37, main_v38, main_v39, main_v40, main_v41, main_v42, main_v43, main_v44, main_call1_cst, main_call1_v0, main_v45, main_v46]
set_option maxRecDepth 8192 in
theorem opsC_writes : (opsC : List (HloOp τ sig (Elt F))).Forall fun op => op.writes ⊆ (opsCW.map (Proc.devRef (τ := τ) .tc)).toFinset :=
  forall_writes_sub_of_map rfl
set_option maxRecDepth 8192 in
theorem opsC_sub : (opsC : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub ..⟩
set_option maxRecDepth 8192 in
theorem opsC_fresh : (opsC : List (HloOp τ sig (Elt F))).Forall fun op => op.fresh = ∅ :=
  forall_fresh_of_map rfl
/-- What the operations of `opsD0` write, in order. -/
abbrev opsD0W : List (Ref sig .tc) := [main_v47, main_v48, main_v49]
set_option maxRecDepth 8192 in
theorem opsD0_writes : (opsD0 : List (HloOp τ sig (Elt F))).Forall fun op => op.writes ⊆ (opsD0W.map (Proc.devRef (τ := τ) .tc)).toFinset :=
  forall_writes_sub_of_map rfl
set_option maxRecDepth 8192 in
theorem opsD0_sub : (opsD0 : List (HloOp τ sig (Elt F))).Forall fun op => op.bufs ⊆ tcRefs τ sig :=
  ⟨binary_bufs_sub .., reshape_bufs_sub .., binary_bufs_sub ..⟩
set_option maxRecDepth 8192 in
theorem opsD0_fresh : (opsD0 : List (HloOp τ sig (Elt F))).Forall fun op => op.fresh = ∅ :=
  forall_fresh_of_map rfl
/-- What the operations of `opsD1` write, in order. -/
abbrev opsD1W : List (Ref sig .tc) := [main_v50, main_v51, main_cst_8, main_v52, main_v53]
set_option maxRecDepth 8192 in
theorem opsD1_writes : (opsD1 : List (HloOp τ sig (Elt F))).Forall fun op => op.writes ⊆ (opsD1W.map (Proc.devRef (τ := τ) .tc)).toFinset :=
  forall_writes_sub_of_map rfl
set_option maxRecDepth 8192 in
theorem opsD1_sub : (opsD1 : List (HloOp τ sig (Elt F))).Forall fun op => op.bufs ⊆ tcRefs τ sig :=
  ⟨reshape_bufs_sub .., binary_bufs_sub .., nullary_bufs_sub .., unary_bufs_sub .., binary_bufs_sub ..⟩
set_option maxRecDepth 8192 in
theorem opsD1_fresh : (opsD1 : List (HloOp τ sig (Elt F))).Forall fun op => op.fresh = ∅ :=
  forall_fresh_of_map rfl
/-- What the operations of `opsE` write, in order. -/
abbrev opsEW : List (Ref sig .tc) := [main_values, main_indices, main_v54, main_v55, main_v56, main_cst_9, main_v57, main_v58, main_cst_10, main_call2_v0, main_call2_v1, main_v59]
set_option maxRecDepth 8192 in
theorem opsE_writes : (opsE : List (HloOp τ sig (Elt F))).Forall fun op => op.writes ⊆ (opsEW.map (Proc.devRef (τ := τ) .tc)).toFinset :=
  forall_writes_sub_of_map rfl
set_option maxRecDepth 8192 in
theorem opsE_sub : (opsE : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., binary_bufs_sub .., nullary_bufs_sub .., unary_bufs_sub .., unary_bufs_sub .., ternary_bufs_sub ..⟩
set_option maxRecDepth 8192 in
theorem opsE_fresh : (opsE : List (HloOp τ sig (Elt F))).Forall fun op => op.fresh = ∅ :=
  forall_fresh_of_map rfl
/-- What the operations of `opsF` write, in order. -/
abbrev opsFW : List (Ref sig .tc) := [main_cst_11, main_v60, main_cst_12, main_v61, main_v62, main_v63, main_v64, main_v65, main_v66]
set_option maxRecDepth 8192 in
theorem opsF_writes : (opsF : List (HloOp τ sig (Elt F))).Forall fun op => op.writes ⊆ (opsFW.map (Proc.devRef (τ := τ) .tc)).toFinset :=
  forall_writes_sub_of_map rfl
set_option maxRecDepth 8192 in
theorem opsF_sub : (opsF : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub ..⟩
set_option maxRecDepth 8192 in
theorem opsF_fresh : (opsF : List (HloOp τ sig (Elt F))).Forall fun op => op.fresh = ∅ :=
  forall_fresh_of_map rfl
/-- What the operations of `opsG` write, in order. -/
abbrev opsGW : List (Ref sig .tc) := [main_cst_13, main_v67, main_v68, main_v69, main_v70, main_v71, main_v72, main_v73, main_v74, main_v75, main_v76, main_v77]
set_option maxRecDepth 8192 in
theorem opsG_writes : (opsG : List (HloOp τ sig (Elt F))).Forall fun op => op.writes ⊆ (opsGW.map (Proc.devRef (τ := τ) .tc)).toFinset :=
  forall_writes_sub_of_map rfl
set_option maxRecDepth 8192 in
theorem opsG_sub : (opsG : List (HloOp τ sig (Elt F))).Forall fun op => op.bufs ⊆ tcRefs τ sig :=
  ⟨nullary_bufs_sub .., binary_bufs_sub .., unary_bufs_sub .., unary_bufs_sub .., binary_bufs_sub .., unary_bufs_sub .., reshape_bufs_sub .., unary_bufs_sub .., binary_bufs_sub .., unary_bufs_sub .., binary_bufs_sub .., reshape_bufs_sub ..⟩
set_option maxRecDepth 8192 in
theorem opsG_fresh : (opsG : List (HloOp τ sig (Elt F))).Forall fun op => op.fresh = ∅ :=
  forall_fresh_of_map rfl
/-- What the operations of `opsH` write, in order. -/
abbrev opsHW : List (Ref sig .tc) := [main_v78, main_v79, main_v80, main_v81]
set_option maxRecDepth 8192 in
theorem opsH_writes : (opsH : List (HloOp τ sig (Elt F))).Forall fun op => op.writes ⊆ (opsHW.map (Proc.devRef (τ := τ) .tc)).toFinset :=
  forall_writes_sub_of_map rfl
set_option maxRecDepth 8192 in
theorem opsH_sub : (opsH : List (HloOp τ sig (Elt F))).Forall fun op => op.bufs ⊆ tcRefs τ sig :=
  ⟨unary_bufs_sub .., binary_bufs_sub .., unary_bufs_sub .., binary_bufs_sub ..⟩
set_option maxRecDepth 8192 in
theorem opsH_fresh : (opsH : List (HloOp τ sig (Elt F))).Forall fun op => op.fresh = ∅ :=
  forall_fresh_of_map rfl
/-- What the operations of `opsI` write, in order. -/
abbrev opsIW : List (Ref sig .tc) := [main_v82, main_v83, main_v84]
set_option maxRecDepth 8192 in
theorem opsI_writes : (opsI : List (HloOp τ sig (Elt F))).Forall fun op => op.writes ⊆ (opsIW.map (Proc.devRef (τ := τ) .tc)).toFinset :=
  forall_writes_sub_of_map rfl
set_option maxRecDepth 8192 in
theorem opsI_sub : (opsI : List (HloOp τ sig (Elt F))).Forall fun op => op.bufs ⊆ tcRefs τ sig :=
  ⟨binary_bufs_sub .., reshape_bufs_sub .., binary_bufs_sub ..⟩
set_option maxRecDepth 8192 in
theorem opsI_fresh : (opsI : List (HloOp τ sig (Elt F))).Forall fun op => op.fresh = ∅ :=
  forall_fresh_of_map rfl
/-- What the operations of `opsJ0` write, in order. -/
abbrev opsJ0W : List (Ref sig .tc) := [main_cst_14, main_v85, main_v86, main_cst_15, main_v87, main_v88, main_c_16, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v89, main_v90, main_v91, main_v92, main_v93, main_v94, main_cst_17, main_v95, main_v96, main_v97]
set_option maxRecDepth 8192 in
theorem opsJ0_writes : (opsJ0 : List (HloOp τ sig (Elt F))).Forall fun op => op.writes ⊆ (opsJ0W.map (Proc.devRef (τ := τ) .tc)).toFinset :=
  forall_writes_sub_of_map rfl
set_option maxRecDepth 8192 in
theorem opsJ0_sub : (opsJ0 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub ..⟩
set_option maxRecDepth 8192 in
theorem opsJ0_fresh : (opsJ0 : List (HloOp τ sig (Elt F))).Forall fun op => op.fresh = ∅ :=
  forall_fresh_of_map rfl
/-- What the operations of `opsJ1` write, in order. -/
abbrev opsJ1W : List (Ref sig .tc) := [main_v98, main_v99, main_v100, main_v101, main_v102, main_call4_cst, main_call4_v0, main_v103, main_v104, main_v105, main_v106]
set_option maxRecDepth 8192 in
theorem opsJ1_writes : (opsJ1 : List (HloOp τ sig (Elt F))).Forall fun op => op.writes ⊆ (opsJ1W.map (Proc.devRef (τ := τ) .tc)).toFinset :=
  forall_writes_sub_of_map rfl
set_option maxRecDepth 8192 in
theorem opsJ1_sub : (opsJ1 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., binary_bufs_sub .., reshape_bufs_sub .., binary_bufs_sub ..⟩
set_option maxRecDepth 8192 in
theorem opsJ1_fresh : (opsJ1 : List (HloOp τ sig (Elt F))).Forall fun op => op.fresh = ∅ :=
  forall_fresh_of_map rfl
/-- What the operations of `opsK` write, in order. -/
abbrev opsKW : List (Ref sig .tc) := [main_cst_18, main_v107, main_v108, main_cst_19, main_v109, main_v110, main_c_20, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v111, main_v112, main_v113, main_v114, main_v115, main_v116, main_cst_21, main_v117, main_v118, main_v119, main_v120, main_v121, main_v122, main_v123, main_v124, main_call6_cst, main_call6_v0, main_v125]
set_option maxRecDepth 8192 in
theorem opsK_writes : (opsK : List (HloOp τ sig (Elt F))).Forall fun op => op.writes ⊆ (opsKW.map (Proc.devRef (τ := τ) .tc)).toFinset :=
  forall_writes_sub_of_map rfl
set_option maxRecDepth 8192 in
theorem opsK_sub : (opsK : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem opsK_fresh : (opsK : List (HloOp τ sig (Elt F))).Forall fun op => op.fresh = ∅ :=
  forall_fresh_of_map rfl
/-- What the operations of `opsL` write, in order. -/
abbrev opsLW : List (Ref sig .tc) := [main_cst_22, main_v126, main_v127, main_cst_23, main_v128, main_v129, main_c_24, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_v12, main_call7_cst_3, main_call7_v13, main_call7_cst_4, main_call7_call0_v0, main_call7_call0_v1, main_v130, main_v131, main_v132, main_v133, main_v134, main_v135, main_cst_25, main_v136, main_v137, main_v138, main_v139, main_v140, main_v141, main_v142, main_v143]
set_option maxRecDepth 8192 in
theorem opsL_writes : (opsL : List (HloOp τ sig (Elt F))).Forall fun op => op.writes ⊆ (opsLW.map (Proc.devRef (τ := τ) .tc)).toFinset :=
  forall_writes_sub_of_map rfl
set_option maxRecDepth 8192 in
theorem opsL_sub : (opsL : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩
set_option maxRecDepth 8192 in
theorem opsL_fresh : (opsL : List (HloOp τ sig (Elt F))).Forall fun op => op.fresh = ∅ :=
  forall_fresh_of_map rfl
/-- What the operations of `opsM` write, in order. -/
abbrev opsMW : List (Ref sig .tc) := [main_cst_26, main_v144]
set_option maxRecDepth 8192 in
theorem opsM_writes : (opsM : List (HloOp τ sig (Elt F))).Forall fun op => op.writes ⊆ (opsMW.map (Proc.devRef (τ := τ) .tc)).toFinset :=
  forall_writes_sub_of_map rfl
set_option maxRecDepth 8192 in
theorem opsM_sub : (opsM : List (HloOp τ sig (Elt F))).Forall fun op => op.bufs ⊆ tcRefs τ sig :=
  ⟨nullary_bufs_sub .., binary_bufs_sub ..⟩
set_option maxRecDepth 8192 in
theorem opsM_fresh : (opsM : List (HloOp τ sig (Elt F))).Forall fun op => op.fresh = ∅ :=
  forall_fresh_of_map rfl
theorem opsAll_sub : ∀ op ∈ (opsAll : List (HloOp τ sig (Elt F))), op.bufs ⊆ tcRefs τ sig := by
  intro op h
  simp only [opsAll, opsPart0, opsPart1, opsPart2, List.mem_append, or_assoc] at h
  rcases h with h | h | h | h | h | h | h | h | h | h | h | h | h | h | h
  exacts [List.forall_iff_forall_mem.mp opsA_sub op h, List.forall_iff_forall_mem.mp opsB_sub op h, List.forall_iff_forall_mem.mp opsC_sub op h, List.forall_iff_forall_mem.mp opsD0_sub op h, List.forall_iff_forall_mem.mp opsD1_sub op h, List.forall_iff_forall_mem.mp opsE_sub op h, List.forall_iff_forall_mem.mp opsF_sub op h, List.forall_iff_forall_mem.mp opsG_sub op h, List.forall_iff_forall_mem.mp opsH_sub op h, List.forall_iff_forall_mem.mp opsI_sub op h, List.forall_iff_forall_mem.mp opsJ0_sub op h, List.forall_iff_forall_mem.mp opsJ1_sub op h, List.forall_iff_forall_mem.mp opsK_sub op h, List.forall_iff_forall_mem.mp opsL_sub op h, List.forall_iff_forall_mem.mp opsM_sub op h]
theorem opsAll_fresh : ∀ op ∈ (opsAll : List (HloOp τ sig (Elt F))), op.fresh = ∅ := by
  intro op h
  simp only [opsAll, opsPart0, opsPart1, opsPart2, List.mem_append, or_assoc] at h
  rcases h with h | h | h | h | h | h | h | h | h | h | h | h | h | h | h
  exacts [List.forall_iff_forall_mem.mp opsA_fresh op h, List.forall_iff_forall_mem.mp opsB_fresh op h, List.forall_iff_forall_mem.mp opsC_fresh op h, List.forall_iff_forall_mem.mp opsD0_fresh op h, List.forall_iff_forall_mem.mp opsD1_fresh op h, List.forall_iff_forall_mem.mp opsE_fresh op h, List.forall_iff_forall_mem.mp opsF_fresh op h, List.forall_iff_forall_mem.mp opsG_fresh op h, List.forall_iff_forall_mem.mp opsH_fresh op h, List.forall_iff_forall_mem.mp opsI_fresh op h, List.forall_iff_forall_mem.mp opsJ0_fresh op h, List.forall_iff_forall_mem.mp opsJ1_fresh op h, List.forall_iff_forall_mem.mp opsK_fresh op h, List.forall_iff_forall_mem.mp opsL_fresh op h, List.forall_iff_forall_mem.mp opsM_fresh op h]

end Cert.Adj

end
-- ==== Proof.Agree.lean ====
/-
  The host operations of the kernel and the reference's composed terms: list by list, from the same operands each list of
  the kernel's leaves the reference's array.
-/
module

public import proofs.«01_k».proof.Proof.Host
public import proofs.«01_k».proof.Proof.Gen.ReferenceIdeal.Run

@[expose] public section

set_option maxRecDepth 8192
set_option maxHeartbeats 2000000

noncomputable section

namespace Cert.Adj

open Cert.Kernel Cert.Kernel.Gen
open Idealize.ShloMosaic Idealize.ShloMosaic.TcCoe Idealize.SL.Sem Idealize.ShloMosaic.StableHlo
open Cert.ReferenceIdeal.Value (res_main_v21 res_main_v25 res_main_v45 res_main_v52 res_main_v58 res_main_v65 res_main_v76 res_main_v79 res_main_v101
  res_main_v120 val3 val3_main_v75 val3_main_v138 val3_main_v139)

variable {F : FTy → Type} [FloatOps F]

/-- The two programs' arguments are the same. -/
structure SameArgs (V : Valuation τ sig (Elt F)) (V0 : Valuation Cert.ReferenceIdeal.τ Cert.ReferenceIdeal.sig (Elt F)) : Prop where
  a0 : @Eq (Vec F S1024x512 .f32) (V (Proc.devRef .tc main_arg0)) (V0 (Proc.devRef .tc Cert.ReferenceIdeal.main_arg0))
  a1 : @Eq (Vec F S2x32768 .i32) (V (Proc.devRef .tc main_arg1)) (V0 (Proc.devRef .tc Cert.ReferenceIdeal.main_arg1))
  a2 : @Eq (Vec F S32768 .i32) (V (Proc.devRef .tc main_arg2)) (V0 (Proc.devRef .tc Cert.ReferenceIdeal.main_arg2))
  a3 : @Eq (Vec F S32768 .f32) (V (Proc.devRef .tc main_arg3)) (V0 (Proc.devRef .tc Cert.ReferenceIdeal.main_arg3))
  a4 : @Eq (Vec F S7x512x512 .f32) (V (Proc.devRef .tc main_arg4)) (V0 (Proc.devRef .tc Cert.ReferenceIdeal.main_arg4))
  a5 : @Eq (Vec F S512 .f32) (V (Proc.devRef .tc main_arg5)) (V0 (Proc.devRef .tc Cert.ReferenceIdeal.main_arg5))
  a6 : @Eq (Vec F S512 .f32) (V (Proc.devRef .tc main_arg6)) (V0 (Proc.devRef .tc Cert.ReferenceIdeal.main_arg6))
  a7 : @Eq (Vec F S2x512x512 .f32) (V (Proc.devRef .tc main_arg7)) (V0 (Proc.devRef .tc Cert.ReferenceIdeal.main_arg7))
  a8 : @Eq (Vec F S2x512x512 .f32) (V (Proc.devRef .tc main_arg8)) (V0 (Proc.devRef .tc Cert.ReferenceIdeal.main_arg8))
  a9 : @Eq (Vec F S3584x512 .f32) (V (Proc.devRef .tc main_arg9)) (V0 (Proc.devRef .tc Cert.ReferenceIdeal.main_arg9))
  a10 : @Eq (Vec F S512 .f32) (V (Proc.devRef .tc main_arg10)) (V0 (Proc.devRef .tc Cert.ReferenceIdeal.main_arg10))
  a11 : @Eq (Vec F S512 .f32) (V (Proc.devRef .tc main_arg11)) (V0 (Proc.devRef .tc Cert.ReferenceIdeal.main_arg11))
  a12 : @Eq (Vec F S3584x512 .f32) (V (Proc.devRef .tc main_arg12)) (V0 (Proc.devRef .tc Cert.ReferenceIdeal.main_arg12))
  a13 : @Eq (Vec F S512 .f32) (V (Proc.devRef .tc main_arg13)) (V0 (Proc.devRef .tc Cert.ReferenceIdeal.main_arg13))
  a14 : @Eq (Vec F S512 .f32) (V (Proc.devRef .tc main_arg14)) (V0 (Proc.devRef .tc Cert.ReferenceIdeal.main_arg14))
  a15 : @Eq (Vec F S512 .f32) (V (Proc.devRef .tc main_arg15)) (V0 (Proc.devRef .tc Cert.ReferenceIdeal.main_arg15))
  a16 : @Eq (Vec F S512 .f32) (V (Proc.devRef .tc main_arg16)) (V0 (Proc.devRef .tc Cert.ReferenceIdeal.main_arg16))

variable (V : Valuation τ sig (Elt F)) (V0 : Valuation Cert.ReferenceIdeal.τ Cert.ReferenceIdeal.sig (Elt F))

/-- The adjacency built on the host is the reference's. -/
theorem agreeA (h : SameArgs V V0) :
    after opsA V (Proc.devRef .tc main_v22) = res_main_v21 V0 := by
  simp only [opsA]
  after_results_simp
  simp only [h.a1, h.a2, h.a3] <;> rfl

/-- The features mixed along it and projected are the reference's. -/
theorem agreeB (h : SameArgs V V0) (h0 : V (Proc.devRef .tc main_v22) = res_main_v21 V0) :
    after opsB V (Proc.devRef .tc main_v26) = res_main_v25 V0 := by
  simp only [opsB]
  after_results_simp
  simp only [h.a0, h.a4, h0] <;> rfl

/-- The first normalisation is the reference's. -/
theorem agreeC (h : SameArgs V V0) (h0 : V (Proc.devRef .tc main_v26) = res_main_v25 V0) :
    after opsC V (Proc.devRef .tc main_v46) = res_main_v45 V0 := by
  simp only [opsC]
  after_results_simp
  simp only [h.a5, h.a6, h0] <;> rfl

/-- The attention scores are the reference's. -/
theorem agreeD (h : SameArgs V V0) (h0 : V (Proc.devRef .tc main_v46) = res_main_v45 V0) :
    after (opsD0 ++ opsD1) V (Proc.devRef .tc main_v53) = res_main_v52 V0 := by
  simp only [opsD0, opsD1, List.cons_append, List.nil_append]
  after_results_simp
  simp only [h.a7, h.a8, h0] <;> rfl

/-- The scores kept are the reference's. -/
theorem agreeE (h0 : V (Proc.devRef .tc main_v53) = res_main_v52 V0) :
    after opsE V (Proc.devRef .tc main_v59) = res_main_v58 V0 := by
  simp only [opsE]
  after_results_simp
  simp only [h0] <;> rfl

/-- The exponentials are the reference's. -/
theorem agreeF (h0 : V (Proc.devRef .tc main_v59) = res_main_v58 V0) :
    after opsF V (Proc.devRef .tc main_v66) = res_main_v65 V0 := by
  simp only [opsF]
  after_results_simp
  simp only [h0] <;> rfl

/-- The rewired adjacency, by relation, is the reference's. -/
theorem agreeG (h0 : V (Proc.devRef .tc main_v22) = res_main_v21 V0) (h1 : V (Proc.devRef .tc main_v66) = res_main_v65 V0) :
    after opsG V (Proc.devRef .tc main_v77) = res_main_v76 V0 := by
  simp only [opsG]
  after_results_simp
  simp only [h0, h1] <;> rfl

/-- The features mixed along the rewired adjacency are the reference's. -/
theorem agreeI (h : SameArgs V V0) (h0 : V (Proc.devRef .tc main_v77) = res_main_v76 V0) :
    after opsI V (Proc.devRef .tc main_v84) = res_main_v79 V0 := by
  simp only [opsI]
  after_results_simp
  simp only [h.a0, h.a9, h0] <;> rfl

/-- The second normalisation, mixed and projected, is the reference's. -/
theorem agreeJ (h : SameArgs V V0) (h0 : V (Proc.devRef .tc main_v77) = res_main_v76 V0) (h1 : V (Proc.devRef .tc main_v84) = res_main_v79 V0) :
    after (opsJ0 ++ opsJ1) V (Proc.devRef .tc main_v106) = res_main_v101 V0 := by
  simp only [opsJ0, opsJ1, List.cons_append, List.nil_append]
  after_results_simp
  simp only [h.a10, h.a11, h.a12, h0, h1] <;> rfl

/-- The third normalisation is the reference's. -/
theorem agreeK (h : SameArgs V V0) (h0 : V (Proc.devRef .tc main_v106) = res_main_v101 V0) :
    after opsK V (Proc.devRef .tc main_v125) = res_main_v120 V0 := by
  simp only [opsK]
  after_results_simp
  simp only [h.a13, h.a14, h0] <;> rfl

/-- The second result is the reference's. -/
theorem agreeL (h : SameArgs V V0) (h0 : V (Proc.devRef .tc main_v125) = res_main_v120 V0) :
    after opsL V (Proc.devRef .tc main_v143) = (val3 V0 (Proc.devRef .tc Cert.ReferenceIdeal.main_v138) : Vec F S1024x512 .f32) := by
  rw [val3_main_v138]
  simp only [opsL]
  after_results_simp
  simp only [h.a15, h.a16, h0] <;> rfl

/-- The first result is the reference's, from the second. -/
theorem agreeM (h0 : V (Proc.devRef .tc main_v143) = (val3 V0 (Proc.devRef .tc Cert.ReferenceIdeal.main_v138) : Vec F S1024x512 .f32)) :
    after opsM V (Proc.devRef .tc main_v144) = (val3 V0 (Proc.devRef .tc Cert.ReferenceIdeal.main_v139) : Vec F S512 .f32) := by
  rw [val3_main_v138] at h0
  rw [val3_main_v139]
  simp only [opsM]
  after_results_simp
  simp only [h0] <;> rfl

/-- Over the extended reals a maximum with the same array taken twice is taken once. -/
theorem maximumf_twice {s : Shape} (x y : FVec Ideal s .f32) : maximumf x (maximumf x y) = maximumf x y :=
  funext fun i => show max (x i) (max (x i) (y i)) = max (x i) (y i) from max_eq_right (le_max_left (x i) (y i))

/-- The third result is the reference's, over the extended reals: the kernel takes the maximum of the attention and the
    adjacency twice, once with the adjacency built on the host and once with the SparseCores'. -/
theorem agreeH (V : Valuation τ sig (Elt Ideal)) (V0 : Valuation Cert.ReferenceIdeal.τ Cert.ReferenceIdeal.sig (Elt Ideal))
    (h0 : V (Proc.devRef .tc main_v22) = res_main_v21 V0) (h1 : V (Proc.devRef .tc main_v66) = res_main_v65 V0) (h2 : V (Proc.devRef .tc main_v0) = res_main_v21 V0) :
    after (opsG ++ opsH) V (Proc.devRef .tc main_v81) = (val3 V0 (Proc.devRef .tc Cert.ReferenceIdeal.main_v75) : Vec Ideal S1024x7168 .f32) := by
  rw [val3_main_v75]
  simp only [opsG, opsH, List.cons_append, List.nil_append]
  after_results_simp
  simp only [h0, h1, h2]
  rw [maximumf_twice]
  rfl

end Cert.Adj

end
-- ==== Proof.Values.lean ====
/-
  What a tile computes, as functions of the edge data: one group of sixteen edges added into the sixteen rows the tile
  holds (`addGroup`), the rows after the first `g` groups (`rowsAfter`), and the adjacency they make up (`adj`).
-/
module

public import Idealize.ShloMosaic.Lib.Pointwise.Index
public import proofs.«01_k».proof.Proof.Setup

@[expose] public section

noncomputable section

namespace Cert.Adj

open Cert.Kernel Cert.Kernel.Gen
open Idealize.ShloMosaic

variable {F : FTy → Type} [FloatOps F]

/-! ## The edge data, by edge number -/

/-- Entry `n` of row `j` of the edge list. -/
def edgeRow (E : S2x32768.Idx → BitVec 32) (j : Fin 2) (n : ℕ) : BitVec 32 :=
  E (ix2 j ⟨n % 32768, Nat.mod_lt _ (by decide)⟩)
/-- Entry `n` of an array with one entry per edge. -/
def edgeVal {α : Type} (f : S32768.Idx → α) (n : ℕ) : α := f (ix1 ⟨n % 32768, Nat.mod_lt _ (by decide)⟩)
/-- The 2048 entries from `o` on. -/
def win {α : Type} (f : ℕ → α) (o : ℕ) : S2048.Idx → α := fun x => f (o + (x 0).val)
/-- The sixteen entries from `o` on. -/
def lanes {α : Type} (f : ℕ → α) (o : ℕ) : S16.Idx → α := fun x => f (o + (x 0).val)

/-! ## One group of sixteen edges -/

/-- Which lanes' rows are among the sixteen from `v` on. -/
def grpMask (v : BitVec 32) (row : IVec S16 32) : IVec S16 1 :=
  andi (cmpi .sge (subi row (broadcast S16 v)) (broadcast S16 0#32)) (cmpi .slt (subi row (broadcast S16 v)) (broadcast S16 16#32))
/-- The flat position each lane adds at: zero for a lane that adds nothing. -/
def grpIdx (v : BitVec 32) (row col rel : IVec S16 32) : IVec S16 32 :=
  select (grpMask v row) (addi (addi (muli (subi row (broadcast S16 v)) (broadcast S16 7168#32)) (muli rel (broadcast S16 1024#32))) col)
    (broadcast S16 0#32)
/-- Every lane's position is inside the sixteen rows. -/
def InRows (ix : IVec S16 32) : Prop := ∀ a x, ((![ix] : Fin 1 → IVec S16 32) a x).toNat < S114688.size a
instance (ix : IVec S16 32) : Decidable (InRows ix) := k0_chk1.dec ix

/-- The rows `A` with one group's weights added, lane by lane. -/
def addGroup (v : BitVec 32) (row col rel : IVec S16 32) (w : S16.Idx → F .f32) (A : S114688.Idx → F .f32) : S114688.Idx → F .f32 :=
  if h : InRows (grpIdx v row col rel) then
    storeIdx (F := F) (e := .f32) A ![grpIdx v row col rel] w (grpMask v row) true h
  else A

/-! ## All the groups, in order -/

/-- The zero the rows start from. -/
def zeroRows : S114688.Idx → F .f32 := fun _ => Scalar.ofBits .f32 0x00000000#32

variable (E : S2x32768.Idx → BitVec 32) (R : S32768.Idx → BitVec 32) (W : S32768.Idx → F .f32)

/-- The sixteen rows from `v` on after the first `g` groups of edges. -/
def rowsAfter (v : BitVec 32) : ℕ → S114688.Idx → F .f32
  | 0 => zeroRows
  | g + 1 => addGroup v (lanes (edgeRow E 0) (16 * g)) (lanes (edgeRow E 1) (16 * g)) (lanes (edgeVal R) (16 * g))
      (lanes (edgeVal W) (16 * g)) (rowsAfter v g)

/-- A flat position among the sixteen rows. -/
def flat (n : ℕ) : S114688.Idx := ix1 ⟨n % 114688, Nat.mod_lt _ (by decide)⟩

/-- The adjacency: row `n` is row `n mod 16` of the sixteen from `16 ⌊n / 16⌋` on, after all 2048 groups. -/
def adj : S1024x7168.Idx → F .f32 := fun x =>
  rowsAfter E R W (BitVec.ofNat 32 (16 * ((x 0).val / 16))) 2048 (flat (7168 * ((x 0).val % 16) + (x 1).val))

end Cert.Adj

end
-- ==== Proof.Copy.lean ====
/-
  A tile's copies: what a tile needs to wait for its own transfers (`Waiting`), and one transfer with its wait
  (`wp_copy`), at any of the tile's DMA semaphores, all of which are at zero between copies.
-/
module

public import proofs.«01_k».proof.Proof.Values

@[expose] public section

noncomputable section

namespace Cert.Adj

open Cert.Kernel Cert.Kernel.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Every DMA semaphore is scoped to the tile. -/
theorem dma_scoped : ∀ sm : DmaSem sig, (SemLoc.dma sm : SemLoc sig).isScoped .scVector = true := by decide

variable (d : Dev nD) (i : grid0.Coords) (O : CellTallies nD τ sig (HIx 1)) (W : Waits sig (HIx 1))

/-- What a tile waits with: its waits are admissible, its semaphores are at zero, and what it owes. -/
def Waiting : sProp 𝕄 :=
  iprop(Transfers.MayWaits (tile d i) (none : HIx 1) O ∗ ownSems0 (tile d i)
    ∗ ∃ W', ⌜∀ p ∈ W', p ∈ W ∨ p.2 = none⌝ ∗ owes (tile d i) O W')

/-- One semaphore of the tile's, taken out of all of them. -/
theorem ownSems0_take (sm : DmaSem sig) :
    (ownSems0 (tile d i) : sProp 𝕄)
      = iprop(semVal (tile d i, SemLoc.dma sm) 0 ∗ bigSep ((ownCells (tile d i)).erase (tile d i, SemLoc.dma sm)) fun g => semVal g 0) := by
  unfold SparseCore.Cfg.ownSems0
  exact SparseCore.bigSep_erase' ((mem_ownCells (g := (tile d i, SemLoc.dma sm))).mpr ⟨rfl, dma_scoped sm⟩)

/-- A transfer within the device and the wait for it: from the source's elements, the destination's elements and
    `Waiting`, to the destination rewritten with what the source held, all else as before. -/
theorem wp_copy {α : Type} {Q : α → sProp 𝕄} {sp sp' : Space} {s : Shape} {e : EltTy}
    {src : Memref sig .scVector sp s e} {dst : Memref sig .scVector sp' s e} {sm : DmaSem sig}
    {h₁ h₁' : src.view.WordExact} {h₂ h₂' : dst.view.WordExact} {h₃ : DmaTarget.Typed (nD := nD) (τ := τ) (p := (tile d i).2) sp (.dma sm) (.here dst)}
    {k : PUnit → Prog (TpuEff nD τ sig (Elt F) Λ₀ (tile d i).2) α} {q : PosShare TreeShare} {fs : Buf (Elt F) (src.view.loc (tile d i))}
    {Sd : Finset (Idx (dst.view.loc (tile d i)))} {fd : Buf (Elt F) (dst.view.loc (tile d i))}
    (hn : 0 < s.numel) (hSd : dst.view.set ⊆ Sd) :
    iprop((src.view.loc (tile d i) ↦[src.view.set]{q} fs) ∗ (dst.view.loc (tile d i) ↦[Sd]{fullShare} fd) ∗ Waiting (F := F) d i O W)
      ⊢ iprop((iprop((src.view.loc (tile d i) ↦[src.view.set]{q} fs)
            ∗ (dst.view.loc (tile d i) ↦[Sd]{fullShare} (dst.view.write (Elt F) fd (src.view.read (Elt F) fs) Finset.univ)) ∗ Waiting (F := F) d i O W)
          -∗ wp frame (wpE (defs₀ (F := F)) 𝒱₀ (tile d i) none) Set.univ (k ⟨⟩) Q)
        -∗ wp frame (wpE (defs₀ (F := F)) 𝒱₀ (tile d i) none) Set.univ
            (.op (.enqueueDma src (.here dst) (.dma sm) h₁ h₂ h₃) fun _ => .op (.waitDma2 sm src dst h₁' h₂') k) Q) := by
  unfold Waiting
  iintro ⟨Hs, Hd, #Hmw, Hsems, %W', %hW', HO⟩ Hk
  ihave Hsems' := (Entails.of_eq (ownSems0_take (F := F) d i sm)) $$ Hsems
  icases Hsems' with ⟨Hsem, Hrest⟩
  have hN : dst.view.amount (SemLoc.dma sm) = dst.view.dmaCredit := rfl
  have hN0 : 0 < dst.view.dmaCredit := View.dmaCredit_pos _ hn
  iapply (Transfers.wp_dmaLocal countersEmb 𝒱₀ (tile d i) none (none : HIx 1) dst.view.dmaCredit hN hN0 hSd) $$ [Hs Hd Hsem]
  · isplitl [Hs]; · iexact Hs
    isplitl [Hd]; · iexact Hd
    iexact Hsem
  iintro Hfl
  iapply (Transfers.wp_waitLocalO countersEmb 𝒱₀ (tile d i) none (none : HIx 1) (rfl : dst.view.dmaCredit = _)) $$ [Hfl HO]
  · isplitl [Hfl]; · iexact Hfl
    isplitl [HO]; · iexact HO
    iapply (Transfers.MayWaits.elim (SemLoc.dma sm)); iexact Hmw
  iintro ⟨⟨Hd, Hs⟩, Hsem, HO⟩
  iapply Hk
  isplitl [Hs]; · iexact Hs
  isplitl [Hd]; · iexact Hd
  isplitr; · iexact Hmw
  isplitl [Hsem Hrest]
  · iapply (Entails.of_eq (ownSems0_take (F := F) d i sm).symm)
    isplitl [Hsem] <;> iassumption
  iexists (insert (SemLoc.dma sm, (none : HIx 1)) W'); isplitr
  · ipureintro; intro p hp
    rcases Finset.mem_insert.mp hp with rfl | hp
    · exact .inr rfl
    · exact hW' p hp
  · iexact HO

end Cert.Adj

end
-- ==== Proof.Places.lean ====
/-
  Where a tile's memrefs point: what a chunk of the edge list, of the relations or of the weights reads, what a row of
  the tile's sixteen reads, and which elements of the adjacency a row copy writes.
-/
module

public import proofs.«01_k».proof.Proof.Values

@[expose] public section

noncomputable section

namespace Cert.Adj

open Cert.Kernel Cert.Kernel.Gen
open Idealize.ShloMosaic

variable {F : FTy → Type} [FloatOps F]

/-! ## The memrefs, by where they start -/

/-- Row `j` of the edge list, the 2048 entries from `o` on. -/
abbrev eChunk (j o : ℕ) (h : ∀ a, (![j, o] : Fin 2 → ℕ) a + S1x2048.size a ≤ S2x32768.size a) : Memref sig .scVector .hbm S2048 .i32 :=
  (eM.slice (Rect.unit (s := S2x32768) ![j, o] S1x2048.size h) (fun _ => rfl)).squeeze S2048 squeezes_S1x2048_S2048
/-- The 2048 relations from `o` on. -/
abbrev rChunk (o : ℕ) (h : ∀ a, (![o] : Fin 1 → ℕ) a + S2048.size a ≤ S32768.size a) : Memref sig .scVector .hbm S2048 .i32 :=
  rM.slice (Rect.unit (s := S32768) ![o] S2048.size h) (fun _ => rfl)
/-- The 2048 weights from `o` on. -/
abbrev wChunk (o : ℕ) (h : ∀ a, (![o] : Fin 1 → ℕ) a + S2048.size a ≤ S32768.size a) : Memref sig .scVector .hbm S2048 .f32 :=
  wM.slice (Rect.unit (s := S32768) ![o] S2048.size h) (fun _ => rfl)
/-- The row of the tile's sixteen that starts at `o`. -/
abbrev aRow (o : ℕ) (h : ∀ a, (![o] : Fin 1 → ℕ) a + S7168.size a ≤ S114688.size a) : Memref sig .scVector .vmem S7168 .f32 :=
  aM.slice (Rect.unit (s := S114688) ![o] S7168.size h) (fun _ => rfl)
/-- The row of the adjacency at offsets `off`. -/
abbrev oRow (off : Fin 2 → ℕ) (h : ∀ a, off a + S1x7168.size a ≤ S1024x7168.size a) : Memref sig .scVector .hbm S7168 .f32 :=
  (oM.slice (Rect.unit (s := S1024x7168) off S1x7168.size h) (fun _ => rfl)).squeeze S7168 squeezes_S1x7168_S7168

/-! ## What they read -/

/-- An index of a vector, with a unit axis put in front. -/
theorem unsqueeze {n : ℕ} (h : (⟨1, ![n]⟩ : Shape).numel = (⟨2, ![1, n]⟩ : Shape).numel) (x : (⟨1, ![n]⟩ : Shape).Idx) :
    Shape.reshapeEquiv h x = ix2 (⟨0, Nat.one_pos⟩ : Fin 1) (x 0) :=
  Shape.reshapeEquiv_eq_of_rowMajor h
    (((Shape.rowMajor_val_two _).trans (show 0 * n + (x 0).val = (x 0).val by omega)).trans (Shape.rowMajor_val_one x).symm)

theorem eChunk_read (j : Fin 2) (o : ℕ) (h : ∀ a, (![j.val, o] : Fin 2 → ℕ) a + S1x2048.size a ≤ S2x32768.size a) (E : S2x32768.Idx → BitVec 32) :
    (eChunk j.val o h).view.read (Elt F) E = win (edgeRow E j) o := by
  funext x
  have ho : o + 2048 ≤ 32768 := h 1
  have hx : (x 0).val < 2048 := (x 0).isLt
  rw [View.read_apply]
  refine (cast_eq _ _).trans ?_
  unfold win edgeRow
  refine congrArg E ?_
  refine (congrArg (Rect.unit (s := S2x32768) ![j.val, o] S1x2048.size h).emb (unsqueeze (n := 2048) _ x)).trans ?_
  funext a
  apply Fin.ext
  match a with
  | 0 => show j.val + 1 * 0 = j.val; omega
  | 1 => show o + 1 * (x 0).val = (o + (x 0).val) % 32768; omega

theorem rChunk_read (o : ℕ) (h : ∀ a, (![o] : Fin 1 → ℕ) a + S2048.size a ≤ S32768.size a) (R : S32768.Idx → BitVec 32) :
    (rChunk o h).view.read (Elt F) R = win (edgeVal R) o := by
  funext x
  have ho : o + 2048 ≤ 32768 := h 0
  have hx : (x 0).val < 2048 := (x 0).isLt
  rw [View.read_apply]
  refine (cast_eq _ _).trans ?_
  unfold win edgeVal
  refine congrArg R ?_
  funext a
  apply Fin.ext
  match a with
  | 0 => show o + 1 * (x 0).val = (o + (x 0).val) % 32768; omega

theorem wChunk_read (o : ℕ) (h : ∀ a, (![o] : Fin 1 → ℕ) a + S2048.size a ≤ S32768.size a) (W : S32768.Idx → F .f32) :
    (wChunk o h).view.read (Elt F) W = win (edgeVal W) o := by
  funext x
  have ho : o + 2048 ≤ 32768 := h 0
  have hx : (x 0).val < 2048 := (x 0).isLt
  rw [View.read_apply]
  refine (cast_eq _ _).trans ?_
  unfold win edgeVal
  refine congrArg W ?_
  funext a
  apply Fin.ext
  match a with
  | 0 => show o + 1 * (x 0).val = (o + (x 0).val) % 32768; omega

theorem aRow_read (o : ℕ) (h : ∀ a, (![o] : Fin 1 → ℕ) a + S7168.size a ≤ S114688.size a) (A : S114688.Idx → F .f32) (x : S7168.Idx) :
    (aRow o h).view.read (Elt F) A x = A (flat (o + (x 0).val)) := by
  have ho : o + 7168 ≤ 114688 := h 0
  have hx : (x 0).val < 7168 := (x 0).isLt
  rw [View.read_apply]
  refine (cast_eq _ _).trans ?_
  unfold flat
  refine congrArg A ?_
  funext a
  apply Fin.ext
  match a with
  | 0 => show o + 1 * (x 0).val = (o + (x 0).val) % 114688; omega

/-- Sixteen entries of a chunk buffer, as a load reads them. -/
theorem lanes_win {α : Type} (f : ℕ → α) (o p : ℕ) (hp : p + 16 ≤ 2048) (x : S16.Idx) :
    win f o (ix1 ⟨p + (x 0).val, by have : (x 0).val < 16 := (x 0).isLt; omega⟩) = lanes f (o + p) x := by
  unfold win lanes
  exact congrArg f (by show o + (p + (x 0).val) = o + p + (x 0).val; omega)

/-! ## Which elements of the adjacency a row copy writes -/

theorem oRow_emb (n : ℕ) (hn : n < 1024) (h : ∀ a, (![n, 0] : Fin 2 → ℕ) a + S1x7168.size a ≤ S1024x7168.size a) (x : S7168.Idx) :
    (oRow ![n, 0] h).view.emb x = ix2 (⟨n, hn⟩ : Fin 1024) (x 0) := by
  refine (congrArg (Rect.unit (s := S1024x7168) ![n, 0] S1x7168.size h).emb (unsqueeze (n := 7168) _ x)).trans ?_
  funext a
  apply Fin.ext
  match a with
  | 0 => show n + 1 * 0 = n; omega
  | 1 => show 0 + 1 * (x 0).val = (x 0).val; omega

/-- A row copy writes row `n`, -/
theorem oRow_write_self (n : ℕ) (hn : n < 1024) (h : ∀ a, (![n, 0] : Fin 2 → ℕ) a + S1x7168.size a ≤ S1024x7168.size a)
    (g : S1024x7168.Idx → F .f32) (w : S7168.Idx → F .f32) (c : Fin 7168) :
    (oRow ![n, 0] h).view.write (Elt F) g w Finset.univ (ix2 (⟨n, hn⟩ : Fin 1024) c) = w (ix1 c) := by
  rw [← show (oRow ![n, 0] h).view.emb (ix1 c) = ix2 (⟨n, hn⟩ : Fin 1024) c from oRow_emb n hn h (ix1 c),
    View.write_emb_of_mem _ _ (Finset.mem_univ _)]
  exact cast_eq _ _

theorem mem_oRow (n : ℕ) (hn : n < 1024) (h : ∀ a, (![n, 0] : Fin 2 → ℕ) a + S1x7168.size a ≤ S1024x7168.size a) (y : S1024x7168.Idx)
    (hy : y ∈ (oRow ![n, 0] h).view.set) : (y 0).val = n := by
  obtain ⟨x, -, rfl⟩ := Finset.mem_map.mp hy
  rw [oRow_emb n hn h x]
  rfl

/-- and no other. -/
theorem oRow_write_other (n : ℕ) (hn : n < 1024) (h : ∀ a, (![n, 0] : Fin 2 → ℕ) a + S1x7168.size a ≤ S1024x7168.size a)
    (g : S1024x7168.Idx → F .f32) (w : S7168.Idx → F .f32) (y : S1024x7168.Idx) (hy : (y 0).val ≠ n) :
    (oRow ![n, 0] h).view.write (Elt F) g w Finset.univ y = g y :=
  View.write_of_not_mem _ _ _ fun hm => hy (mem_oRow n hn h y hm)

end Cert.Adj

end
-- ==== Proof.Range.lean ====
/-
  Edge data in range: every position a lane adds at is then inside the sixteen rows the tile holds.
-/
module

public import proofs.«01_k».proof.Proof.Values

@[expose] public section

noncomputable section

namespace Cert.Adj

open Cert.Kernel Cert.Kernel.Gen
open Idealize.ShloMosaic

/-- Every node is one of the 1024, every relation one of the 7. -/
structure InRange (E : S2x32768.Idx → BitVec 32) (R : S32768.Idx → BitVec 32) : Prop where
  node : ∀ x, (E x).toNat < 1024
  rel : ∀ x, (R x).toNat < 7

variable {E : S2x32768.Idx → BitVec 32} {R : S32768.Idx → BitVec 32}

theorem InRange.edgeRow (h : InRange E R) (j : Fin 2) (n : ℕ) : (Adj.edgeRow E j n).toNat < 1024 := h.node _
theorem InRange.edgeVal (h : InRange E R) (n : ℕ) : (Adj.edgeVal R n).toNat < 7 := h.rel _

/-- A word is one of the sixteen least, read signed on both sides, just if it is read unsigned. -/
theorem within_sixteen (d : BitVec 32) : IntOp.andi (IntOp.cmpi .sge d 0#32) (IntOp.cmpi .slt d 16#32) = 1#1 ↔ d.toNat < 16 := by
  have h : IntOp.andi (IntOp.cmpi .sge d 0#32) (IntOp.cmpi .slt d 16#32) = BitVec.ofBool ((0#32).sle d && d.slt 16#32) := by
    show BitVec.ofBool ((0#32).sle d) &&& BitVec.ofBool (d.slt 16#32) = _
    cases (0#32).sle d <;> cases d.slt 16#32 <;> rfl
  have hb : ∀ b : Bool, BitVec.ofBool b = 1#1 ↔ b = true := by decide
  have h0 : (0#32).toInt = 0 := by decide
  have h16 : (16#32).toInt = 16 := by decide
  have hd := d.isLt
  rw [h, hb, Bool.and_eq_true, BitVec.sle_iff_toInt_le, BitVec.slt_iff_toInt_lt, h0, h16, BitVec.toInt_eq_toNat_cond]
  split <;> omega

/-- A lane adds just if its row is one of the sixteen from `v` on. -/
theorem grpMask_apply (v : BitVec 32) (row : IVec S16 32) (x : S16.Idx) : grpMask v row x = 1#1 ↔ (row x - v).toNat < 16 :=
  within_sixteen (row x - v)

/-- Where a lane that adds adds. -/
theorem grpIdx_on (v : BitVec 32) (row col rel : IVec S16 32) (x : S16.Idx) (h : (row x - v).toNat < 16)
    (hc : (col x).toNat < 1024) (hl : (rel x).toNat < 7) :
    (grpIdx v row col rel x).toNat = 7168 * (row x - v).toNat + (1024 * (rel x).toNat + (col x).toNat) := by
  have hm : grpMask v row x = 1#1 := (grpMask_apply v row x).mpr h
  have e : grpIdx v row col rel x = (row x - v) * 7168#32 + rel x * 1024#32 + col x := by
    show Scalar.select (grpMask v row x) ((row x - v) * 7168#32 + rel x * 1024#32 + col x) 0#32 = _
    rw [hm]; rfl
  rw [e]
  have k1 : (7168#32).toNat = 7168 := by decide
  have k2 : (1024#32).toNat = 1024 := by decide
  simp only [BitVec.toNat_add, BitVec.toNat_mul, k1, k2]
  omega

/-- A lane that adds nothing has position zero. -/
theorem grpIdx_off (v : BitVec 32) (row col rel : IVec S16 32) (x : S16.Idx) (h : ¬ (row x - v).toNat < 16) :
    (grpIdx v row col rel x).toNat = 0 := by
  have hm : grpMask v row x = 0#1 := by
    have hb : ∀ b : BitVec 1, b ≠ 1#1 → b = 0#1 := by decide
    exact hb _ fun hc => h ((grpMask_apply v row x).mp hc)
  have e : grpIdx v row col rel x = 0#32 := by
    show Scalar.select (grpMask v row x) ((row x - v) * 7168#32 + rel x * 1024#32 + col x) 0#32 = _
    rw [hm]; rfl
  rw [e]; decide

/-- Columns and relations in range put every lane inside the sixteen rows. -/
theorem inRows (v : BitVec 32) (row col rel : IVec S16 32) (hc : ∀ x, (col x).toNat < 1024) (hl : ∀ x, (rel x).toNat < 7) :
    InRows (grpIdx v row col rel) := by
  intro a x
  match a with
  | 0 =>
    show (grpIdx v row col rel x).toNat < 114688
    by_cases h : (row x - v).toNat < 16
    · rw [grpIdx_on v row col rel x h (hc x) (hl x)]
      have := hc x; have := hl x
      omega
    · rw [grpIdx_off v row col rel x h]; decide

/-- So a group of the edge data is. -/
theorem InRange.inRows (h : InRange E R) (v : BitVec 32) (g : ℕ) :
    InRows (grpIdx v (lanes (Adj.edgeRow E 0) g) (lanes (Adj.edgeRow E 1) g) (lanes (Adj.edgeVal R) g)) :=
  Adj.inRows v _ _ _ (fun _ => h.edgeRow 1 _) fun _ => h.edgeVal _

end Cert.Adj

end
-- ==== Proof.Steps.lean ====
/-
  A tile's state and what each copy does to it. `St A b c l m n`: read shares of the three edge arrays, the tile's five
  scratch buffers holding `A` (the sixteen rows) and `b`, `c`, `l`, `m` (a chunk's rows, columns, relations, weights),
  what the tile waits with, and its part of the adjacency, of which the first `n` rows are done.
-/
module

public import proofs.«01_k».proof.Proof.Copy
public import proofs.«01_k».proof.Proof.Places
public import proofs.«01_k».proof.Proof.Range

@[expose] public section

noncomputable section

namespace Cert.Adj

open Cert.Kernel Cert.Kernel.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## A tile's rows -/

/-- The first of the sixteen rows tile `i` builds at pass `p`, as the program computes it. -/
def rowLo (i : grid0.Coords) (p : ℕ) : BitVec 32 :=
  Scalar.muli (Scalar.addi (BitVec.ofNat 32 (32 * p)) (Scalar.addi (Scalar.muli (BitVec.ofNat 32 (i 1).val) 2#32) (BitVec.ofNat 32 (i 0).val))) 16#32
/-- The number of the tile's `k`-th row: sixteen at each of two passes. -/
def rowNo (i : grid0.Coords) (k : ℕ) : ℕ := 512 * (k / 16) + 32 * (i 1).val + 16 * (i 0).val + k % 16
/-- The rows tile `i` writes. -/
def tileSet (i : grid0.Coords) : Finset S1024x7168.Idx :=
  Finset.univ.filter fun x => (x 0).val / 16 % 32 = 2 * (i 1).val + (i 0).val

theorem rowNo_lt (i : grid0.Coords) {k : ℕ} (hk : k < 32) : rowNo i k < 1024 := by
  have h0 : (i 0).val < 2 := (i 0).isLt
  have h1 : (i 1).val < 16 := (i 1).isLt
  unfold rowNo; omega
theorem rowNo_inj (i : grid0.Coords) {k k' : ℕ} (h : rowNo i k = rowNo i k') : k = k' := by
  have h0 : (i 0).val < 2 := (i 0).isLt
  have h1 : (i 1).val < 16 := (i 1).isLt
  unfold rowNo at h; omega
theorem rowNo_mem (i : grid0.Coords) {k : ℕ} {x : S1024x7168.Idx} (h : (x 0).val = rowNo i k) : x ∈ tileSet i := by
  have h0 : (i 0).val < 2 := (i 0).isLt
  have h1 : (i 1).val < 16 := (i 1).isLt
  unfold tileSet
  rw [Finset.mem_filter]
  refine ⟨Finset.mem_univ _, ?_⟩
  unfold rowNo at h; omega
/-- Every row the tile writes is one of its thirty-two. -/
theorem exists_rowNo (i : grid0.Coords) {x : S1024x7168.Idx} (h : x ∈ tileSet i) : ∃ k < 32, (x 0).val = rowNo i k := by
  have h0 : (i 0).val < 2 := (i 0).isLt
  have h1 : (i 1).val < 16 := (i 1).isLt
  have hx : (x 0).val < 1024 := (x 0).isLt
  unfold tileSet at h
  rw [Finset.mem_filter] at h
  have h2 := h.2
  refine ⟨16 * ((x 0).val / 512) + (x 0).val % 16, by omega, ?_⟩
  unfold rowNo; omega
theorem rowLo_eq (i : grid0.Coords) {k : ℕ} (hk : k < 32) : rowLo i (k / 16) = BitVec.ofNat 32 (16 * (rowNo i k / 16)) := by
  have h0 : (i 0).val < 2 := (i 0).isLt
  have h1 : (i 1).val < 16 := (i 1).isLt
  apply BitVec.eq_of_toNat_eq
  have k2 : (2#32).toNat = 2 := by decide
  have k16 : (16#32).toNat = 16 := by decide
  show ((BitVec.ofNat 32 (32 * (k / 16)) + (BitVec.ofNat 32 (i 1).val * 2#32 + BitVec.ofNat 32 (i 0).val)) * 16#32).toNat = _
  unfold rowNo
  simp only [BitVec.toNat_add, BitVec.toNat_mul, BitVec.toNat_ofNat]
  omega

/-! ## The state -/

variable (d : Dev nD) (i : grid0.Coords) (O : CellTallies nD τ sig (HIx 1)) (W : Waits sig (HIx 1)) (q : PosShare TreeShare)
variable (E : S2x32768.Idx → BitVec 32) (R : S32768.Idx → BitVec 32) (Wt : S32768.Idx → F .f32)

/-- The tile's sixteen rows from `v` on after the first `c` chunks of 128 groups. -/
def chunksA (v : BitVec 32) (c : ℕ) : S114688.Idx → F .f32 := rowsAfter E R Wt v (128 * c)

/-- The first `n` of the tile's rows hold the adjacency. -/
def RowsDone (n : ℕ) (g : S1024x7168.Idx → F .f32) : Prop :=
  ∀ x : S1024x7168.Idx, ∀ k < n, (x 0).val = rowNo i k → g x = adj E R Wt x

/-- The read shares of the edge arrays. -/
def Shares : sProp 𝕄 :=
  iprop(((eM).view.loc (tile d i) ↦[Finset.univ]{q} E) ∗ ((rM).view.loc (tile d i) ↦[Finset.univ]{q} R)
    ∗ ((wM).view.loc (tile d i) ↦[Finset.univ]{q} Wt))
/-- The tile's part of the adjacency. -/
def Out (n : ℕ) : sProp 𝕄 :=
  iprop(∃ g, ⌜RowsDone i E R Wt n g⌝ ∗ ((oM).view.loc (tile d i) ↦[tileSet i]{fullShare} g))
/-- The tile's state. -/
def St (A : S114688.Idx → F .f32) (b c l : S2048.Idx → BitVec 32) (m : S2048.Idx → F .f32) (n : ℕ) : sProp 𝕄 :=
  iprop(Shares d i q E R Wt ∗ ((aM).view.loc (tile d i) ↦[Finset.univ]{fullShare} A) ∗ ((bM).view.loc (tile d i) ↦[Finset.univ]{fullShare} b)
    ∗ ((cM).view.loc (tile d i) ↦[Finset.univ]{fullShare} c) ∗ ((lM).view.loc (tile d i) ↦[Finset.univ]{fullShare} l)
    ∗ ((mM).view.loc (tile d i) ↦[Finset.univ]{fullShare} m) ∗ Out d i E R Wt n ∗ Waiting (F := F) d i O W)

/-- A program of the tile's, run to `Q`. -/
abbrev Runs {α : Type} (p : Prog (TpuEff nD τ sig (Elt F) Λ₀ (tile d i).2) α) (Q : α → sProp 𝕄) : sProp 𝕄 :=
  wp frame (wpE (defs₀ (F := F)) 𝒱₀ (tile d i) none) Set.univ p Q

variable {A : S114688.Idx → F .f32} {b c l : S2048.Idx → BitVec 32} {m : S2048.Idx → F .f32} {n : ℕ}

/-! ## A copy in -/

/-- A copy of a chunk into a buffer: the buffer then holds what the chunk reads; the source's share is untouched. -/
theorem wp_chunk {α : Type} {Q : α → sProp 𝕄} {sp sp' : Space} {s : Shape} {e : EltTy}
    {src : Memref sig .scVector sp s e} {dst : Memref sig .scVector sp' s e} {sm : DmaSem sig}
    {h₁ h₁' : src.view.WordExact} {h₂ h₂' : dst.view.WordExact} {h₃ : DmaTarget.Typed (nD := nD) (τ := τ) (p := (tile d i).2) sp (.dma sm) (.here dst)}
    {k : PUnit → Prog (TpuEff nD τ sig (Elt F) Λ₀ (tile d i).2) α} {fs : Buf (Elt F) (src.view.loc (tile d i))}
    {fd : Buf (Elt F) (dst.view.loc (tile d i))} (hn : 0 < s.numel) :
    iprop((src.view.loc (tile d i) ↦[Finset.univ]{q} fs) ∗ (dst.view.loc (tile d i) ↦[Finset.univ]{fullShare} fd) ∗ Waiting (F := F) d i O W)
      ⊢ iprop((iprop((src.view.loc (tile d i) ↦[Finset.univ]{q} fs)
            ∗ (dst.view.loc (tile d i) ↦[Finset.univ]{fullShare} (dst.view.write (Elt F) fd (src.view.read (Elt F) fs) Finset.univ)) ∗ Waiting (F := F) d i O W)
          -∗ Runs d i (k ⟨⟩) Q)
        -∗ Runs d i (.op (.enqueueDma src (.here dst) (.dma sm) h₁ h₂ h₃) fun _ => .op (.waitDma2 sm src dst h₁' h₂') k) Q) := by
  iintro ⟨Hs, Hd, HW⟩ Hk
  ihave Hs' := (pointsTo_split_subset (Finset.subset_univ src.view.set)).1 $$ Hs
  icases Hs' with ⟨Hs, Hrest⟩
  iapply (wp_copy d i O W (Sd := Finset.univ) hn (Finset.subset_univ _)) $$ [Hs Hd HW]
  · isplitl [Hs]; · iexact Hs
    isplitl [Hd]; · iexact Hd
    iexact HW
  iintro ⟨Hs, Hd, HW⟩
  iapply Hk
  isplitl [Hs Hrest]
  · iapply (pointsTo_split_subset (Finset.subset_univ src.view.set)).2
    isplitl [Hs] <;> iassumption
  isplitl [Hd]; · iexact Hd
  iexact HW

/-- A chunk's rows copied in, -/
theorem step_b {α : Type} {Q : α → sProp 𝕄} {o : ℕ} {h : ∀ a, (![0, o] : Fin 2 → ℕ) a + S1x2048.size a ≤ S2x32768.size a} {sm : DmaSem sig}
    {h₁ h₁' : (eChunk 0 o h).view.WordExact} {h₂ h₂' : bM.view.WordExact} {h₃}
    {k : PUnit → Prog (TpuEff nD τ sig (Elt F) Λ₀ (tile d i).2) α}
    (hk : St d i O W q E R Wt A (win (edgeRow E 0) o) c l m n ⊢ Runs d i (k ⟨⟩) Q) :
    St d i O W q E R Wt A b c l m n
      ⊢ Runs d i (.op (.enqueueDma (eChunk 0 o h) (.here bM) (.dma sm) h₁ h₂ h₃) fun _ => .op (.waitDma2 sm (eChunk 0 o h) bM h₁' h₂') k) Q := by
  unfold St Shares at *
  iintro ⟨⟨HE, HR, HT⟩, HA, Hb, Hc, Hl, Hm, HO, HW⟩
  iapply (wp_chunk d i O W q (src := eChunk 0 o h) (dst := bM) (fs := E) (fd := b) (by decide)) $$ [HE Hb HW]
  · isplitl [HE]; · iexact HE
    isplitl [Hb]; · iexact Hb
    iexact HW
  iintro ⟨HE, Hb, HW⟩
  ihave Hb' := (Entails.of_eq (congrArg (fun f => ((bM).view.loc (tile d i) ↦[Finset.univ]{fullShare} f : sProp 𝕄))
    ((View.write_whole_univ _ _ _).trans (eChunk_read (F := F) 0 o h E)))) $$ Hb
  iapply hk
  iframe

/-- its columns, -/
theorem step_c {α : Type} {Q : α → sProp 𝕄} {o : ℕ} {h : ∀ a, (![1, o] : Fin 2 → ℕ) a + S1x2048.size a ≤ S2x32768.size a} {sm : DmaSem sig}
    {h₁ h₁' : (eChunk 1 o h).view.WordExact} {h₂ h₂' : cM.view.WordExact} {h₃}
    {k : PUnit → Prog (TpuEff nD τ sig (Elt F) Λ₀ (tile d i).2) α}
    (hk : St d i O W q E R Wt A b (win (edgeRow E 1) o) l m n ⊢ Runs d i (k ⟨⟩) Q) :
    St d i O W q E R Wt A b c l m n
      ⊢ Runs d i (.op (.enqueueDma (eChunk 1 o h) (.here cM) (.dma sm) h₁ h₂ h₃) fun _ => .op (.waitDma2 sm (eChunk 1 o h) cM h₁' h₂') k) Q := by
  unfold St Shares at *
  iintro ⟨⟨HE, HR, HT⟩, HA, Hb, Hc, Hl, Hm, HO, HW⟩
  iapply (wp_chunk d i O W q (src := eChunk 1 o h) (dst := cM) (fs := E) (fd := c) (by decide)) $$ [HE Hc HW]
  · isplitl [HE]; · iexact HE
    isplitl [Hc]; · iexact Hc
    iexact HW
  iintro ⟨HE, Hc, HW⟩
  ihave Hc' := (Entails.of_eq (congrArg (fun f => ((cM).view.loc (tile d i) ↦[Finset.univ]{fullShare} f : sProp 𝕄))
    ((View.write_whole_univ _ _ _).trans (eChunk_read (F := F) 1 o h E)))) $$ Hc
  iapply hk
  iframe

/-- its relations, -/
theorem step_l {α : Type} {Q : α → sProp 𝕄} {o : ℕ} {h : ∀ a, (![o] : Fin 1 → ℕ) a + S2048.size a ≤ S32768.size a} {sm : DmaSem sig}
    {h₁ h₁' : (rChunk o h).view.WordExact} {h₂ h₂' : lM.view.WordExact} {h₃}
    {k : PUnit → Prog (TpuEff nD τ sig (Elt F) Λ₀ (tile d i).2) α}
    (hk : St d i O W q E R Wt A b c (win (edgeVal R) o) m n ⊢ Runs d i (k ⟨⟩) Q) :
    St d i O W q E R Wt A b c l m n
      ⊢ Runs d i (.op (.enqueueDma (rChunk o h) (.here lM) (.dma sm) h₁ h₂ h₃) fun _ => .op (.waitDma2 sm (rChunk o h) lM h₁' h₂') k) Q := by
  unfold St Shares at *
  iintro ⟨⟨HE, HR, HT⟩, HA, Hb, Hc, Hl, Hm, HO, HW⟩
  iapply (wp_chunk d i O W q (src := rChunk o h) (dst := lM) (fs := R) (fd := l) (by decide)) $$ [HR Hl HW]
  · isplitl [HR]; · iexact HR
    isplitl [Hl]; · iexact Hl
    iexact HW
  iintro ⟨HR, Hl, HW⟩
  ihave Hl' := (Entails.of_eq (congrArg (fun f => ((lM).view.loc (tile d i) ↦[Finset.univ]{fullShare} f : sProp 𝕄))
    ((View.write_whole_univ _ _ _).trans (rChunk_read (F := F) o h R)))) $$ Hl
  iapply hk
  iframe

/-- and its weights. -/
theorem step_m {α : Type} {Q : α → sProp 𝕄} {o : ℕ} {h : ∀ a, (![o] : Fin 1 → ℕ) a + S2048.size a ≤ S32768.size a} {sm : DmaSem sig}
    {h₁ h₁' : (wChunk o h).view.WordExact} {h₂ h₂' : mM.view.WordExact} {h₃}
    {k : PUnit → Prog (TpuEff nD τ sig (Elt F) Λ₀ (tile d i).2) α}
    (hk : St d i O W q E R Wt A b c l (win (edgeVal Wt) o) n ⊢ Runs d i (k ⟨⟩) Q) :
    St d i O W q E R Wt A b c l m n
      ⊢ Runs d i (.op (.enqueueDma (wChunk o h) (.here mM) (.dma sm) h₁ h₂ h₃) fun _ => .op (.waitDma2 sm (wChunk o h) mM h₁' h₂') k) Q := by
  unfold St Shares at *
  iintro ⟨⟨HE, HR, HT⟩, HA, Hb, Hc, Hl, Hm, HO, HW⟩
  iapply (wp_chunk d i O W q (src := wChunk o h) (dst := mM) (fs := Wt) (fd := m) (by decide)) $$ [HT Hm HW]
  · isplitl [HT]; · iexact HT
    isplitl [Hm]; · iexact Hm
    iexact HW
  iintro ⟨HT, Hm, HW⟩
  ihave Hm' := (Entails.of_eq (congrArg (fun f => ((mM).view.loc (tile d i) ↦[Finset.univ]{fullShare} f : sProp 𝕄))
    ((View.write_whole_univ _ _ _).trans (wChunk_read (F := F) o h Wt)))) $$ Hm
  iapply hk
  iframe

/-! ## A row copied out -/

/-- A row of the tile's, written: one more is done. -/
theorem rowsDone_step {o : ℕ} {ho : ∀ a, (![o] : Fin 1 → ℕ) a + S7168.size a ≤ S114688.size a}
    {h : ∀ a, (![rowNo i n, 0] : Fin 2 → ℕ) a + S1x7168.size a ≤ S1024x7168.size a} {g : S1024x7168.Idx → F .f32}
    (hn : n < 32) (eo : o = 7168 * (n % 16)) (hA : A = chunksA E R Wt (rowLo i (n / 16)) 16) (hg : RowsDone i E R Wt n g) :
    RowsDone i E R Wt (n + 1) ((oRow ![rowNo i n, 0] h).view.write (Elt F) g ((aRow o ho).view.read (Elt F) A) Finset.univ) := by
  intro x k hk hx
  by_cases e : k = n
  · subst e
    have ex : x = ix2 (⟨rowNo i k, rowNo_lt i hn⟩ : Fin 1024) (x 1) :=
      (eq_ix2 x).trans (congrArg (fun r : Fin 1024 => (ix2 r (x 1) : S1024x7168.Idx)) (Fin.ext hx))
    generalize (x 1 : Fin 7168) = c at ex
    subst ex
    refine (oRow_write_self _ _ h g _ c).trans ?_
    rw [aRow_read, hA]
    unfold chunksA adj
    have e2 : rowNo i k % 16 = k % 16 := by unfold rowNo; omega
    show rowsAfter E R Wt (rowLo i (k / 16)) (128 * 16) (flat (o + c.val)) = rowsAfter E R Wt (BitVec.ofNat 32 (16 * (rowNo i k / 16))) 2048 (flat (7168 * (rowNo i k % 16) + c.val))
    rw [rowLo_eq i hn, e2, eo]
  · refine (oRow_write_other _ (rowNo_lt i hn) h g _ x fun e' => e (rowNo_inj i (hx.symm.trans e'))).trans (hg x k (by omega) hx)

theorem step_row {α : Type} {Q : α → sProp 𝕄} (n : ℕ) {o : ℕ} {off : Fin 2 → ℕ} {ho : ∀ a, (![o] : Fin 1 → ℕ) a + S7168.size a ≤ S114688.size a}
    {h : ∀ a, off a + S1x7168.size a ≤ S1024x7168.size a} {sm : DmaSem sig}
    {h₁ h₁' : (aRow o ho).view.WordExact} {h₂ h₂' : (oRow off h).view.WordExact} {h₃}
    {k : PUnit → Prog (TpuEff nD τ sig (Elt F) Λ₀ (tile d i).2) α}
    (hn : n < 32) (eo : o = 7168 * (n % 16)) (eoff : off = k0_off66 i (BitVec.ofNat 32 (32 * (n / 16))) (BitVec.ofNat 32 (n % 16)))
    (hA : A = chunksA E R Wt (rowLo i (n / 16)) 16)
    (hk : St d i O W q E R Wt A b c l m (n + 1) ⊢ Runs d i (k ⟨⟩) Q) :
    St d i O W q E R Wt A b c l m n
      ⊢ Runs d i (.op (.enqueueDma (aRow o ho) (.here (oRow off h)) (.dma sm) h₁ h₂ h₃) fun _ => .op (.waitDma2 sm (aRow o ho) (oRow off h) h₁' h₂') k) Q := by
  obtain rfl : off = ![rowNo i n, 0] := eoff.trans (k0_off66_eq i ⟨n / 16, by omega⟩ ⟨n % 16, by omega⟩)
  unfold St Out at *
  iintro ⟨HS, HA, Hb, Hc, Hl, Hm, ⟨%g, %hg, HO⟩, HW⟩
  have hsub := pointsTo_split_subset (Val := Elt F) (U := UU) (Ix := HIx 1) (Name := ℕ) (Lvl := ℕ) (ℓ := (aRow o ho).view.loc (tile d i)) (I := (aRow o ho).view.set) (S := Finset.univ)
    (q := fullShare) (f := (A : Buf (Elt F) ((aRow o ho).view.loc (tile d i)))) (Finset.subset_univ _)
  ihave HA' := hsub.1 $$ HA
  icases HA' with ⟨HA, Hrest⟩
  iapply (wp_copy d i O W (src := aRow o ho) (dst := oRow ![rowNo i n, 0] h) (fs := A) (fd := g) (Sd := tileSet i) (by decide)
    (fun y hy => rowNo_mem i (mem_oRow _ (rowNo_lt i hn) h y hy))) $$ [HA HO HW]
  · isplitl [HA]; · iexact HA
    isplitl [HO]; · iexact HO
    iexact HW
  iintro ⟨HA, HO, HW⟩
  ihave HA' := hsub.2 $$ [HA Hrest]
  · isplitl [HA] <;> iassumption
  iapply hk
  isplitl [HS]; · iexact HS
  isplitl [HA']; · iexact HA'
  isplitl [Hb]; · iexact Hb
  isplitl [Hc]; · iexact Hc
  isplitl [Hl]; · iexact Hl
  isplitl [Hm]; · iexact Hm
  isplitl [HO]
  · iexists ((oRow ![rowNo i n, 0] h).view.write (Elt F) g ((aRow o ho).view.read (Elt F) A) Finset.univ); isplitr
    · ipureintro; exact rowsDone_step i E R Wt hn eo hA hg
    · iexact HO
  iexact HW

end Cert.Adj

end
-- ==== Proof.Loops.lean ====
/-
  The two loops of a tile's task: the one that zeroes the sixteen rows, and the one that adds a chunk's 128 groups.
-/
module

public import proofs.«01_k».proof.Proof.Steps

@[expose] public section

noncomputable section

namespace Cert.Adj

open Cert.Kernel Cert.Kernel.Gen

open Idealize.ShloMosaic
open Idealize.ShloMosaic.SparseCore (S V T)
open Idealize.SL Idealize.SL.RA Idealize.SL.BI
open Idealize.ShloMosaic.SparseCore.Cfg (HIx Pay ownBufs ownSems0 ownCells ownRefs mem_ownCells mem_ownRefs)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (i : grid0.Coords) (O : CellTallies nD τ sig (HIx 1)) (W : Waits sig (HIx 1)) (q : PosShare TreeShare)
variable (E : S2x32768.Idx → BitVec 32) (R : S32768.Idx → BitVec 32) (Wt : S32768.Idx → F .f32)
variable {A : S114688.Idx → F .f32} {b c l : S2048.Idx → BitVec 32} {m : S2048.Idx → F .f32} {n : ℕ}

/-- Programs of the tile. -/
abbrev TProg (F : FTy → Type) (d : Dev nD) (i : grid0.Coords) (α : Type) : Type 1 := Prog (TpuEff nD τ sig (Elt F) Λ₀ (tile d i).2) α

/-! ## One group -/

/-- Where trip `k` of an edge loop loads its group: `64 k` entries in, and `c` further. -/
def grpOff (k : ℕ) (c : BitVec 32) : Fin 1 → ℕ :=
  ![(Scalar.indexCast (Scalar.addi (Scalar.muli (Scf.iv 0#32 1#32 k) 64#32) c)).toNat]

theorem grpOff_eq : ∀ (k : Fin 32) (r : Fin 4), grpOff k.val (BitVec.ofNat 32 (16 * r.val)) = ![64 * k.val + 16 * r.val] := by decide +kernel
theorem grpOff_inb (k : Fin 32) (r : Fin 4) (a : Fin 1) : grpOff k.val (BitVec.ofNat 32 (16 * r.val)) a + S16.size a ≤ S2048.size a := by
  rw [grpOff_eq]
  match a with
  | 0 => show 64 * k.val + 16 * r.val + 16 ≤ 2048; omega

/-- A group's entries, loaded at `off` from the four chunk buffers and added into the sixteen rows. -/
def edge16 (v : BitVec 32) (off : Fin 1 → ℕ) (h : ∀ a, off a + S16.size a ≤ S2048.size a) : TProg F d i PUnit :=
  .op (.load bM (Rect.unit (s := S2048) off S16.size h).toLoadRect (View.loadsAt_vmem h_S16)) fun (row : Vec F S16 .i32) =>
  .op (.load cM (Rect.unit (s := S2048) off S16.size h).toLoadRect (View.loadsAt_vmem h_S16)) fun (col : Vec F S16 .i32) =>
  .op (.load lM (Rect.unit (s := S2048) off S16.size h).toLoadRect (View.loadsAt_vmem h_S16)) fun (rel : Vec F S16 .i32) =>
  .op (.load mM (Rect.unit (s := S2048) off S16.size h).toLoadRect (View.loadsAt_vmem h_S16)) fun (w : Vec F S16 .f32) =>
  .op (.assume (InRows (grpIdx v row col rel)) inferInstance) fun hw =>
  SparseCore.vectorStoreIdx aM ![grpIdx v row col rel] w (grpMask v row) true hw.down (View.stores_vmem_bits_univ h_S114688 rfl)

/-- Sixteen entries of a chunk, as a load reads them. -/
theorem load_win {α : Type} (f : ℕ → α) (o p : ℕ) (h : ∀ a, (![p] : Fin 1 → ℕ) a + S16.size a ≤ S2048.size a) (x : S16.Idx) :
    win f o ((Rect.unit (s := S2048) ![p] S16.size h).emb x) = lanes f (o + p) x := by
  unfold win lanes
  exact congrArg f (by show o + (p + 1 * (x 0).val) = o + p + (x 0).val; omega)

/-- The sixteen rows after a scatter through their whole rectangle hold the scatter of what they held. -/
theorem pts_stored (f : S114688.Idx → F .f32) (ix : IVec S16 32) (w : S16.Idx → F .f32) (mask : IVec S16 1) (h : InRows ix) :
    ((aM.access (.whole S114688)).loc (tile d i) ↦[(aM.access (.whole S114688)).set]{fullShare}
        ((aM.access (.whole S114688)).write (Elt F) f
          (storeIdx (F := F) (e := .f32) ((aM.access (.whole S114688)).read (Elt F) f) ![ix] w mask true h) Finset.univ) : sProp 𝕄)
      = ((aM).view.loc (tile d i) ↦[Finset.univ]{fullShare} storeIdx (F := F) (e := .f32) f ![ix] w mask true h) := by
  have e1 := Memref.write_access_whole_univ (Elt F) cc0_scratch0 f
    (storeIdx (F := F) (e := .f32) ((aM.access (.whole S114688)).read (Elt F) f) ![ix] w mask true h)
  have e2 : storeIdx (F := F) (e := .f32) ((aM.access (.whole S114688)).read (Elt F) f) ![ix] w mask true h
      = storeIdx (F := F) (e := .f32) f ![ix] w mask true h :=
    congrArg (fun f' => storeIdx (F := F) (e := .f32) (f' : S114688.Idx → F .f32) ![ix] w mask true h)
      (Memref.read_access_whole (Elt F) cc0_scratch0 f)
  exact congrArg₂ (fun (s : Finset S114688.Idx) (f' : S114688.Idx → F .f32) => ((aM).view.loc (tile d i) ↦[s]{fullShare} f' : sProp 𝕄))
    (Memref.set_access_whole cc0_scratch0) (e1.trans e2)

variable {E R}

theorem wp_edge16 {α : Type} {Q : α → sProp 𝕄} (hE : InRange E R) (v : BitVec 32) (g o p : ℕ) (e : 16 * g = o + p) {off : Fin 1 → ℕ} (eoff : off = ![p])
    {h : ∀ a, off a + S16.size a ≤ S2048.size a} {k : PUnit → TProg F d i α} :
    St d i O W q E R Wt (rowsAfter E R Wt v g) (win (edgeRow E 0) o) (win (edgeRow E 1) o) (win (edgeVal R) o) (win (edgeVal Wt) o) n
      ⊢ iprop((St d i O W q E R Wt (rowsAfter E R Wt v (g + 1)) (win (edgeRow E 0) o) (win (edgeRow E 1) o) (win (edgeVal R) o) (win (edgeVal Wt) o) n
          -∗ Runs d i (k ⟨⟩) Q)
        -∗ Runs d i (edge16 d i v off h >>= k) Q) := by
  subst eoff
  have hb : ∀ x, bM.view.readAt (Elt F) (Rect.unit (s := S2048) ![p] S16.size h).toLoadRect (win (edgeRow E 0) o) x = lanes (edgeRow E 0) (16 * g) x := by
    intro x; rw [e]; exact load_win (edgeRow E 0) o p h x
  have hc : ∀ x, cM.view.readAt (Elt F) (Rect.unit (s := S2048) ![p] S16.size h).toLoadRect (win (edgeRow E 1) o) x = lanes (edgeRow E 1) (16 * g) x := by
    intro x; rw [e]; exact load_win (edgeRow E 1) o p h x
  have hl : ∀ x, lM.view.readAt (Elt F) (Rect.unit (s := S2048) ![p] S16.size h).toLoadRect (win (edgeVal R) o) x = lanes (edgeVal R) (16 * g) x := by
    intro x; rw [e]; exact load_win (edgeVal R) o p h x
  have hm : ∀ x, mM.view.readAt (Elt F) (Rect.unit (s := S2048) ![p] S16.size h).toLoadRect (win (edgeVal Wt) o) x = lanes (edgeVal Wt) (16 * g) x := by
    intro x; rw [e]; exact load_win (edgeVal Wt) o p h x
  have hin : InRows (grpIdx v (lanes (edgeRow E 0) (16 * g)) (lanes (edgeRow E 1) (16 * g)) (lanes (edgeVal R) (16 * g))) := hE.inRows v (16 * g)
  rw [← funext hb, ← funext hc, ← funext hl] at hin
  have eA : rowsAfter E R Wt v (g + 1) = storeIdx (F := F) (e := .f32) (rowsAfter E R Wt v g)
      ![grpIdx v (bM.view.readAt (Elt F) (Rect.unit (s := S2048) ![p] S16.size h).toLoadRect (win (edgeRow E 0) o))
        (cM.view.readAt (Elt F) (Rect.unit (s := S2048) ![p] S16.size h).toLoadRect (win (edgeRow E 1) o))
        (lM.view.readAt (Elt F) (Rect.unit (s := S2048) ![p] S16.size h).toLoadRect (win (edgeVal R) o))]
      (mM.view.readAt (Elt F) (Rect.unit (s := S2048) ![p] S16.size h).toLoadRect (win (edgeVal Wt) o))
      (grpMask v (bM.view.readAt (Elt F) (Rect.unit (s := S2048) ![p] S16.size h).toLoadRect (win (edgeRow E 0) o))) true hin := by
    rw [rowsAfter, ← funext hb, ← funext hc, ← funext hl, ← funext hm]
    exact dif_pos hin
  rw [eA]
  unfold edge16 St
  iintro ⟨HS, HA, Hb, Hc, Hl, Hm, HO, HW⟩ Hk
  iapply (wp_load 𝒱₀ (tile d i) none Set.univ (m := bM) (S := Finset.univ) (Finset.subset_univ _)) $$ Hb; iintro Hb
  iapply (wp_load 𝒱₀ (tile d i) none Set.univ (m := cM) (S := Finset.univ) (Finset.subset_univ _)) $$ Hc; iintro Hc
  iapply (wp_load 𝒱₀ (tile d i) none Set.univ (m := lM) (S := Finset.univ) (Finset.subset_univ _)) $$ Hl; iintro Hl
  iapply (wp_load 𝒱₀ (tile d i) none Set.univ (m := mM) (S := Finset.univ) (Finset.subset_univ _)) $$ Hm; iintro Hm
  iapply (wp_assume 𝒱₀ (tile d i) none Set.univ hin)
  ihave HA' := (Entails.of_eq (congrArg (fun s => ((aM).view.loc (tile d i) ↦[s]{fullShare} (rowsAfter E R Wt v g) : sProp 𝕄))
    (Memref.set_access_whole cc0_scratch0).symm)) $$ HA
  iapply (SparseCore.wp_vectorStoreIdx 𝒱₀ (tile d i) none Set.univ (base := aM)) $$ HA'; iintro HA
  iapply Hk
  isplitl [HS]; · iexact HS
  isplitl [HA]
  · iapply (Entails.of_eq (pts_stored d i _ _ _ _ hin))
    iexact HA
  iframe

/-! ## A chunk's loop -/

/-- Trip `k` of a chunk's loop: four groups. -/
def edgeTrip (v : BitVec 32) (k : Fin 32) : TProg F d i (BitVec 32) :=
  edge16 d i v (grpOff k.val 0#32) (grpOff_inb k 0) >>= fun _ =>
  edge16 d i v (grpOff k.val 16#32) (grpOff_inb k 1) >>= fun _ =>
  edge16 d i v (grpOff k.val 32#32) (grpOff_inb k 2) >>= fun _ =>
  edge16 d i v (grpOff k.val 48#32) (grpOff_inb k 3) >>= fun _ => .ret 0#32

/-- A trip adds its four groups. -/
theorem wp_edgeTrip (hE : InRange E R) (v : BitVec 32) (ch : ℕ) (k : Fin 32) :
    St d i O W q E R Wt (rowsAfter E R Wt v (128 * ch + 4 * k.val)) (win (edgeRow E 0) (2048 * ch)) (win (edgeRow E 1) (2048 * ch))
        (win (edgeVal R) (2048 * ch)) (win (edgeVal Wt) (2048 * ch)) n
      ⊢ Runs d i (edgeTrip d i v k) fun _ => St d i O W q E R Wt (rowsAfter E R Wt v (128 * ch + 4 * (k.val + 1))) (win (edgeRow E 0) (2048 * ch))
        (win (edgeRow E 1) (2048 * ch)) (win (edgeVal R) (2048 * ch)) (win (edgeVal Wt) (2048 * ch)) n := by
  unfold edgeTrip
  iintro H
  iapply (wp_edge16 d i O W q Wt hE v (128 * ch + 4 * k.val) (2048 * ch) (64 * k.val + 16 * 0) (by omega) (grpOff_eq k 0)) $$ H; iintro H
  iapply (wp_edge16 d i O W q Wt hE v (128 * ch + 4 * k.val + 1) (2048 * ch) (64 * k.val + 16 * 1) (by omega) (grpOff_eq k 1)) $$ H; iintro H
  iapply (wp_edge16 d i O W q Wt hE v (128 * ch + 4 * k.val + 2) (2048 * ch) (64 * k.val + 16 * 2) (by omega) (grpOff_eq k 2)) $$ H; iintro H
  iapply (wp_edge16 d i O W q Wt hE v (128 * ch + 4 * k.val + 3) (2048 * ch) (64 * k.val + 16 * 3) (by omega) (grpOff_eq k 3)) $$ H; iintro H
  unfold Runs
  rw [wp_ret]
  imodintro
  iexact H

/-- A chunk's loop adds its 128 groups. -/
theorem wp_edges (hE : InRange E R) (v : BitVec 32) (ch : ℕ) {hok : Scf.OK (0#32) 32#32 1#32} {init : BitVec 32}
    {body : Fin (Scf.trips (0#32) 32#32 1#32) → BitVec 32 → TProg F d i (BitVec 32)} (hb : ∀ k acc, body k acc = edgeTrip d i v k)
    {α : Type} {Q : α → sProp 𝕄} {kk : BitVec 32 → TProg F d i α} {o : ℕ} (eo : o = 2048 * ch)
    (hk : ∀ acc, St d i O W q E R Wt (chunksA E R Wt v (ch + 1)) (win (edgeRow E 0) o) (win (edgeRow E 1) o)
        (win (edgeVal R) o) (win (edgeVal Wt) o) n ⊢ Runs d i (kk acc) Q) :
    St d i O W q E R Wt (chunksA E R Wt v ch) (win (edgeRow E 0) o) (win (edgeRow E 1) o) (win (edgeVal R) o) (win (edgeVal Wt) o) n
      ⊢ Runs d i (Prog.bind (Scf.for 0#32 32#32 1#32 hok init body) kk) Q := by
  subst eo
  iintro H
  iapply (Scf.wp_for_bind frame (wpE (defs₀ (F := F)) 𝒱₀ (tile d i) none) Set.univ 0#32 32#32 1#32 hok init body
    (fun k _ => St d i O W q E R Wt (rowsAfter E R Wt v (128 * ch + 4 * k)) (win (edgeRow E 0) (2048 * ch))
        (win (edgeRow E 1) (2048 * ch)) (win (edgeVal R) (2048 * ch)) (win (edgeVal Wt) (2048 * ch)) n)
    (fun k acc => by rw [hb]; exact wp_edgeTrip d i O W q Wt hE v ch k)) $$ [H]
  · iexact H
  iintro %acc H
  iapply (hk acc)
  iexact H

/-- The same inside another window of the program. -/
theorem wp_edges₂ (hE : InRange E R) (v : BitVec 32) (ch : ℕ) {hok : Scf.OK (0#32) 32#32 1#32} {init : BitVec 32}
    {body : Fin (Scf.trips (0#32) 32#32 1#32) → BitVec 32 → TProg F d i (BitVec 32)} (hb : ∀ k acc, body k acc = edgeTrip d i v k)
    {α β : Type} {Q : α → sProp 𝕄} {kk : BitVec 32 → TProg F d i β} {kk' : β → TProg F d i α} {o : ℕ} (eo : o = 2048 * ch)
    (hk : ∀ acc, St d i O W q E R Wt (chunksA E R Wt v (ch + 1)) (win (edgeRow E 0) o) (win (edgeRow E 1) o)
        (win (edgeVal R) o) (win (edgeVal Wt) o) n ⊢ Runs d i (Prog.bind (kk acc) kk') Q) :
    St d i O W q E R Wt (chunksA E R Wt v ch) (win (edgeRow E 0) o) (win (edgeRow E 1) o) (win (edgeVal R) o) (win (edgeVal Wt) o) n
      ⊢ Runs d i (Prog.bind (Prog.bind (Scf.for 0#32 32#32 1#32 hok init body) kk) kk') Q := by
  refine BI.Entails.trans ?_ (Entails.of_eq (congrArg (fun p => Runs d i p Q) (Prog.bind_assoc (Scf.for 0#32 32#32 1#32 hok init body) kk kk').symm))
  exact wp_edges d i O W q Wt hE v ch hb eo hk

/-! ## The zero loop -/

/-- Where trip `k` of the zero loop stores: `128 k` entries in, and `c` further. -/
def zeroOff (k : ℕ) (c : BitVec 32) : Fin 1 → ℕ :=
  ![(Scalar.indexCast (Scalar.addi (Scalar.muli (Scf.iv 0#32 1#32 k) 128#32) c)).toNat]

theorem zeroOff_eq (k : Fin 896) (r : Fin 8) : zeroOff k.val (BitVec.ofNat 32 (16 * r.val)) = ![128 * k.val + 16 * r.val] := k0_off1_eq k r
theorem zeroOff_inb (k : Fin 896) (r : Fin 8) (a : Fin 1) : zeroOff k.val (BitVec.ofNat 32 (16 * r.val)) a + S16.size a ≤ S114688.size a := by
  rw [zeroOff_eq]
  match a with
  | 0 => show 128 * k.val + 16 * r.val + 16 ≤ 114688; omega

/-- Sixteen entries loaded, and zero stored over them. -/
def zero16 (off : Fin 1 → ℕ) (h : ∀ a, off a + S16.size a ≤ S114688.size a) : TProg F d i PUnit :=
  .op (.load aM (Rect.unit (s := S114688) off S16.size h).toLoadRect (View.loadsAt_vmem h_S16)) fun _ =>
  .op (.store aM (Rect.unit (s := S114688) off S16.size h) (broadcast S16 (Scalar.ofBits .f32 0x00000000#32) : FVec F S16 .f32) Finset.univ
    (View.stores_vmem_bits_univ h_S16 rfl) (.inl rfl)) fun _ => .ret ⟨⟩

/-- The entries before `p` are zero. -/
def ZeroTo (p : ℕ) (A : S114688.Idx → F .f32) : Prop := ∀ x : S114688.Idx, (x 0).val < p → A x = Scalar.ofBits .f32 0x00000000#32

theorem zeroTo_write {p : ℕ} {h : ∀ a, (![p] : Fin 1 → ℕ) a + S16.size a ≤ S114688.size a} (hA : ZeroTo (F := F) p A) :
    ZeroTo (F := F) (p + 16) ((aM.access (Rect.unit (s := S114688) ![p] S16.size h)).write (Elt F) A
      (broadcast S16 (Scalar.ofBits .f32 0x00000000#32) : FVec F S16 .f32) Finset.univ) := by
  intro x hx
  by_cases hp : p ≤ (x 0).val
  · have he : (aM.access (Rect.unit (s := S114688) ![p] S16.size h)).emb (ix1 ⟨(x 0).val - p, by omega⟩ : S16.Idx) = x := by
      funext a
      apply Fin.ext
      match a with
      | 0 => show p + 1 * ((x 0).val - p) = (x 0).val; omega
    rw [← he, View.write_emb_of_mem _ _ (Finset.mem_univ _)]
    exact cast_eq _ _
  · refine (View.write_of_not_mem _ _ _ fun hm => hp ?_).trans (hA x (by omega))
    obtain ⟨y, -, rfl⟩ := Finset.mem_map.mp hm
    show p ≤ p + 1 * (y 0).val
    omega

variable (E R)

theorem wp_zero16 {α : Type} {Q : α → sProp 𝕄} (p : ℕ) {off : Fin 1 → ℕ} (eoff : off = ![p])
    {h : ∀ a, off a + S16.size a ≤ S114688.size a} {k : PUnit → TProg F d i α} :
    iprop(∃ A, ⌜ZeroTo p A⌝ ∗ St d i O W q E R Wt A b c l m n)
      ⊢ iprop((iprop(∃ A, ⌜ZeroTo (p + 16) A⌝ ∗ St d i O W q E R Wt A b c l m n) -∗ Runs d i (k ⟨⟩) Q)
        -∗ Runs d i (zero16 d i off h >>= k) Q) := by
  subst eoff
  unfold zero16 St
  iintro ⟨%A, %hA, HS, HA, Hrest⟩ Hk
  iapply (wp_load 𝒱₀ (tile d i) none Set.univ (m := aM) (S := Finset.univ) (Finset.subset_univ _)) $$ HA; iintro HA
  iapply (wp_store 𝒱₀ (tile d i) none Set.univ (m := aM) (r := Rect.unit (s := S114688) ![p] S16.size h) (Mk := Finset.univ) (S := Finset.univ) (Finset.subset_univ _)) $$ HA; iintro HA
  iapply Hk
  iexists ((aM.access (Rect.unit (s := S114688) ![p] S16.size h)).write (Elt F) A
      (broadcast S16 (Scalar.ofBits .f32 0x00000000#32) : FVec F S16 .f32) Finset.univ)
  isplitr
  · ipureintro; exact zeroTo_write hA
  isplitl [HS]; · iexact HS
  isplitl [HA]; · iexact HA
  iexact Hrest

/-- Trip `k` of the zero loop: eight times sixteen entries. -/
def zeroTrip (k : Fin 896) : TProg F d i (BitVec 32) :=
  zero16 d i (zeroOff k.val 0#32) (zeroOff_inb k 0) >>= fun _ =>
  zero16 d i (zeroOff k.val 16#32) (zeroOff_inb k 1) >>= fun _ =>
  zero16 d i (zeroOff k.val 32#32) (zeroOff_inb k 2) >>= fun _ =>
  zero16 d i (zeroOff k.val 48#32) (zeroOff_inb k 3) >>= fun _ =>
  zero16 d i (zeroOff k.val 64#32) (zeroOff_inb k 4) >>= fun _ =>
  zero16 d i (zeroOff k.val 80#32) (zeroOff_inb k 5) >>= fun _ =>
  zero16 d i (zeroOff k.val 96#32) (zeroOff_inb k 6) >>= fun _ =>
  zero16 d i (zeroOff k.val 112#32) (zeroOff_inb k 7) >>= fun _ => .ret 0#32

theorem wp_zeroTrip (k : Fin 896) :
    iprop(∃ A, ⌜ZeroTo (128 * k.val) A⌝ ∗ St d i O W q E R Wt A b c l m n)
      ⊢ Runs d i (zeroTrip d i k) fun _ => iprop(∃ A, ⌜ZeroTo (128 * (k.val + 1)) A⌝ ∗ St d i O W q E R Wt A b c l m n) := by
  unfold zeroTrip
  iintro H
  iapply (wp_zero16 d i O W q E R Wt (128 * k.val + 16 * 0) (zeroOff_eq k 0)) $$ H; iintro H
  iapply (wp_zero16 d i O W q E R Wt (128 * k.val + 16 * 1) (zeroOff_eq k 1)) $$ H; iintro H
  iapply (wp_zero16 d i O W q E R Wt (128 * k.val + 16 * 2) (zeroOff_eq k 2)) $$ H; iintro H
  iapply (wp_zero16 d i O W q E R Wt (128 * k.val + 16 * 3) (zeroOff_eq k 3)) $$ H; iintro H
  iapply (wp_zero16 d i O W q E R Wt (128 * k.val + 16 * 4) (zeroOff_eq k 4)) $$ H; iintro H
  iapply (wp_zero16 d i O W q E R Wt (128 * k.val + 16 * 5) (zeroOff_eq k 5)) $$ H; iintro H
  iapply (wp_zero16 d i O W q E R Wt (128 * k.val + 16 * 6) (zeroOff_eq k 6)) $$ H; iintro H
  iapply (wp_zero16 d i O W q E R Wt (128 * k.val + 16 * 7) (zeroOff_eq k 7)) $$ H; iintro H
  unfold Runs
  rw [wp_ret]
  imodintro
  iexact H

/-- The zero loop leaves the sixteen rows at zero. -/
theorem wp_zeros (v : BitVec 32) {hok : Scf.OK (0#32) 896#32 1#32} {init : BitVec 32}
    {body : Fin (Scf.trips (0#32) 896#32 1#32) → BitVec 32 → TProg F d i (BitVec 32)} (hb : ∀ k acc, body k acc = zeroTrip d i k)
    {α : Type} {Q : α → sProp 𝕄} {kk : BitVec 32 → TProg F d i α}
    (hk : ∀ acc, St d i O W q E R Wt (chunksA E R Wt v 0) b c l m n ⊢ Runs d i (kk acc) Q) :
    St d i O W q E R Wt A b c l m n ⊢ Runs d i (Prog.bind (Scf.for 0#32 896#32 1#32 hok init body) kk) Q := by
  iintro H
  iapply (Scf.wp_for_bind frame (wpE (defs₀ (F := F)) 𝒱₀ (tile d i) none) Set.univ 0#32 896#32 1#32 hok init body
    (fun k _ => iprop(∃ A, ⌜ZeroTo (128 * k) A⌝ ∗ St d i O W q E R Wt A b c l m n))
    (fun k acc => by rw [hb]; exact wp_zeroTrip d i O W q E R Wt k)) $$ [H]
  · iexists A; isplitr
    · ipureintro; exact fun x hx => absurd hx (by omega)
    iexact H
  iintro %acc ⟨%A', %hA', H⟩
  have e : A' = chunksA E R Wt v 0 := funext fun x => hA' x (x 0).isLt
  rw [e]
  iapply (hk acc)
  iexact H

/-- The same inside another window of the program. -/
theorem wp_zeros₂ (v : BitVec 32) {hok : Scf.OK (0#32) 896#32 1#32} {init : BitVec 32}
    {body : Fin (Scf.trips (0#32) 896#32 1#32) → BitVec 32 → TProg F d i (BitVec 32)} (hb : ∀ k acc, body k acc = zeroTrip d i k)
    {α β : Type} {Q : α → sProp 𝕄} {kk : BitVec 32 → TProg F d i β} {kk' : β → TProg F d i α}
    (hk : ∀ acc, St d i O W q E R Wt (chunksA E R Wt v 0) b c l m n ⊢ Runs d i (Prog.bind (kk acc) kk') Q) :
    St d i O W q E R Wt A b c l m n ⊢ Runs d i (Prog.bind (Prog.bind (Scf.for 0#32 896#32 1#32 hok init body) kk) kk') Q := by
  refine BI.Entails.trans ?_ (Entails.of_eq (congrArg (fun p => Runs d i p Q) (Prog.bind_assoc (Scf.for 0#32 896#32 1#32 hok init body) kk kk').symm))
  exact wp_zeros d i O W q E R Wt v hb hk

end Cert.Adj

end
-- ==== Proof.Body.lean ====
/-
  A tile's task, run: from read shares of the edge arrays, the tile's scratch and its part of the adjacency, to the
  same with that part of the adjacency built.
-/
module

public import proofs.«01_k».proof.Proof.Loops

@[expose] public section

noncomputable section

namespace Cert.Adj

open Cert.Kernel Cert.Kernel.Gen

open Idealize.ShloMosaic
open Idealize.ShloMosaic.SparseCore (S V T)
open Idealize.SL Idealize.SL.RA Idealize.SL.BI
open Idealize.ShloMosaic.SparseCore.Cfg (HIx Pay ownBufs ownSems0 ownCells ownRefs mem_ownCells mem_ownRefs)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (i : grid0.Coords) (O : CellTallies nD τ sig (HIx 1)) (W : Waits sig (HIx 1)) (q : PosShare TreeShare)
variable (E : S2x32768.Idx → BitVec 32) (R : S32768.Idx → BitVec 32) (Wt : S32768.Idx → F .f32)
variable {A : S114688.Idx → F .f32} {b c l : S2048.Idx → BitVec 32} {m : S2048.Idx → F .f32} {n : ℕ}

/-- A program that returns, from what its result asks. -/
theorem runs_ret {α : Type} {P : sProp 𝕄} {Q : α → sProp 𝕄} {a : α} (h : P ⊢ Q a) : P ⊢ Runs d i (.ret a) Q := by
  unfold Runs
  rw [wp_ret]
  iintro H
  imodintro
  iapply h
  iexact H

/-- The task of tile `i`. -/
def task (i : grid0.Coords) : Prog (TpuEff nD τ sig (Elt F) Λ₀ (.scVector ((i 0).castLE hcore0) ((i 1).castLE hsub0))) PUnit :=
  cc0__sc_scatter_body i eM (Memref.isWhole_whole _) rM (Memref.isWhole_whole _) wM (Memref.isWhole_whole _) oM (Memref.isWhole_whole _)
    aM (Memref.isWhole_whole _) bM (Memref.isWhole_whole _) cM (Memref.isWhole_whole _) lM (Memref.isWhole_whole _) mM (Memref.isWhole_whole _)
    cc0_scoped0 cc0_scoped1 cc0_scoped2 cc0_scoped3 cc0_scoped4 cc0_scoped5 cc0_scoped6 cc0_scoped7 cc0_scoped8 cc0_scoped9 cc0_scoped10
    cc0_scoped11 cc0_scoped12 cc0_scoped13 cc0_scoped14 cc0_scoped15 cc0_scoped16 cc0_scoped17 cc0_scoped18 cc0_scoped19 cc0_scoped20
    cc0_scoped21 cc0_scoped22 cc0_scoped23 cc0_scoped24 cc0_scoped25 cc0_scoped26 cc0_scoped27 cc0_scoped28 cc0_scoped29 cc0_scoped30
    cc0_scoped31 cc0_scoped32 cc0_scoped33 cc0_scoped34 cc0_scoped35 cc0_scoped36 cc0_scoped37 cc0_scoped38 cc0_scoped39 cc0_scoped40
    cc0_scoped41 cc0_scoped42 cc0_scoped43 cc0_scoped44 cc0_scoped45 cc0_scoped46 cc0_scoped47 cc0_scoped48 cc0_scoped49 cc0_scoped50
    cc0_scoped51 cc0_scoped52 cc0_scoped53 cc0_scoped54 cc0_scoped55 cc0_scoped56 cc0_scoped57 cc0_scoped58 cc0_scoped59 cc0_scoped60
    cc0_scoped61 cc0_scoped62 cc0_scoped63 cc0_scoped64 cc0_scoped65 cc0_scoped66 cc0_scoped67 cc0_scoped68 cc0_scoped69 cc0_scoped70
    cc0_scoped71 cc0_scoped72 cc0_scoped73 cc0_scoped74 cc0_scoped75 cc0_scoped76 cc0_scoped77 cc0_scoped78 cc0_scoped79 cc0_scoped80
    cc0_scoped81 cc0_scoped82 cc0_scoped83 cc0_scoped84 cc0_scoped85 cc0_scoped86 cc0_scoped87 cc0_scoped88 cc0_scoped89 cc0_scoped90
    cc0_scoped91 cc0_scoped92 cc0_scoped93 cc0_scoped94 cc0_scoped95 cc0_scoped96 cc0_scoped97 cc0_scoped98 cc0_scoped99 cc0_scoped100
    cc0_scoped101 cc0_scoped102 cc0_scoped103 cc0_scoped104 cc0_scoped105 cc0_scoped106 cc0_scoped107 cc0_scoped108 cc0_scoped109 cc0_scoped110
    cc0_scoped111 cc0_scoped112 cc0_scoped113 cc0_scoped114 cc0_scoped115 cc0_scoped116 cc0_scoped117 cc0_scoped118 cc0_scoped119 cc0_scoped120
    cc0_scoped121 cc0_scoped122 cc0_scoped123 cc0_scoped124 cc0_scoped125 cc0_scoped126 cc0_scoped127 cc0_scoped128 cc0_scoped129 cc0_scoped130
    cc0_scoped131 cc0_scoped132 cc0_scoped133 cc0_scoped134 cc0_scoped135 cc0_scoped136 cc0_scoped137 cc0_scoped138 cc0_scoped139 cc0_scoped140
    cc0_scoped141 cc0_scoped142 cc0_scoped143 cc0_scoped144 cc0_scoped145 cc0_scoped146 cc0_scoped147 cc0_scoped148 cc0_scoped149 cc0_scoped150
    cc0_scoped151 cc0_scoped152 cc0_scoped153 cc0_scoped154 cc0_scoped155 cc0_scoped156 cc0_scoped157 cc0_scoped158 cc0_scoped159

set_option maxHeartbeats 2000000 in
/-- The task leaves the tile's thirty-two rows done: at each of two passes the sixteen rows are zeroed, sixteen chunks of edges
    are copied in and added, and the rows are copied out. -/
theorem wp_task (hE : InRange E R) :
    St d i O W q E R Wt A b c l m 0
      ⊢ Runs d i (task i) fun _ => iprop(∃ A b c l m, St d i O W q E R Wt A b c l m 32) := by
  unfold task cc0__sc_scatter_body
  refine BI.Entails.trans ?_ (Entails.of_eq (wp_bind _ _ _ _ _ _).symm)
  unfold k0_part108
  refine wp_zeros₂ d i O W q E R Wt (rowLo i 0) (fun _ _ => rfl) (fun _ => ?_)
  iterate 16
    refine step_b d i O W q E R Wt (step_c d i O W q E R Wt (step_l d i O W q E R Wt (step_m d i O W q E R Wt ?_)))
    refine wp_edges₂ d i O W q Wt hE (rowLo i 0) _ (fun _ _ => rfl) rfl (fun _ => ?_)
  iterate 16 refine step_row d i O W q E R Wt _ (by decide) rfl rfl rfl ?_
  refine wp_zeros₂ d i O W q E R Wt (rowLo i 1) (fun _ _ => rfl) (fun _ => ?_)
  iterate 16
    refine step_b d i O W q E R Wt (step_c d i O W q E R Wt (step_l d i O W q E R Wt (step_m d i O W q E R Wt ?_)))
    refine wp_edges₂ d i O W q Wt hE (rowLo i 1) _ (fun _ _ => rfl) rfl (fun _ => ?_)
  iterate 15 refine step_row d i O W q E R Wt _ (by decide) rfl rfl rfl ?_
  refine runs_ret d i ?_
  refine step_row d i O W q E R Wt _ (by decide) rfl rfl rfl ?_
  refine runs_ret d i ?_
  iintro H
  iexists _, _, _, _, _
  iexact H

end Cert.Adj

end
-- ==== Proof.Tile.lean ====
/-
  The tiles' part of the launch: what the call hands each tile (a read share of the edge arrays, the tile's rows of
  the adjacency at their launch contents) and what it takes back (the share, the rows done), and that the task of
  each tile keeps to it.
-/
module

public import proofs.«01_k».proof.Proof.Body

@[expose] public section

noncomputable section

namespace Cert.Adj

open Cert.Kernel Cert.Kernel.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-! ## What a tile is handed and hands back -/

/-- The coordinates of SparseCore `c`'s subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The read share of SparseCore `c`'s subcore `s`: the whole dealt to the SparseCores, each one's to its subcores. -/
def shareAt (c : Fin 2) (s : Fin 16) : PosShare TreeShare :=
  Transfers.dealOf (Transfers.dealOf fullShare (Finset.univ : Finset (Fin 2)) c) (Finset.univ : Finset (Fin 16)) s

/-- The tile's share of the edges and its rows of the adjacency, the first `n` of them done. -/
def Part (d : Dev nD) (n : ℕ) (c : Fin 2) (s : Fin 16) : sProp 𝕄 :=
  iprop(Shares d (coordsV c s) (shareAt c s) (m (eLoc d)) (m (rLoc d)) (m (wLoc d))
    ∗ Out d (coordsV c s) (m (eLoc d)) (m (rLoc d)) (m (wLoc d)) n)

instance part_storable (d : Dev nD) (n : ℕ) (c : Fin 2) (s : Fin 16) : BI.Storable (upEmb : UEmb _ 𝕄) (Part m d n c s) := by
  unfold Part Shares Out; infer_instance

theorem nCore_zero : (K (F := F)).nCore 0 = 2 := rfl
theorem nSub_zero : (K (F := F)).nSub 0 = 16 := rfl

/-- The SparseCore and the subcore a call's indices name. -/
def coreOf : (q : Fin 1) → Fin ((K (F := F)).nCore q) → Fin 2 | 0, c => c
def subOf : (q : Fin 1) → Fin ((K (F := F)).nSub q) → Fin 16 | 0, s => s

/-- The call's payloads: to each tile its part with no row done, from each its part with all thirty-two; a SparseCore's are
    its tiles' together. -/
def P : (K (F := F)).Pay (nD := nD) (Val := Elt F) (Name := ℕ) (U := UU) where
  st := fun q d c => bigSep Finset.univ fun s : Fin ((K (F := F)).nSub q) => Part m d 0 (coreOf q c) (subOf q s)
  dn := fun q d c => bigSep Finset.univ fun s : Fin ((K (F := F)).nSub q) => Part m d 32 (coreOf q c) (subOf q s)
  go := fun q d c s => Part m d 0 (coreOf q c) (subOf q s)
  td := fun q d c s => Part m d 32 (coreOf q c) (subOf q s)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-- A SparseCore's payload is its tiles' payloads, both ways. -/
theorem vecSplit : (K (F := F)).VecSplit' (P m) 0 := by
  intro d c
  show (bigSep Finset.univ fun s : Fin ((K (F := F)).nSub 0) => Part m d 0 (coreOf 0 c) (subOf 0 s))
    ⊢ |={Set.univ}=> iprop((bigSep Finset.univ fun s : Fin ((K (F := F)).nSub 0) => Part m d 0 (coreOf 0 c) (subOf 0 s))
      ∗ ((bigSep Finset.univ fun s : Fin ((K (F := F)).nSub 0) => Part m d 32 (coreOf 0 c) (subOf 0 s))
        -∗ bigSep Finset.univ fun s : Fin ((K (F := F)).nSub 0) => Part m d 32 (coreOf 0 c) (subOf 0 s)))
  iintro H
  imodintro
  isplitl [H]; · iexact H
  iintro H
  iexact H

/-! ## The task within the call -/

section Task

variable (d : Dev nD) (i : grid0.Coords)

abbrev proc (i : grid0.Coords) : Proc τ := Proc.scVector ((i 0).castLE hcore0) ((i 1).castLE hsub0)

omit [FloatOps F] in
/-- The five scratch buffers, at some contents, taken out of all of the tile's own buffers. -/
theorem ownBufs_tile :
    (ownBufs (tile d i) : sProp 𝕄)
      = iprop((∃ f, (tile d i).loc cc0_scratch0 ↦{fullShare} f) ∗ (∃ f, (tile d i).loc cc0_scratch1 ↦{fullShare} f)
          ∗ (∃ f, (tile d i).loc cc0_scratch2 ↦{fullShare} f) ∗ (∃ f, (tile d i).loc cc0_scratch3 ↦{fullShare} f)
          ∗ (∃ f, (tile d i).loc cc0_scratch4 ↦{fullShare} f)
          ∗ bigSep ((((((ownRefs (τ := τ) (proc i)).erase ((proc i).devRef cc0_scratch0)).erase ((proc i).devRef cc0_scratch1)).erase
              ((proc i).devRef cc0_scratch2)).erase ((proc i).devRef cc0_scratch3)).erase ((proc i).devRef cc0_scratch4))
              fun b => iprop(∃ f, ((d, b) : Loc nD τ sig) ↦{fullShare} f)) := by
  have own (b : Ref sig .scVector) (h : ((proc i).devRef b).owner = .proc (proc i) := by rfl) : (proc i).devRef b ∈ ownRefs (τ := τ) (proc i) :=
    SparseCore.Cfg.mem_ownRefs_of_owner (p := proc i) (b := (proc i).devRef b) h
  have ne {a b : Ref sig .scVector} (h : a ≠ b) : (proc i).devRef a ≠ (proc i).devRef b := fun e => h (Proc.devRef_injective _ e)
  unfold SparseCore.Cfg.ownBufs
  refine (SparseCore.bigSep_erase' (own cc0_scratch0)).trans ?_
  rw [SparseCore.bigSep_erase' (Finset.mem_erase.mpr ⟨ne (show (cc0_scratch1 : Ref sig .scVector) ≠ cc0_scratch0 by decide), own cc0_scratch1⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), own cc0_scratch2⟩⟩),
    SparseCore.bigSep_erase' (Finset.mem_erase.mpr ⟨ne (show (cc0_scratch3 : Ref sig .scVector) ≠ cc0_scratch2 by decide),
      Finset.mem_erase.mpr ⟨ne (show (cc0_scratch3 : Ref sig .scVector) ≠ cc0_scratch1 by decide),
      Finset.mem_erase.mpr ⟨ne (show (cc0_scratch3 : Ref sig .scVector) ≠ cc0_scratch0 by decide), own cc0_scratch3⟩⟩⟩),
    SparseCore.bigSep_erase' (Finset.mem_erase.mpr ⟨ne (show (cc0_scratch4 : Ref sig .scVector) ≠ cc0_scratch3 by decide),
      Finset.mem_erase.mpr ⟨ne (show (cc0_scratch4 : Ref sig .scVector) ≠ cc0_scratch2 by decide),
      Finset.mem_erase.mpr ⟨ne (show (cc0_scratch4 : Ref sig .scVector) ≠ cc0_scratch1 by decide),
      Finset.mem_erase.mpr ⟨ne (show (cc0_scratch4 : Ref sig .scVector) ≠ cc0_scratch0 by decide), own cc0_scratch4⟩⟩⟩⟩)]

/-- The task, from the tile's part and its own buffers and semaphores, to its part done and those back. -/
theorem tile_body (q : PosShare TreeShare) (E : S2x32768.Idx → BitVec 32) (R : S32768.Idx → BitVec 32) (Wt : S32768.Idx → F .f32)
    (hE : InRange E R) (O : CellTallies nD τ sig (HIx 1)) (W : Waits sig (HIx 1)) (hO : ∀ g, O g none = 0) :
    iprop(levAts (K (F := F)).L (K (F := F)).lev ∗ emp ∗ (Shares d i q E R Wt ∗ Out d i E R Wt 0)
        ∗ scopedBufs (tile d i) ∗ scopedSems0 (tile d i) ∗ owes (tile d i) O W)
      ⊢ Runs d i (task i) fun _ => iprop((Shares d i q E R Wt ∗ Out d i E R Wt 32) ∗ scopedBufs (tile d i) ∗ scopedSems0 (tile d i)
            ∗ ∃ W', ⌜∀ p ∈ W', p ∈ W ∨ p.2 = none⌝ ∗ owes (tile d i) O W') := by
  rw [(K (F := F)).scopedBufs_V facts d _ _, SparseCore.Cfg.scopedSems0_V (Val := Elt F) d _ _, ownBufs_tile]
  iintro ⟨#Hlv, -, ⟨Hsh, Hout⟩, ⟨⟨%fA, HA⟩, ⟨%fb, Hb⟩, ⟨%fc, Hc⟩, ⟨%fl, Hl⟩, ⟨%fm, Hm⟩, Hrest⟩, Hsem, HO⟩
  ihave Hmw := ((K (F := F)).mayWaits_none (thr := tile d i) hO) $$ Hlv
  ihave Hw := (wp_task d i O W q E R Wt (A := fA) (b := fb) (c := fc) (l := fl) (m := fm) hE) $$ [Hsh Hout HA Hb Hc Hl Hm Hsem HO Hmw]
  · unfold St Waiting
    isplitl [Hsh]; · iexact Hsh
    isplitl [HA]; · iexact HA
    isplitl [Hb]; · iexact Hb
    isplitl [Hc]; · iexact Hc
    isplitl [Hl]; · iexact Hl
    isplitl [Hm]; · iexact Hm
    isplitl [Hout]; · iexact Hout
    isplitl [Hmw]; · iexact Hmw
    isplitl [Hsem]; · iexact Hsem
    iexists W
    isplitr
    · ipureintro; exact fun p hp => .inl hp
    · iexact HO
  unfold Runs
  iapply (wp_wand frame _ _) $$ Hw
  iintro %_ ⟨%A, %b, %c, %l, %w, HS⟩
  unfold St Waiting
  icases HS with ⟨Hsh, HA, Hb, Hc, Hl, Hm, Hout, -, Hsem, HO⟩
  isplitl [Hsh Hout]
  · isplitl [Hsh]; · iexact Hsh
    iexact Hout
  isplitl [HA Hb Hc Hl Hm Hrest]
  · isplitl [HA]; · iexists A; iexact HA
    isplitl [Hb]; · iexists b; iexact Hb
    isplitl [Hc]; · iexists c; iexact Hc
    isplitl [Hl]; · iexists l; iexact Hl
    isplitl [Hm]; · iexists w; iexact Hm
    iexact Hrest
  isplitl [Hsem]; · iexact Hsem
  iexact HO

end Task

/-! ## The call's obligation -/

theorem defs₀_vector (c : Fin τ.nSC) (s : Fin τ.nSub) :
    defs₀ (F := F) (.scVector c s) 0 () = SparseCore.onTile hcore0 hsub0 (fun c s => task (coordsV c s)) ⟨⟩ c s := rfl

omit [FloatOps F] in
/-- Waits recorded at no call are waits recorded at no call or at this one. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 1024 in
/-- Every tile's task runs from its part of the call's payload to its part done. -/
theorem tileObl (hE : ∀ d, InRange (m (eLoc d)) (m (rLoc d))) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (shareAt ⟨_, hc.1⟩ ⟨_, hc.2⟩) (m (eLoc d)) (m (rLoc d)) (m (wLoc d)) (hE d) O W hO).trans
    (wp_mono frame _ _ fun _ => obl_post)

end Cert.Adj

end
-- ==== Proof.Spread.lean ====
/-
  The call's arrays spread over the tiles and gathered from them: the whole of each edge array is the tiles' read
  shares of it, the whole adjacency is the tiles' rows, and when every tile has done its rows the whole holds `adj`.
-/
module

public import proofs.«01_k».proof.Proof.Tile

@[expose] public section

noncomputable section

namespace Cert.Adj

open Cert.Kernel Cert.Kernel.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

omit [FloatOps F] in
/-- The whole of an array is the tiles' read shares of it. -/
theorem dealt (ℓ : Loc nD τ sig) (f : Buf (Elt F) ℓ) :
    (ℓ ↦{fullShare} f : sProp 𝕄)
      = bigSep Finset.univ fun c : Fin 2 => bigSep Finset.univ fun s : Fin 16 => ℓ ↦[Finset.univ]{shareAt c s} f := by
  refine (Transfers.pointsTo_deal (ℓ := ℓ) (S := Finset.univ) (f := f) (Finset.univ : Finset (Fin 2)) ⟨0, Finset.mem_univ _⟩ fullShare).trans ?_
  exact bigSep_congr fun c _ => Transfers.pointsTo_deal (ℓ := ℓ) (S := Finset.univ) (f := f) (Finset.univ : Finset (Fin 16)) ⟨0, Finset.mem_univ _⟩ _

/-! ## The rows -/

/-- The rows of SparseCore `c`'s tiles. -/
def coreSet (c : Fin 2) : Finset S1024x7168.Idx := Finset.univ.biUnion fun s : Fin 16 => tileSet (coordsV c s)

theorem mem_tileSet (c : Fin 2) (s : Fin 16) (x : S1024x7168.Idx) : x ∈ tileSet (coordsV c s) ↔ (x 0).val / 16 % 32 = 2 * s.val + c.val := by
  unfold tileSet
  rw [Finset.mem_filter]
  exact ⟨fun h => h.2, fun h => ⟨Finset.mem_univ _, h⟩⟩

theorem tileSet_disjoint (c : Fin 2) : ∀ s ∈ (Finset.univ : Finset (Fin 16)), ∀ s' ∈ (Finset.univ : Finset (Fin 16)), s ≠ s' →
    Disjoint (tileSet (coordsV c s)) (tileSet (coordsV c s')) := by
  intro s _ s' _ h
  refine Finset.disjoint_left.mpr fun x hx hx' => h (Fin.ext ?_)
  rw [mem_tileSet] at hx hx'
  omega

theorem mem_coreSet (c : Fin 2) (x : S1024x7168.Idx) : x ∈ coreSet c ↔ (x 0).val / 16 % 2 = c.val := by
  have hx : (x 0).val < 1024 := (x 0).isLt
  unfold coreSet
  rw [Finset.mem_biUnion]
  refine ⟨fun ⟨s, _, h⟩ => ?_, fun h => ⟨⟨(x 0).val / 16 % 32 / 2, by omega⟩, Finset.mem_univ _, ?_⟩⟩
  · rw [mem_tileSet] at h; omega
  · rw [mem_tileSet]; show _ = 2 * ((x 0).val / 16 % 32 / 2) + _; omega

theorem coreSet_disjoint : ∀ c ∈ (Finset.univ : Finset (Fin 2)), ∀ c' ∈ (Finset.univ : Finset (Fin 2)), c ≠ c' → Disjoint (coreSet c) (coreSet c') := by
  intro c _ c' _ h
  refine Finset.disjoint_left.mpr fun x hx hx' => h (Fin.ext ?_)
  rw [mem_coreSet] at hx hx'
  omega

theorem coreSet_cover : (Finset.univ : Finset (Fin 2)).biUnion coreSet = Finset.univ := by
  refine Finset.eq_univ_iff_forall.mpr fun x => Finset.mem_biUnion.mpr ⟨⟨(x 0).val / 16 % 2, by omega⟩, Finset.mem_univ _, ?_⟩
  rw [mem_coreSet]

omit [FloatOps F] in
/-- The whole adjacency is the tiles' rows of it. -/
theorem parted (d : Dev nD) (f : Buf (Elt F) (oLoc d)) :
    (oLoc d ↦{fullShare} f : sProp 𝕄)
      = bigSep Finset.univ fun c : Fin 2 => bigSep Finset.univ fun s : Fin 16 => oLoc d ↦[tileSet (coordsV c s)]{fullShare} f := by
  have h₁ : (oLoc d ↦[(Finset.univ : Finset (Fin 2)).biUnion coreSet]{fullShare} f : sProp 𝕄)
      = bigSep Finset.univ fun c : Fin 2 => oLoc d ↦[coreSet c]{fullShare} f :=
    pointsTo_biUnion Finset.univ (ℓ := oLoc d) coreSet coreSet_disjoint
  have h₂ (c : Fin 2) : (oLoc d ↦[coreSet c]{fullShare} f : sProp 𝕄)
      = bigSep Finset.univ fun s : Fin 16 => oLoc d ↦[tileSet (coordsV c s)]{fullShare} f :=
    pointsTo_biUnion Finset.univ (ℓ := oLoc d) (fun s : Fin 16 => tileSet (coordsV c s)) (tileSet_disjoint c)
  rw [coreSet_cover] at h₁
  exact h₁.trans (bigSep_congr fun c _ => h₂ c)

/-- Rows at the launch contents: none of them done. -/
theorem out_zero (d : Dev nD) (i : grid0.Coords) (E : S2x32768.Idx → BitVec 32) (R : S32768.Idx → BitVec 32) (Wt : S32768.Idx → F .f32)
    (f : Buf (Elt F) (oLoc d)) : (oLoc d ↦[tileSet i]{fullShare} f : sProp 𝕄) ⊢ Out d i E R Wt 0 := by
  unfold Out
  iintro H
  iexists f
  isplitr
  · ipureintro; exact fun _ k hk => absurd hk (Nat.not_lt_zero k)
  · iexact H

/-- All thirty-two rows done: the tile's rows hold `adj`. -/
theorem out_done (d : Dev nD) (i : grid0.Coords) (E : S2x32768.Idx → BitVec 32) (R : S32768.Idx → BitVec 32) (Wt : S32768.Idx → F .f32) :
    (Out d i E R Wt 32 : sProp 𝕄) ⊢ oLoc d ↦[tileSet i]{fullShare} (adj E R Wt : Buf (Elt F) (oLoc d)) := by
  unfold Out
  iintro ⟨%g, %hg, H⟩
  iapply (Entails.of_eq (pointsTo_congr (ℓ := oLoc d) (I := tileSet i) (q := fullShare) (f := g) (g := (adj E R Wt : Buf (Elt F) (oLoc d)))
    fun x hx => by obtain ⟨k, hk, e⟩ := exists_rowNo i hx; exact hg x k hk e))
  iexact H

/-! ## The call's payloads -/

/-- Every array of the call, the adjacency at `f`. -/
def Arrays (d : Dev nD) (f : Buf (Elt F) (oLoc d)) : sProp 𝕄 :=
  iprop((eLoc d ↦{fullShare} m (eLoc d)) ∗ (rLoc d ↦{fullShare} m (rLoc d)) ∗ (wLoc d ↦{fullShare} m (wLoc d)) ∗ (oLoc d ↦{fullShare} f))

theorem bigSep_sep₂ (Φ Ψ : Fin 2 → Fin 16 → sProp 𝕄) :
    (bigSep Finset.univ fun c => bigSep Finset.univ fun s => iprop(Φ c s ∗ Ψ c s))
      = iprop((bigSep Finset.univ fun c => bigSep Finset.univ fun s => Φ c s) ∗ bigSep Finset.univ fun c => bigSep Finset.univ fun s => Ψ c s) :=
  (bigSep_congr fun c _ => bigSep_sep' _ _ _).trans (bigSep_sep' _ _ _)

/-- The arrays are the tiles' shares of the edges and their rows. -/
theorem arrays_eq (d : Dev nD) (f : Buf (Elt F) (oLoc d)) :
    (Arrays m d f : sProp 𝕄)
      = bigSep Finset.univ fun c : Fin 2 => bigSep Finset.univ fun s : Fin 16 =>
          iprop(Shares d (coordsV c s) (shareAt c s) (m (eLoc d)) (m (rLoc d)) (m (wLoc d)) ∗ oLoc d ↦[tileSet (coordsV c s)]{fullShare} f) := by
  rw [bigSep_sep₂]
  have h : (bigSep Finset.univ fun c : Fin 2 => bigSep Finset.univ fun s : Fin 16 =>
        Shares d (coordsV c s) (shareAt c s) (m (eLoc d)) (m (rLoc d)) (m (wLoc d)) : sProp 𝕄)
      = iprop((eLoc d ↦{fullShare} m (eLoc d)) ∗ (rLoc d ↦{fullShare} m (rLoc d)) ∗ (wLoc d ↦{fullShare} m (wLoc d))) := by
    rw [dealt (eLoc d), dealt (rLoc d), dealt (wLoc d), ← bigSep_sep₂, ← bigSep_sep₂]
    rfl
  rw [h, ← parted]
  unfold Arrays
  have h₂ (A B C : sProp 𝕄) : iprop((A ∗ B) ∗ C) = iprop(A ∗ B ∗ C) := equiv_iff.mp ⟨Idealize.SL.BI.sep_assoc, Idealize.SL.BI.sep_assoc'⟩
  rw [h₂, h₂]

/-- A tile's part at the launch. -/
theorem part_zero (d : Dev nD) (c : Fin 2) (s : Fin 16) :
    iprop(Shares d (coordsV c s) (shareAt c s) (m (eLoc d)) (m (rLoc d)) (m (wLoc d)) ∗ oLoc d ↦[tileSet (coordsV c s)]{fullShare} m (oLoc d))
      ⊢ Part m d 0 c s := by
  unfold Part
  iintro ⟨HS, HO⟩
  isplitl [HS]; · iexact HS
  iapply (out_zero d (coordsV c s) (m (eLoc d)) (m (rLoc d)) (m (wLoc d)) (m (oLoc d)))
  iexact HO

/-- A tile's part at the end. -/
theorem part_done (d : Dev nD) (c : Fin 2) (s : Fin 16) :
    Part m d 32 c s
      ⊢ iprop(Shares d (coordsV c s) (shareAt c s) (m (eLoc d)) (m (rLoc d)) (m (wLoc d))
          ∗ oLoc d ↦[tileSet (coordsV c s)]{fullShare} (adj (m (eLoc d)) (m (rLoc d)) (m (wLoc d)) : Buf (Elt F) (oLoc d))) := by
  unfold Part
  iintro ⟨HS, HO⟩
  isplitl [HS]; · iexact HS
  iapply (out_done d (coordsV c s) (m (eLoc d)) (m (rLoc d)) (m (wLoc d)))
  iexact HO

/-- What the call takes for the SparseCores: the arrays at their launch contents. -/
theorem spread (d : Dev nD) :
    Arrays m d (m (oLoc d)) ⊢ bigSep Finset.univ fun c : Fin ((K (F := F)).nCore 0) => (P m).st 0 d c := by
  rw [arrays_eq]
  show _ ⊢ bigSep Finset.univ fun c : Fin 2 => bigSep Finset.univ fun s : Fin 16 => Part m d 0 c s
  exact bigSep_mono fun c _ => bigSep_mono fun s _ => part_zero m d c s

/-- What it hands back: the arrays, the adjacency at `adj`. -/
theorem gather (d : Dev nD) :
    (bigSep Finset.univ fun c : Fin ((K (F := F)).nCore 0) => (P m).dn 0 d c)
      ⊢ Arrays m d (adj (m (eLoc d)) (m (rLoc d)) (m (wLoc d)) : S1024x7168.Idx → F .f32) := by
  rw [arrays_eq]
  show (bigSep Finset.univ fun c : Fin 2 => bigSep Finset.univ fun s : Fin 16 => Part m d 32 c s) ⊢ _
  exact bigSep_mono fun c _ => bigSep_mono fun s _ => part_done m d c s

end Cert.Adj

end
-- ==== Proof.Launch.lean ====
/-
  The program's run: @main's call of the SparseCores, then its host operations, from the launch memory to the
  operations' valuation over it, the adjacency at `adj`.
-/
module

public import proofs.«01_k».proof.Proof.Spread
public import proofs.«01_k».proof.Proof.Host
public import Idealize.ShloMosaic.Lib.Pipeline.Frame

@[expose] public section

noncomputable section

namespace Cert.Adj

open Cert.Kernel Cert.Kernel.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo Idealize.ShloMosaic.Pipeline

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element: the handshakes' rounds alone -/

def u₀ : UU := (initOf (K (F := F)).hsCells (K (F := F)).hsToks, 1)

/-- The launch element gives the handshakes' rounds; the kernel asks for nothing of its own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have he {I : Type} (s : Finset I) : (bigSep s fun _ => iprop(emp)) = (iprop(emp) : sProp 𝕄) := bigSep_emp_const s
  unfold u₀
  iintro Hu
  ihave H := (ownU_pair _ _) $$ Hu
  icases H with ⟨HH, -⟩
  imodintro
  isplitl [HH]; · iexact HH
  isplitr; · rw [he]; iempintro
  unfold P; dsimp only
  rw [show (bigSep Finset.univ fun _ : Thread nD τ => bigSep Finset.univ fun _ : Fin 1 => (iprop(emp) : sProp 𝕄)) = iprop(emp) from by
    rw [bigSep_congr fun _ _ => he _, he]]
  iempintro

/-! ## @main on the TensorCore -/

abbrev e' : DevRef τ sig := Proc.devRef .tc (main_arg1 : Ref sig .tc)
abbrev r' : DevRef τ sig := Proc.devRef .tc (main_arg2 : Ref sig .tc)
abbrev w' : DevRef τ sig := Proc.devRef .tc (main_arg3 : Ref sig .tc)
abbrev o' : DevRef τ sig := Proc.devRef .tc (main_v0 : Ref sig .tc)

/-- The arrays the call works on. -/
abbrev callRefs : Finset (DevRef τ sig) := {e', r', w', o'}

/-- The buffers' contents at the launch; after the call, the adjacency at `adj`. -/
def V0 (d : Dev nD) : Valuation τ sig (Elt F) := fun b => m (d, b)
def V1 (d : Dev nD) : Valuation τ sig (Elt F) :=
  Function.update (V0 m d) o' (adj (m (eLoc d)) (m (rLoc d)) (m (wLoc d)) : S1024x7168.Idx → F .f32)

theorem mem_ucRefs (b : Ref sig .tc) (h : ¬ b.isScoped) : Proc.devRef .tc b ∈ ucRefs τ sig :=
  Finset.mem_filter.mpr ⟨Finset.mem_map_of_mem _ (Finset.mem_univ b), h⟩

theorem callRefs_sub : callRefs ⊆ ucRefs τ sig := by
  intro b hb
  simp only [callRefs, Finset.mem_insert, Finset.mem_singleton] at hb
  rcases hb with rfl | rfl | rfl | rfl
  exacts [mem_ucRefs main_arg1 (by decide), mem_ucRefs main_arg2 (by decide), mem_ucRefs main_arg3 (by decide), mem_ucRefs main_v0 (by decide)]

omit [FloatOps F] in
theorem held_call (d : Dev nD) (V : Valuation τ sig (Elt F)) :
    (held (SparseCore.T d) callRefs V : sProp 𝕄)
      = iprop((eLoc d ↦{fullShare} V e') ∗ (rLoc d ↦{fullShare} V r') ∗ (wLoc d ↦{fullShare} V w') ∗ (oLoc d ↦{fullShare} V o')) := by
  unfold held callRefs
  rw [SparseCore.bigSep_insert' (by decide), SparseCore.bigSep_insert' (by decide), SparseCore.bigSep_insert' (by decide), bigSep_singleton]

theorem V1_ne (d : Dev nD) {b : DevRef τ sig} (h : b ≠ o') : V1 m d b = m (d, b) := Function.update_of_ne h _ _
theorem V1_o (d : Dev nD) : V1 m d o' = (adj (m (eLoc d)) (m (rLoc d)) (m (wLoc d)) : S1024x7168.Idx → F .f32) := Function.update_self _ _ _

/-- The buffers at the launch: the call's arrays and the others. -/
theorem held_V0 (d : Dev nD) :
    (held (SparseCore.T d) (ucRefs τ sig) (V0 m d) : sProp 𝕄)
      = iprop(Arrays m d (m (oLoc d)) ∗ held (SparseCore.T d) (ucRefs τ sig \ callRefs) (V1 m d)) := by
  rw [held_sub_split (SparseCore.T d) callRefs_sub, held_call]
  have h : (held (SparseCore.T d) (ucRefs τ sig \ callRefs) (V0 m d) : sProp 𝕄) = held (SparseCore.T d) (ucRefs τ sig \ callRefs) (V1 m d) :=
    held_congr _ fun b hb => (V1_ne m d fun e => (Finset.mem_sdiff.mp hb).2 (by rw [e]; decide)).symm
  rw [h]
  rfl

/-- The buffers after the call. -/
theorem held_V1 (d : Dev nD) :
    (held (SparseCore.T d) (ucRefs τ sig) (V1 m d) : sProp 𝕄)
      = iprop(Arrays m d (adj (m (eLoc d)) (m (rLoc d)) (m (wLoc d)) : S1024x7168.Idx → F .f32) ∗ held (SparseCore.T d) (ucRefs τ sig \ callRefs) (V1 m d)) := by
  rw [held_sub_split (SparseCore.T d) callRefs_sub, held_call, V1_o, V1_ne m d (show e' ≠ o' by decide), V1_ne m d (show r' ≠ o' by decide),
    V1_ne m d (show w' ≠ o' by decide)]
  rfl

/-- What @main leaves: every buffer at the operations' valuation. -/
abbrev FIN (d : Dev nD) : sProp 𝕄 := held (SparseCore.T d) (ucRefs τ sig) (after opsAll (V1 m d))

/-- @main on device `d`'s TensorCore: the call, from the arrays to the arrays with the adjacency built, then the host
    operations. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (ucRefs τ sig) (V0 m d) from unscopedBufs_held d (V0 m d),
    held_V0, main_eq, wp_bind]
  iintro ⟨#Hctx, Hst, ⟨Hb, ⟨Harr, Hrest⟩, Hts, -⟩, -⟩
  iapply ((K (F := F)).wp_run (D (F := F)) 𝒱 (EH := EH) (P := P m) κ d 0) $$ [Hst Harr Hb Hrest Hts]
  isplitr; · iexact Hctx
  isplitl [Hst]; · iexact Hst
  isplitl [Harr]
  · iapply (spread m d); iexact Harr
  iintro ⟨Hst, Hdn⟩
  ihave Harr := (gather m d) $$ Hdn
  rw [show (seq (opsAll (F := F)) : Prog _ PUnit) = (seq opsAll >>= fun _ => .ret ⟨⟩) from (bind_pure _).symm]
  iapply (wp_seq 𝒱 none Set.univ d (ucRefs τ sig) _ opsAll (fun op h => sub_ucRefs op (opsAll_sub op h)) opsAll_fresh (V1 m d)) $$ [Hb Harr Hrest]
  · isplitl [Hb]; · iexact Hb
    rw [held_V1]
    isplitl [Harr]; · iexact Harr
    iexact Hrest
  iintro ⟨Hb, Hheld⟩
  rw [wp_ret]; imodintro
  isplitl [Hst]; · iexact Hst
  isplitl [Hheld]; · iexact Hheld
  isplitl [Hb]; · iexact Hb
  iexact Hts

/-! ## The run -/

/-- Device `d`'s unscoped buffers at the end. -/
def fq (d : Dev nD) (s' : Phys nD τ sig (Elt F)) : Prop := ∀ b ∈ ucRefs τ sig, s'.mem.mem (d, b) = after opsAll (V1 m d) b

theorem hfin (d : Dev nD) (s' : Phys nD τ sig (Elt F)) : iprop(FIN m d ∗ SI s') ⊢ (⌜fq m d s'⌝ : sProp 𝕄) := by
  iintro ⟨H, HSI⟩
  unfold FIN held
  ihave %h := (SI_pointsTo_bufs_agree (qs := fun _ => fullShare) (ucRefs τ sig)) $$ [HSI H]
  · isplitl [HSI] <;> iassumption
  ipureintro
  exact h

/-- Every run ends with each device's buffers at the operations' valuation and every semaphore at zero. -/
def QC : PUnit × MemSt nD τ sig (Elt F) → Prop :=
  fun r => (∀ d : Dev nD, ∀ b ∈ ucRefs τ sig, r.2.mem (d, b) = after opsAll (V1 m d) b) ∧ r.2.sem = fun _ => 0

theorem run_main [∀ e, Nonempty (Elt F e)] (hE : ∀ d, InRange (m (eLoc d)) (m (rLoc d))) :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hE)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Adj

end
-- ==== Proof.Transport.lean ====
/-
  The idealized kernel is the same text as the kernel: window by window, then as threads.
-/
module

public import proofs.«01_k».proof.KernelIdeal
public import proofs.«01_k».proof.Kernel
public import proofs.«01_k».proof.Proof.Gen.Kernel
public import proofs.«01_k».proof.Proof.Gen.KernelIdeal

@[expose] public section

noncomputable section

namespace Cert.Adj

open Cert.Kernel Cert.Kernel.Gen
open Idealize.ShloMosaic Idealize.SL.Sem

variable {F : FTy → Type} [FloatOps F]

/-- The procedures are the same. -/
theorem defs_ideal : Cert.KernelIdeal.defs (F := F) = Cert.Kernel.defs (F := F) := rfl

/-- The SparseCore set-up is the same. -/
theorem sc_ideal : Cert.KernelIdeal.sc (F := F) = Cert.Kernel.sc (F := F) := rfl

/-- The first window of @main is the same. -/
theorem main_part0_ideal (d : Dev nD) : Cert.KernelIdeal.main_part0 (F := F) d = Cert.Kernel.main_part0 (F := F) d := by
  unfold Cert.KernelIdeal.main_part0 Cert.Kernel.main_part0
  rfl

/-- The second window of @main is the same. -/
theorem main_part1_ideal (d : Dev nD) : Cert.KernelIdeal.main_part1 (F := F) d = Cert.Kernel.main_part1 (F := F) d := by
  unfold Cert.KernelIdeal.main_part1 Cert.Kernel.main_part1
  rfl

/-- The third window of @main is the same. -/
theorem main_part2_ideal (d : Dev nD) : Cert.KernelIdeal.main_part2 (F := F) d = Cert.Kernel.main_part2 (F := F) d := by
  unfold Cert.KernelIdeal.main_part2 Cert.Kernel.main_part2
  rfl

/-- @main is the same. -/
theorem main_ideal : Cert.KernelIdeal.main (F := F) = Cert.Kernel.main (F := F) := by
  funext d
  have h0 := main_part0_ideal (F := F) d
  have h1 := main_part1_ideal (F := F) d
  have h2 := main_part2_ideal (F := F) d
  unfold Cert.KernelIdeal.main Cert.Kernel.main
  beta_reduce
  rw [h0, h1, h2]

/-- The threads are the same. -/
theorem threads_ideal : Cert.KernelIdeal.threads (F := F) = Cert.Kernel.threads (F := F) :=
  congrArg (Cert.Kernel.sc (F := F)).threads main_ideal

end Cert.Adj

end
-- ==== Proof.Pre.lean ====
/-
  The precondition read back: the edge data it passes is in range.
-/
module

public import proofs.«01_k».proof.Proof.Range
public import proofs.«01_k».proof.Proof.Gen.Pre_in_range
public import Idealize.ShloMosaic.Lib.ReduceAll

@[expose] public section

noncomputable section

namespace Cert.Adj

open Cert.Kernel Cert.Kernel.Gen
open Idealize.ShloMosaic

variable {F : FTy → Type} [FloatOps F]

/-- A word that is read signed as at least 0 and less than a small bound is less than it read unsigned. -/
theorem toNat_lt_of_signed {x b : BitVec 32} (h0 : (0#32).toInt ≤ x.toInt) (h1 : x.toInt < b.toInt) : x.toNat < b.toNat := by
  have hx := x.isLt
  have hb := b.isLt
  have h00 : (0#32).toInt = 0 := by decide
  rw [h00] at h0
  rw [BitVec.toInt_eq_toNat_cond] at h0 h1
  rw [BitVec.toInt_eq_toNat_cond] at h1
  split at h0 <;> split at h1 <;> omega

/-- Two comparisons joined by `and`, both true: the word is less than the bound. -/
theorem toNat_lt_of_between {x b : BitVec 32} (h : IntOp.andi (IntOp.cmpi .sge x 0#32) (IntOp.cmpi .slt x b) = 1#1) : x.toNat < b.toNat :=
  toNat_lt_of_signed (IntOp.cmpi_sge.1 (IntOp.andi_eq_one.1 h).1) (IntOp.cmpi_slt.1 (IntOp.andi_eq_one.1 h).2)

/-- The shape of a scalar has one index. -/
theorem scalar_subsingleton : Subsingleton (⟨0, ![]⟩ : Shape).Idx := ⟨fun a b => funext fun i => i.elim0⟩

/-- The precondition at all ones says that every node and every relation is in range. -/
theorem inRange_of_pre (a0 : FVec F S1024x512 .f32) (E : IVec S2x32768 32) (R : IVec S32768 32) (a3 : FVec F S32768 .f32)
    (a4 : FVec F ⟨3, ![7, 512, 512]⟩ .f32) (a5 a6 : FVec F ⟨1, ![512]⟩ .f32) (a7 a8 : FVec F ⟨3, ![2, 512, 512]⟩ .f32)
    (a9 : FVec F ⟨2, ![3584, 512]⟩ .f32) (a10 a11 : FVec F ⟨1, ![512]⟩ .f32) (a12 : FVec F ⟨2, ![3584, 512]⟩ .f32)
    (a13 a14 a15 a16 : FVec F ⟨1, ![512]⟩ .f32)
    (h : Cert.Pre_in_range.fn a0 E R a3 a4 a5 a6 a7 a8 a9 a10 a11 a12 a13 a14 a15 a16 = fun _ => 1#1) : InRange E R := by
  haveI := scalar_subsingleton
  have h1 := congrFun h (fun i => i.elim0)
  unfold Cert.Pre_in_range.fn at h1
  have h2 := IntOp.andi_eq_one.1 h1
  exact ⟨fun x => toNat_lt_of_between (Host.reduce_andi_all _ _ _ _ _ h2.1 x), fun x => toNat_lt_of_between (Host.reduce_andi_all _ _ _ _ _ h2.2 x)⟩

end Cert.Adj

end
-- ==== Proof.Frames.lean ====
/-
  The frames: a run leaves every argument array as it was, and every semaphore at zero.
-/
module

public import proofs.«01_k».proof.Defs
public import proofs.«01_k».proof.Proof.Launch
public import proofs.«01_k».proof.Proof.Transport
public import proofs.«01_k».proof.Proof.Pre
public import proofs.«01_k».proof.Proof.Gen.KernelIdeal
public import proofs.«01_k».proof.Proof.Gen.ReferenceIdeal.Run
public import Idealize.ShloMosaic.Lib.Quiescent

@[expose] public section

noncomputable section

namespace Cert.Adj

open Cert.Kernel Cert.Kernel.Gen
open Idealize.ShloMosaic Idealize.SL.Sem
open Idealize.ShloMosaic.StableHlo Idealize.ShloMosaic.Pipeline

variable {F : FTy → Type} [FloatOps F]

/-- Everything the host operations write. -/
abbrev opsAllW : List (Ref sig .tc) := opsAW ++ (opsBW ++ (opsCW ++ (opsD0W ++ (opsD1W ++ (opsEW ++ (opsFW ++ (opsGW ++ (opsHW ++ (opsIW ++ (opsJ0W ++ (opsJ1W ++ (opsKW ++ (opsLW ++ (opsMW))))))))))))))

/-- What the host operations do not write, they keep. -/
theorem after_opsAll_keep (V : Valuation τ sig (Elt F)) {b : Ref sig .tc} (h : b ∉ opsAllW) : after opsAll V (Proc.devRef .tc b) = V (Proc.devRef .tc b) := by
  simp only [opsAllW, List.mem_append, not_or] at h
  obtain ⟨hA, hB, hC, hD0, hD1, hE, hF, hG, hH, hI, hJ0, hJ1, hK, hL, hM⟩ := h
  simp only [opsAll, opsPart0, opsPart1, opsPart2, after_append]
  rw [after_of_writes_sub opsM _ opsM_writes hM,
    after_of_writes_sub opsL _ opsL_writes hL,
    after_of_writes_sub opsK _ opsK_writes hK,
    after_of_writes_sub opsJ1 _ opsJ1_writes hJ1,
    after_of_writes_sub opsJ0 _ opsJ0_writes hJ0,
    after_of_writes_sub opsI _ opsI_writes hI,
    after_of_writes_sub opsH _ opsH_writes hH,
    after_of_writes_sub opsG _ opsG_writes hG,
    after_of_writes_sub opsF _ opsF_writes hF,
    after_of_writes_sub opsE _ opsE_writes hE,
    after_of_writes_sub opsD1 _ opsD1_writes hD1,
    after_of_writes_sub opsD0 _ opsD0_writes hD0,
    after_of_writes_sub opsC _ opsC_writes hC,
    after_of_writes_sub opsB _ opsB_writes hB,
    after_of_writes_sub opsA _ opsA_writes hA]

/-- @main's arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16]

set_option maxRecDepth 8192 in
/-- No argument is a scoped buffer, a host operation's result or the adjacency. -/
theorem args_kept : ∀ b ∈ argRefs, b.isScoped = false ∧ b ∉ opsAllW ∧ Proc.devRef (τ := τ) .tc b ≠ o' := by decide

/-- A run leaves every argument as it was. -/
theorem arg_of_run {m : (ℓ : Loc nD τ sig) → Buf (Elt F) ℓ} {r : PUnit × MemSt nD τ sig (Elt F)} (h : QC m r) (c : Dev nD) {b : Ref sig .tc} (hb : b ∈ argRefs) :
    r.2.mem ((c.tc : Thread nD τ).loc b) = m ((c.tc : Thread nD τ).loc b) := by
  obtain ⟨h1, h2, h3⟩ := args_kept b hb
  exact (h.1 c _ (mem_ucRefs b (by simp [h1]))).trans ((after_opsAll_keep _ h2).trans (V1_ne m c h3))

/-- Every run of the kernel leaves every argument as it was and every semaphore at zero. -/
theorem frame_Kernel : Cert.quiescent_Kernel (hKernel := Cert.Kernel.Gen.facts) (hPre_in_range := Cert.Pre_in_range.Gen.facts) := fun m g hp =>
  (θ_run _ _ _).mono (fun _ h => ⟨fun c => by
      refine ⟨?_, ?_, ?_, ?_, ?_, ?_, ?_, ?_, ?_, ?_, ?_, ?_, ?_, ?_, ?_, ?_, ?_⟩ <;> exact arg_of_run h c (by decide), h.2⟩)
    (run_main m g fun d => inRange_of_pre _ _ _ _ _ _ _ _ _ _ _ _ _ _ _ _ _ (hp d))

/-- The precondition puts the idealized kernel's edge data in range. -/
theorem inRange_ideal {m : (ℓ : Loc Cert.KernelIdeal.nD Cert.KernelIdeal.τ Cert.KernelIdeal.sig) → Buf (Elt Ideal) ℓ}
    (hp : Cert.Pre_KernelIdeal (hPre_in_range := Cert.Pre_in_range.Gen.facts) m) (d : Dev nD) : InRange (m (eLoc d)) (m (rLoc d)) :=
  inRange_of_pre _ _ _ _ _ _ _ _ _ _ _ _ _ _ _ _ _ (hp d)

/-- The idealized kernel's run, from the kernel's. -/
theorem run_KernelIdeal (m : (ℓ : Loc Cert.KernelIdeal.nD Cert.KernelIdeal.τ Cert.KernelIdeal.sig) → Buf (Elt Ideal) ℓ) (g : Dev Cert.KernelIdeal.nD → PrngReg)
    (hp : Cert.Pre_KernelIdeal (hPre_in_range := Cert.Pre_in_range.Gen.facts) m) :
    θ_run (Cert.KernelIdeal.defs (F := Ideal)) (Cert.KernelIdeal.threads (F := Ideal)) ⟨m, fun _ => 0, g⟩ (QC (F := Ideal) m) := by
  have h := run_main (F := Ideal) m g (inRange_ideal hp)
  rw [← defs_ideal, ← threads_ideal] at h
  exact h

/-- Every run of the idealized kernel leaves every argument as it was and every semaphore at zero. -/
theorem frame_KernelIdeal : Cert.quiescent_KernelIdeal (hKernelIdeal := Cert.KernelIdeal.Gen.facts) (hPre_in_range := Cert.Pre_in_range.Gen.facts) := fun m g hp =>
  (θ_run _ _ _).mono (fun _ h => ⟨fun c => by
      refine ⟨?_, ?_, ?_, ?_, ?_, ?_, ?_, ?_, ?_, ?_, ?_, ?_, ?_, ?_, ?_, ?_, ?_⟩ <;> exact arg_of_run (F := Ideal) h c (by decide), h.2⟩)
    (run_KernelIdeal m g hp)

/-- Every run of the reference leaves every argument as it was; it has no semaphore. -/
theorem frame_ReferenceIdeal : Cert.quiescent_ReferenceIdeal (hReferenceIdeal := Cert.ReferenceIdeal.Gen.facts) (hPre_in_range := Cert.Pre_in_range.Gen.facts) := fun m g _ =>
  (θ_run _ _ _).mono (fun _ h => ⟨fun c => (h c).2.2.2, sem_eq_zero_of_no_sems rfl _⟩) (Cert.ReferenceIdeal.Value.run m g)

end Cert.Adj

end
-- ==== Proof.Results.lean ====
/-
  The three results: from the same arguments, and with the adjacency of the reference in the SparseCores' array, the host
  operations leave the reference's results.
-/
module

public import proofs.«01_k».proof.Proof.Agree
public import proofs.«01_k».proof.Proof.Frames

@[expose] public section

set_option maxRecDepth 8192

noncomputable section

namespace Cert.Adj

open Cert.Kernel Cert.Kernel.Gen
open Idealize.ShloMosaic Idealize.ShloMosaic.TcCoe Idealize.SL.Sem Idealize.ShloMosaic.StableHlo
open Cert.ReferenceIdeal.Value (res_main_v21 res_main_v25 res_main_v45 res_main_v52 res_main_v58 res_main_v65 res_main_v76 res_main_v79 res_main_v101
  res_main_v120 val3)

variable {F : FTy → Type} [FloatOps F]

/-- Operations that write no argument keep the arguments the same. -/
theorem SameArgs.step {V : Valuation τ sig (Elt F)} {V0 : Valuation Cert.ReferenceIdeal.τ Cert.ReferenceIdeal.sig (Elt F)} (h : SameArgs V V0)
    {ops : List (HloOp τ sig (Elt F))} {W : List (Ref sig .tc)} (hW : ops.Forall fun op => op.writes ⊆ (W.map (Proc.devRef (τ := τ) .tc)).toFinset)
    (hn : ∀ b ∈ argRefs, b ∉ W) : SameArgs (after ops V) V0 where
  a0 := (after_of_writes_sub ops V hW (hn main_arg0 (by decide))).trans h.a0
  a1 := (after_of_writes_sub ops V hW (hn main_arg1 (by decide))).trans h.a1
  a2 := (after_of_writes_sub ops V hW (hn main_arg2 (by decide))).trans h.a2
  a3 := (after_of_writes_sub ops V hW (hn main_arg3 (by decide))).trans h.a3
  a4 := (after_of_writes_sub ops V hW (hn main_arg4 (by decide))).trans h.a4
  a5 := (after_of_writes_sub ops V hW (hn main_arg5 (by decide))).trans h.a5
  a6 := (after_of_writes_sub ops V hW (hn main_arg6 (by decide))).trans h.a6
  a7 := (after_of_writes_sub ops V hW (hn main_arg7 (by decide))).trans h.a7
  a8 := (after_of_writes_sub ops V hW (hn main_arg8 (by decide))).trans h.a8
  a9 := (after_of_writes_sub ops V hW (hn main_arg9 (by decide))).trans h.a9
  a10 := (after_of_writes_sub ops V hW (hn main_arg10 (by decide))).trans h.a10
  a11 := (after_of_writes_sub ops V hW (hn main_arg11 (by decide))).trans h.a11
  a12 := (after_of_writes_sub ops V hW (hn main_arg12 (by decide))).trans h.a12
  a13 := (after_of_writes_sub ops V hW (hn main_arg13 (by decide))).trans h.a13
  a14 := (after_of_writes_sub ops V hW (hn main_arg14 (by decide))).trans h.a14
  a15 := (after_of_writes_sub ops V hW (hn main_arg15 (by decide))).trans h.a15
  a16 := (after_of_writes_sub ops V hW (hn main_arg16 (by decide))).trans h.a16

/-- The three results after all the operations. -/
theorem results (V : Valuation τ sig (Elt Ideal)) (V0 : Valuation Cert.ReferenceIdeal.τ Cert.ReferenceIdeal.sig (Elt Ideal)) (hs : SameArgs V V0)
    (ho : V (Proc.devRef .tc main_v0) = res_main_v21 V0) :
    after opsAll V (Proc.devRef .tc main_v144) = (val3 V0 (Proc.devRef .tc Cert.ReferenceIdeal.main_v139) : Vec Ideal S512 .f32)
      ∧ after opsAll V (Proc.devRef .tc main_v143) = (val3 V0 (Proc.devRef .tc Cert.ReferenceIdeal.main_v138) : Vec Ideal S1024x512 .f32)
      ∧ after opsAll V (Proc.devRef .tc main_v81) = (val3 V0 (Proc.devRef .tc Cert.ReferenceIdeal.main_v75) : Vec Ideal S1024x7168 .f32) := by
  simp only [opsAll, opsPart0, opsPart1, opsPart2, after_append]
  -- A
  have h22 := agreeA V V0 hs
  replace ho := (after_of_writes_sub opsA V opsA_writes (by decide)).trans ho
  replace hs := hs.step opsA_writes (by decide)
  generalize after opsA V = V at h22 ho hs ⊢
  -- B
  have h26 := agreeB V V0 hs h22
  replace ho := (after_of_writes_sub opsB V opsB_writes (by decide)).trans ho
  replace h22 := (after_of_writes_sub opsB V opsB_writes (by decide)).trans h22
  replace hs := hs.step opsB_writes (by decide)
  generalize after opsB V = V at h26 ho h22 hs ⊢
  -- C
  have h46 := agreeC V V0 hs h26
  replace ho := (after_of_writes_sub opsC V opsC_writes (by decide)).trans ho
  replace h22 := (after_of_writes_sub opsC V opsC_writes (by decide)).trans h22
  replace hs := hs.step opsC_writes (by decide)
  generalize after opsC V = V at h46 ho h22 hs ⊢
  have h53 := agreeD V V0 hs h46
  rw [after_append] at h53
  -- D0
  replace ho := (after_of_writes_sub opsD0 V opsD0_writes (by decide)).trans ho
  replace h22 := (after_of_writes_sub opsD0 V opsD0_writes (by decide)).trans h22
  replace hs := hs.step opsD0_writes (by decide)
  generalize after opsD0 V = V at h53 ho h22 hs ⊢
  -- D1
  replace ho := (after_of_writes_sub opsD1 V opsD1_writes (by decide)).trans ho
  replace h22 := (after_of_writes_sub opsD1 V opsD1_writes (by decide)).trans h22
  replace hs := hs.step opsD1_writes (by decide)
  generalize after opsD1 V = V at h53 ho h22 hs ⊢
  -- E
  have h59 := agreeE V V0 h53
  replace ho := (after_of_writes_sub opsE V opsE_writes (by decide)).trans ho
  replace h22 := (after_of_writes_sub opsE V opsE_writes (by decide)).trans h22
  replace hs := hs.step opsE_writes (by decide)
  generalize after opsE V = V at h59 ho h22 hs ⊢
  -- F
  have h66 := agreeF V V0 h59
  replace ho := (after_of_writes_sub opsF V opsF_writes (by decide)).trans ho
  replace h22 := (after_of_writes_sub opsF V opsF_writes (by decide)).trans h22
  replace hs := hs.step opsF_writes (by decide)
  generalize after opsF V = V at h66 ho h22 hs ⊢
  have h81 := agreeH V V0 h22 h66 ho
  rw [after_append] at h81
  have h77 := agreeG V V0 h22 h66
  -- G
  replace hs := hs.step opsG_writes (by decide)
  generalize after opsG V = V at h81 h77 hs ⊢
  -- H
  replace h77 := (after_of_writes_sub opsH V opsH_writes (by decide)).trans h77
  replace hs := hs.step opsH_writes (by decide)
  generalize after opsH V = V at h81 h77 hs ⊢
  -- I
  have h84 := agreeI V V0 hs h77
  replace h77 := (after_of_writes_sub opsI V opsI_writes (by decide)).trans h77
  replace h81 := (after_of_writes_sub opsI V opsI_writes (by decide)).trans h81
  replace hs := hs.step opsI_writes (by decide)
  generalize after opsI V = V at h84 h77 h81 hs ⊢
  have h106 := agreeJ V V0 hs h77 h84
  rw [after_append] at h106
  -- J0
  replace h81 := (after_of_writes_sub opsJ0 V opsJ0_writes (by decide)).trans h81
  replace hs := hs.step opsJ0_writes (by decide)
  generalize after opsJ0 V = V at h106 h81 hs ⊢
  -- J1
  replace h81 := (after_of_writes_sub opsJ1 V opsJ1_writes (by decide)).trans h81
  replace hs := hs.step opsJ1_writes (by decide)
  generalize after opsJ1 V = V at h106 h81 hs ⊢
  -- K
  have h125 := agreeK V V0 hs h106
  replace h81 := (after_of_writes_sub opsK V opsK_writes (by decide)).trans h81
  replace hs := hs.step opsK_writes (by decide)
  generalize after opsK V = V at h125 h81 hs ⊢
  -- L
  have h143 := agreeL V V0 hs h125
  replace h81 := (after_of_writes_sub opsL V opsL_writes (by decide)).trans h81
  generalize after opsL V = V at h143 h81 ⊢
  exact ⟨agreeM V V0 h143, (after_of_writes_sub opsM V opsM_writes (by decide)).trans h143, (after_of_writes_sub opsM V opsM_writes (by decide)).trans h81⟩

end Cert.Adj

end
-- ==== Proof.Sums.lean ====
/-
  The adjacency over the extended reals: each element is the sum of the weights of the edges at it.
-/
module

public import Idealize.ShloMosaic.PureOps.Ideal
public import Idealize.ShloMosaic.PureOps.Ideal.Laws
public import proofs.«01_k».proof.Proof.Range

@[expose] public section

noncomputable section

namespace Cert.Adj

open Cert.Kernel Cert.Kernel.Gen
open Idealize.ShloMosaic

/-! ## One group -/

/-- Steps that add, one after another, each at its own position where it is set. -/
theorem foldl_adds {ι : Type} (set : ι → Prop) [∀ k, Decidable (set k)] (q : ι → S114688.Idx) (w : ι → EReal) (p : Fin 114688) (l : List ι) :
    ∀ A : S114688.Idx → EReal,
      (l.foldl (fun g k => if set k then fun j => if (∀ a, (j a).val = (q k a).val) then g (q k) + w k else g j else g) A) (ix1 p)
      = A (ix1 p) + (l.map fun k => if set k ∧ (q k 0).val = p.val then w k else 0).sum := by
  induction l with
  | nil => intro A; simp
  | cons k l ih =>
    intro A
    rw [List.foldl_cons, ih, List.map_cons, List.sum_cons, ← add_assoc]
    congr 1
    by_cases hm : set k
    · rw [if_pos hm]
      by_cases hp : (q k 0).val = p.val
      · have hi : q k = ix1 p := by
          funext a
          match a with
          | 0 => exact Fin.ext hp
        rw [if_pos (c := set k ∧ _) ⟨hm, hp⟩, ← hi]
        exact if_pos fun a => by rw [hi]
      · rw [if_neg (c := set k ∧ _) fun h => hp h.2, add_zero]
        exact if_neg fun h => hp (h (0 : Fin 1)).symm
    · rw [if_neg hm, if_neg fun h => hm h.1, add_zero]

/-- An adding store at one position: the values of the set lanes that name it are added. -/
theorem storeIdx_at (A : S114688.Idx → EReal) (ix : IVec S16 32) (w : S16.Idx → EReal) (mask : IVec S16 1) (h : InRows ix) (p : Fin 114688) :
    storeIdx (F := Ideal) (s := S114688) (e := .f32) A ![ix] w mask true h (ix1 p)
      = A (ix1 p) + ∑ k : Fin 16, if mask (ix1 k) = 1#1 ∧ (ix (ix1 k)).toNat = p.val then w (ix1 k) else 0 := by
  have hk (k : Fin 16) : (ix1 k : S16.Idx) = Shape.ofLane k := by funext a; match a with | 0 => rfl
  simp only [hk]
  rw [Fin.sum_univ_def]
  unfold storeIdx
  simp only [Elt.idxAdd_f32, Ideal.idxAddf_def, if_true]
  exact foldl_adds (ι := Fin 16) (fun k => mask (Shape.ofLane k) = 1) (fun k => idxAt (s := S114688) ![ix] h (Shape.ofLane k))
    (fun k => w (Shape.ofLane k)) p (List.finRange 16) A

/-! ## All groups -/

variable {E : S2x32768.Idx → BitVec 32} {R : S32768.Idx → BitVec 32} (W : S32768.Idx → EReal)

/-- What edge `n` adds at flat position `p` of the sixteen rows from `v` on. -/
def adds (E : S2x32768.Idx → BitVec 32) (R : S32768.Idx → BitVec 32) (v : BitVec 32) (p n : ℕ) : EReal :=
  if (edgeRow E 0 n - v).toNat < 16 ∧ 7168 * (edgeRow E 0 n - v).toNat + (1024 * (edgeVal R n).toNat + (edgeRow E 1 n).toNat) = p then edgeVal W n else 0

/-- The sixteen rows after `g` groups: what the first `16 g` edges add. -/
theorem rowsAfter_at (hE : InRange E R) (v : BitVec 32) (p : Fin 114688) :
    ∀ g : ℕ, rowsAfter (F := Ideal) E R W v g (ix1 p) = ∑ n ∈ Finset.range (16 * g), adds W E R v p.val n
  | 0 => by
    show Scalar.ofBits (F := Ideal) .f32 0x00000000#32 = _
    simp
  | g + 1 => by
    show addGroup (F := Ideal) v _ _ _ _ (rowsAfter E R W v g) (ix1 p) = _
    unfold addGroup
    rw [dif_pos (hE.inRows v (16 * g)), storeIdx_at]
    rw [rowsAfter_at hE v p g, Nat.mul_succ, Finset.sum_range_add, Finset.sum_range (fun x => adds W E R v p.val (16 * g + x))]
    refine congrArg _ (Finset.sum_congr rfl fun k _ => ?_)
    have hk : ∀ {α : Type} (f : ℕ → α), lanes f (16 * g) (ix1 k) = f (16 * g + k.val) := fun _ => rfl
    unfold adds
    by_cases hm : (edgeRow E 0 (16 * g + k.val) - v).toNat < 16
    · rw [grpIdx_on v _ _ _ (ix1 k) hm (hE.edgeRow 1 _) (hE.edgeVal _)]
      simp only [grpMask_apply, hk]
    · rw [if_neg fun q => hm ((grpMask_apply v _ _).1 q.1), if_neg fun q => hm q.1]

/-- What edge `n` adds at row `r` and column `c`. -/
def edgeAt (E : S2x32768.Idx → BitVec 32) (R : S32768.Idx → BitVec 32) (r c n : ℕ) : EReal :=
  if (edgeRow E 0 n).toNat = r ∧ 1024 * (edgeVal R n).toNat + (edgeRow E 1 n).toNat = c then edgeVal W n else 0

/-- Every element of the adjacency is the sum of what the edges add there. -/
theorem adj_at (hE : InRange E R) (r : Fin 1024) (c : Fin 7168) :
    adj (F := Ideal) E R W (ix2 r c) = ∑ n ∈ Finset.range 32768, edgeAt W E R r.val c.val n := by
  have hr := r.isLt
  have hc := c.isLt
  have hp : 7168 * (r.val % 16) + c.val < 114688 := by omega
  have hf : flat (7168 * (r.val % 16) + c.val) = ix1 ⟨7168 * (r.val % 16) + c.val, hp⟩ := by
    unfold flat
    congr 1
    exact Fin.ext (Nat.mod_eq_of_lt hp)
  show rowsAfter (F := Ideal) E R W (BitVec.ofNat 32 (16 * (r.val / 16))) 2048 (flat (7168 * (r.val % 16) + c.val)) = _
  rw [hf, rowsAfter_at W hE]
  refine Finset.sum_congr rfl fun n _ => ?_
  unfold adds edgeAt
  have h0 := hE.edgeRow 0 n
  have h1 := hE.edgeRow 1 n
  have h2 := hE.edgeVal n
  have hv : (BitVec.ofNat 32 (16 * (r.val / 16))).toNat = 16 * (r.val / 16) := by
    rw [BitVec.toNat_ofNat]; omega
  have hs : (edgeRow E 0 n - BitVec.ofNat 32 (16 * (r.val / 16))).toNat = (2 ^ 32 - 16 * (r.val / 16) + (edgeRow E 0 n).toNat) % 2 ^ 32 := by
    rw [BitVec.toNat_sub, hv]
  rw [hs]
  refine if_congr ?_ rfl rfl
  show _ ∧ _ = 7168 * (r.val % 16) + c.val ↔ _
  constructor
  · rintro ⟨q1, q2⟩; omega
  · rintro ⟨q1, q2⟩; omega

end Cert.Adj

end
-- ==== Proof.Dense.lean ====
/-
  The reference's adjacency over the extended reals, and that the SparseCores' is the same.
-/
module

public import proofs.«01_k».proof.Proof.Sums
public import proofs.«01_k».proof.Proof.Gen.ReferenceIdeal.Run
public import Idealize.ShloMosaic.Lib.Pointwise
public import Idealize.ShloMosaic.Lib.Routing.OpsPair

@[expose] public section

set_option maxRecDepth 8192

noncomputable section

namespace Cert.Adj

open Idealize.ShloMosaic Idealize.ShloMosaic.TcCoe
open Cert.ReferenceIdeal Cert.ReferenceIdeal.Gen
open Cert.ReferenceIdeal.Value (res_main_v1 res_main_v6 res_main_v21)

variable (V0 : Valuation τ sig (Elt Ideal))

/-- The reference's edges. -/
abbrev refE : S2x32768.Idx → BitVec 32 := V0 (Proc.devRef .tc main_arg1)
/-- The reference's relations. -/
abbrev refR : S32768.Idx → BitVec 32 := V0 (Proc.devRef .tc main_arg2)
/-- The reference's weights. -/
abbrev refW : S32768.Idx → EReal := V0 (Proc.devRef .tc main_arg3)

/-- The row of an edge. -/
theorem row_at (e : Fin 32768) : (res_main_v1 V0 : IVec S32768 32) (ix1 e) = refE V0 (ix2 (0 : Fin 2) e) := by
  unfold res_main_v1
  pointwise

/-- The column of an edge. -/
theorem col_at (e : Fin 32768) : (res_main_v6 V0 : IVec S32768 32) (ix1 e) = refR V0 (ix1 e) * 1024#32 + refE V0 (ix2 (1 : Fin 2) e) := by
  unfold res_main_v6
  pointwise
  rfl

/-- The row and the column of an edge, negative ones counted from the end. -/
def places : IVec S32768x2 32 :=
  concatenate S32768x2 1 [⟨S32768x1, (broadcastInDim S32768x1 ![0] bcast_S32768_S32768x1_0 (select (cmpi .slt (res_main_v1 V0) (broadcastInDim S32768 ![] bcast_S_S32768 (constantI S_ 32 0#32))) (addi (res_main_v1 V0) (broadcastInDim S32768 ![] bcast_S_S32768 (constantI S_ 32 1024#32))) (res_main_v1 V0)))⟩, ⟨S32768x1, (broadcastInDim S32768x1 ![0] bcast_S32768_S32768x1_0 (select (cmpi .slt (res_main_v6 V0) (broadcastInDim S32768 ![] bcast_S_S32768 (constantI S_ 32 0#32))) (addi (res_main_v6 V0) (broadcastInDim S32768 ![] bcast_S_S32768 (constantI S_ 32 7168#32))) (res_main_v6 V0)))⟩] concatenates_S32768x1_S32768x1_S32768x2_d1

/-- No row is negative: the place's row is the edge's. -/
theorem places_row (h : InRange (refE V0) (refR V0)) (e : Fin 32768) : places V0 (ix2 e (0 : Fin 2)) = refE V0 (ix2 (0 : Fin 2) e) := by
  have hn := h.node (ix2 (0 : Fin 2) e)
  unfold places
  pointwise
  rw [row_at]
  exact Routing.wrap_of_lt _ _ (by omega)

/-- No column is negative: the place's column is the edge's. -/
theorem places_col (h : InRange (refE V0) (refR V0)) (e : Fin 32768) :
    places V0 (ix2 e (1 : Fin 2)) = refR V0 (ix1 e) * 1024#32 + refE V0 (ix2 (1 : Fin 2) e) := by
  have hn := h.node (ix2 (1 : Fin 2) e)
  have hr := h.rel (ix1 e)
  unfold places
  pointwise
  rw [col_at]
  refine Routing.wrap_of_lt _ _ ?_
  rw [BitVec.toNat_add, BitVec.toNat_mul]
  simp only [BitVec.reduceToNat]
  omega

/-- The dimension numbers of the reference's scatter. -/
abbrev sdims : ScatterDims S1024x7168 S32768x2 S32768 := scatter_S1024x7168_S32768x2_S32768_n_01_01_1

/-- An update starts at its pair of words, read signed. -/
theorem start_at (idx : IVec S32768x2 32) (e : Fin 32768) (q : Fin 2) : sdims.start (ix1 e) idx q = (idx (ix2 e q)).toInt := by
  unfold ScatterDims.start
  have hq : q ∈ sdims.scatterDimsToOperandDims := by
    show q ∈ ([0, 1] : List (Fin 2))
    revert q; decide
  rw [dif_pos hq]
  congr 2
  funext b
  match b with
  | ⟨0, _⟩ => rfl
  | ⟨1, _⟩ =>
    refine Fin.ext ?_
    show ([0, 1] : List (Fin 2)).idxOf q = q.val
    revert q; decide

/-- An update is one element. -/
theorem window_at (e : Fin 32768) (q : Fin 2) : sdims.window (ix1 e) q = 0 := by
  unfold ScatterDims.window
  refine dif_neg ?_
  show ¬ q ∈ (List.finRange 2).filter _
  revert q; decide

/-- The reference's adjacency: each element is the sum of what the edges add there. -/
theorem ref_at (h : InRange (refE V0) (refR V0)) (r : Fin 1024) (c : Fin 7168) :
    (res_main_v21 V0 : S1024x7168.Idx → EReal) (ix2 r c) = ∑ n ∈ Finset.range 32768, edgeAt (refW V0) (refE V0) (refR V0) r.val c.val n := by
  show Ideal.hostScatterAdd sdims _ (places V0) (refW V0) (ix2 r c) = _
  unfold Ideal.hostScatterAdd
  have h0 : (broadcastInDim S1024x7168 ![] bcast_S_S1024x7168 (constant (F := Ideal) S_ .f32 0x00000000#32) : S1024x7168.Idx → EReal) (ix2 r c) = 0 := by
    pointwise
  rw [Finset.sum_filter, sum_idx1, Finset.sum_range]
  refine (congrArg (· + _) h0).trans ((zero_add _).trans (Finset.sum_congr rfl fun e _ => ?_))
  have hm : e.val % 32768 = e.val := Nat.mod_eq_of_lt e.isLt
  have er (j : Fin 2) : edgeRow (refE V0) j e.val = refE V0 (ix2 j e) := congrArg (fun x => refE V0 (ix2 j x)) (Fin.ext hm)
  have ev {α : Type} (f : S32768.Idx → α) : edgeVal f e.val = f (ix1 e) := congrArg (fun x => f (ix1 x)) (Fin.ext hm)
  unfold edgeAt
  rw [er, er, ev, ev]
  refine if_congr ?_ rfl rfl
  refine (Routing.resultIdx?_ix2 (R := 1024) (C := 7168) sdims (ix1 e) (places V0) r c).trans ?_
  rw [start_at, start_at, window_at, window_at, places_row V0 h, places_col V0 h]
  have hn0 := h.node (ix2 (0 : Fin 2) e)
  have hn1 := h.node (ix2 (1 : Fin 2) e)
  have hr := h.rel (ix1 e)
  have hc : (refR V0 (ix1 e) * 1024#32 + refE V0 (ix2 (1 : Fin 2) e)).toNat = 1024 * (refR V0 (ix1 e)).toNat + (refE V0 (ix2 (1 : Fin 2) e)).toNat := by
    rw [BitVec.toNat_add, BitVec.toNat_mul]
    simp only [BitVec.reduceToNat]
    omega
  rw [BitVec.toInt_eq_toNat_of_lt (by omega), BitVec.toInt_eq_toNat_of_lt (by omega), hc]
  omega

/-- The SparseCores' adjacency is the reference's. -/
theorem adj_eq (h : InRange (refE V0) (refR V0)) : adj (F := Ideal) (refE V0) (refR V0) (refW V0) = res_main_v21 V0 := by
  funext x
  have hx : x = ix2 (x 0) (x 1) := by
    funext a
    match a with
    | ⟨0, _⟩ => rfl
    | ⟨1, _⟩ => rfl
  rw [hx]
  exact (adj_at (refW V0) h (x 0) (x 1)).trans (ref_at V0 h (x 0) (x 1)).symm

end Cert.Adj

end
-- ==== Proof.Algebraic.lean ====
/-
  The algebraic claim: over the extended reals the kernel and the reference end with the same three results.
-/
module

public import proofs.«01_k».proof.Proof.Results
public import proofs.«01_k».proof.Proof.Dense

@[expose] public section

set_option maxRecDepth 8192

noncomputable section

namespace Cert.Adj

open Cert.Kernel Cert.Kernel.Gen
open Idealize.ShloMosaic Idealize.ShloMosaic.TcCoe Idealize.SL.Sem Idealize.ShloMosaic.StableHlo
open Cert.ReferenceIdeal.Value (res_main_v21 val3 val3_main_v75 val3_main_v138 val3_main_v139)

/-- The kernel's arguments at the start of a run. -/
abbrev At (m : (ℓ : Loc nD τ sig) → Buf (Elt Ideal) ℓ) (c : Dev nD) (b : Ref sig .tc) : Buf (Elt Ideal) ((c.tc : Thread nD τ).loc b) :=
  m ((c.tc : Thread nD τ).loc b)
/-- The reference's arguments at the start of a run. -/
abbrev RefAt (m' : (ℓ : Loc Cert.ReferenceIdeal.nD Cert.ReferenceIdeal.τ Cert.ReferenceIdeal.sig) → Buf (Elt Ideal) ℓ) (c : Dev nD) (b : Ref Cert.ReferenceIdeal.sig .tc) :
    Buf (Elt Ideal) ((c.tc : Thread Cert.ReferenceIdeal.nD Cert.ReferenceIdeal.τ).loc b) :=
  m' ((c.tc : Thread Cert.ReferenceIdeal.nD Cert.ReferenceIdeal.τ).loc b)

/-- The launch with the adjacency written has the reference's arguments, if the two runs start with the same. -/
theorem sameArgs_start {m : (ℓ : Loc nD τ sig) → Buf (Elt Ideal) ℓ} {m' : (ℓ : Loc Cert.ReferenceIdeal.nD Cert.ReferenceIdeal.τ Cert.ReferenceIdeal.sig) → Buf (Elt Ideal) ℓ}
    (c : Dev nD)
    (e0 : @Eq (Vec Ideal S1024x512 .f32) (RefAt m' c Cert.ReferenceIdeal.main_arg0) (At m c main_arg0))
    (e1 : @Eq (Vec Ideal S2x32768 .i32) (RefAt m' c Cert.ReferenceIdeal.main_arg1) (At m c main_arg1))
    (e2 : @Eq (Vec Ideal S32768 .i32) (RefAt m' c Cert.ReferenceIdeal.main_arg2) (At m c main_arg2))
    (e3 : @Eq (Vec Ideal S32768 .f32) (RefAt m' c Cert.ReferenceIdeal.main_arg3) (At m c main_arg3))
    (e4 : @Eq (Vec Ideal S7x512x512 .f32) (RefAt m' c Cert.ReferenceIdeal.main_arg4) (At m c main_arg4))
    (e5 : @Eq (Vec Ideal S512 .f32) (RefAt m' c Cert.ReferenceIdeal.main_arg5) (At m c main_arg5))
    (e6 : @Eq (Vec Ideal S512 .f32) (RefAt m' c Cert.ReferenceIdeal.main_arg6) (At m c main_arg6))
    (e7 : @Eq (Vec Ideal S2x512x512 .f32) (RefAt m' c Cert.ReferenceIdeal.main_arg7) (At m c main_arg7))
    (e8 : @Eq (Vec Ideal S2x512x512 .f32) (RefAt m' c Cert.ReferenceIdeal.main_arg8) (At m c main_arg8))
    (e9 : @Eq (Vec Ideal S3584x512 .f32) (RefAt m' c Cert.ReferenceIdeal.main_arg9) (At m c main_arg9))
    (e10 : @Eq (Vec Ideal S512 .f32) (RefAt m' c Cert.ReferenceIdeal.main_arg10) (At m c main_arg10))
    (e11 : @Eq (Vec Ideal S512 .f32) (RefAt m' c Cert.ReferenceIdeal.main_arg11) (At m c main_arg11))
    (e12 : @Eq (Vec Ideal S3584x512 .f32) (RefAt m' c Cert.ReferenceIdeal.main_arg12) (At m c main_arg12))
    (e13 : @Eq (Vec Ideal S512 .f32) (RefAt m' c Cert.ReferenceIdeal.main_arg13) (At m c main_arg13))
    (e14 : @Eq (Vec Ideal S512 .f32) (RefAt m' c Cert.ReferenceIdeal.main_arg14) (At m c main_arg14))
    (e15 : @Eq (Vec Ideal S512 .f32) (RefAt m' c Cert.ReferenceIdeal.main_arg15) (At m c main_arg15))
    (e16 : @Eq (Vec Ideal S512 .f32) (RefAt m' c Cert.ReferenceIdeal.main_arg16) (At m c main_arg16)) :
    SameArgs (V1 m c) (launchContents m' c) where
  a0 := (V1_ne m c (args_kept main_arg0 (by decide)).2.2).trans e0.symm
  a1 := (V1_ne m c (args_kept main_arg1 (by decide)).2.2).trans e1.symm
  a2 := (V1_ne m c (args_kept main_arg2 (by decide)).2.2).trans e2.symm
  a3 := (V1_ne m c (args_kept main_arg3 (by decide)).2.2).trans e3.symm
  a4 := (V1_ne m c (args_kept main_arg4 (by decide)).2.2).trans e4.symm
  a5 := (V1_ne m c (args_kept main_arg5 (by decide)).2.2).trans e5.symm
  a6 := (V1_ne m c (args_kept main_arg6 (by decide)).2.2).trans e6.symm
  a7 := (V1_ne m c (args_kept main_arg7 (by decide)).2.2).trans e7.symm
  a8 := (V1_ne m c (args_kept main_arg8 (by decide)).2.2).trans e8.symm
  a9 := (V1_ne m c (args_kept main_arg9 (by decide)).2.2).trans e9.symm
  a10 := (V1_ne m c (args_kept main_arg10 (by decide)).2.2).trans e10.symm
  a11 := (V1_ne m c (args_kept main_arg11 (by decide)).2.2).trans e11.symm
  a12 := (V1_ne m c (args_kept main_arg12 (by decide)).2.2).trans e12.symm
  a13 := (V1_ne m c (args_kept main_arg13 (by decide)).2.2).trans e13.symm
  a14 := (V1_ne m c (args_kept main_arg14 (by decide)).2.2).trans e14.symm
  a15 := (V1_ne m c (args_kept main_arg15 (by decide)).2.2).trans e15.symm
  a16 := (V1_ne m c (args_kept main_arg16 (by decide)).2.2).trans e16.symm

/-- The SparseCores' array is the reference's adjacency. -/
theorem out_start {m : (ℓ : Loc nD τ sig) → Buf (Elt Ideal) ℓ} (V0 : Valuation Cert.ReferenceIdeal.τ Cert.ReferenceIdeal.sig (Elt Ideal)) (c : Dev nD)
    (hs : SameArgs (V1 m c) V0) (h : InRange (m (eLoc c)) (m (rLoc c))) : V1 m c (Proc.devRef .tc main_v0) = res_main_v21 V0 := by
  have eE : (m (eLoc c) : S2x32768.Idx → BitVec 32) = refE V0 := (V1_ne m c (args_kept main_arg1 (by decide)).2.2).symm.trans hs.a1
  have eR : (m (rLoc c) : S32768.Idx → BitVec 32) = refR V0 := (V1_ne m c (args_kept main_arg2 (by decide)).2.2).symm.trans hs.a2
  have eW : (m (wLoc c) : S32768.Idx → EReal) = refW V0 := (V1_ne m c (args_kept main_arg3 (by decide)).2.2).symm.trans hs.a3
  have h' : InRange (refE V0) (refR V0) := eE ▸ eR ▸ h
  refine (V1_o m c).trans (Eq.trans ?_ (adj_eq V0 h'))
  rw [← eE, ← eR, ← eW]

/-- Over the extended reals, from the same arguments in range, the kernel's and the reference's runs end with the same three
    results and the arguments as they were. -/
theorem algebraic : Cert.algebraic_KernelIdeal_ReferenceIdeal (hKernelIdeal := Cert.KernelIdeal.Gen.facts) (hReferenceIdeal := Cert.ReferenceIdeal.Gen.facts)
    (hPre_in_range := Cert.Pre_in_range.Gen.facts) := by
  intro m g m' g' hp he
  have hr (c : Dev nD) := results (V1 (F := Ideal) m c) (launchContents m' c)
  have hs (c : Dev nD) : SameArgs (V1 (F := Ideal) m c) (launchContents m' c) := by
    obtain ⟨e0, e1, e2, e3, e4, e5, e6, e7, e8, e9, e10, e11, e12, e13, e14, e15, e16⟩ := he c
    exact sameArgs_start c e0 e1 e2 e3 e4 e5 e6 e7 e8 e9 e10 e11 e12 e13 e14 e15 e16
  have hv (c : Dev nD) := hr c (hs c) (out_start _ c (hs c) (inRange_ideal hp c))
  refine ⟨fun c => (val3 (launchContents m' c) (Proc.devRef .tc Cert.ReferenceIdeal.main_v139) : Vec Ideal S512 .f32),
    fun c => (val3 (launchContents m' c) (Proc.devRef .tc Cert.ReferenceIdeal.main_v138) : Vec Ideal S1024x512 .f32),
    fun c => (val3 (launchContents m' c) (Proc.devRef .tc Cert.ReferenceIdeal.main_v75) : Vec Ideal S1024x7168 .f32), ?_, ?_⟩
  · refine (θ_run _ _ _).mono (fun _ h c => ⟨?_, ?_, ?_, ?_⟩) (run_KernelIdeal m g hp)
    · exact (h.1 c _ (mem_ucRefs main_v144 (by decide))).trans (hv c).1
    · exact (h.1 c _ (mem_ucRefs main_v143 (by decide))).trans (hv c).2.1
    · exact (h.1 c _ (mem_ucRefs main_v81 (by decide))).trans (hv c).2.2
    · refine ⟨?_, ?_, ?_, ?_, ?_, ?_, ?_, ?_, ?_, ?_, ?_, ?_, ?_, ?_, ?_, ?_, ?_⟩ <;> exact arg_of_run (F := Ideal) h c (by decide)
  · exact (θ_run _ _ _).mono (fun _ h c => ⟨(h c).1.trans (val3_main_v139 _).symm, (h c).2.1.trans (val3_main_v138 _).symm,
      (h c).2.2.1.trans (val3_main_v75 _).symm, (h c).2.2.2⟩) (Cert.ReferenceIdeal.Value.run m' g')

end Cert.Adj

end
-- ==== Proof.lean ====
module

public import proofs.«01_k».proof.Defs
public import proofs.«01_k».proof.Proof.Algebraic
public import proofs.«01_k».proof.Proof.Frames

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_in_range.Gen.facts,
    Cert.Adj.frame_Kernel, Cert.Adj.frame_KernelIdeal, Cert.Adj.frame_ReferenceIdeal, trivial, Cert.Adj.algebraic⟩

end Cert.Proof

end
